-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v98_0)) (v1 : (c : Dev Cert.KernelIdeal.nD) → Buf (Elt Ideal) ((c.tc : Thread Cert.KernelIdeal.nD Cert.KernelIdeal.τ).loc Cert.KernelIdeal.main_v98_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98_0) = v0 c
          ∧ r.2.mem ((c.tc : Thread Cert.KernelIdeal.nD Cert.KernelIdeal.τ).loc Cert.KernelIdeal.main_v98_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v118_3)) (v1 : (c : Dev Cert.Kernel2Ideal.nD) → Buf (Elt Ideal) ((c.tc : Thread Cert.Kernel2Ideal.nD Cert.Kernel2Ideal.τ).loc Cert.Kernel2Ideal.main_v118_4)) (v2 : (c : Dev Cert.Kernel2Ideal.nD) → Buf (Elt Ideal) ((c.tc : Thread Cert.Kernel2Ideal.nD Cert.Kernel2Ideal.τ).loc Cert.Kernel2Ideal.main_v118_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v118_3) = v0 c
          ∧ r.2.mem ((c.tc : Thread Cert.Kernel2Ideal.nD Cert.Kernel2Ideal.τ).loc Cert.Kernel2Ideal.main_v118_4) = v1 c
          ∧ r.2.mem ((c.tc : Thread Cert.Kernel2Ideal.nD Cert.Kernel2Ideal.τ).loc Cert.Kernel2Ideal.main_v118_6) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x1024 : Shape := ⟨3, ![16, 2048, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S64x96x2176 : Shape := ⟨3, ![64, 96, 2176]⟩
abbrev S128x4x8x64 : Shape := ⟨4, ![128, 4, 8, 64]⟩
abbrev S1x128x2048x8x64 : Shape := ⟨5, ![1, 128, 2048, 8, 64]⟩
abbrev S1x512 : Shape := ⟨2, ![1, 512]⟩
abbrev S128x2048x8x64 : Shape := ⟨4, ![128, 2048, 8, 64]⟩
abbrev S128x2056x8x64 : Shape := ⟨4, ![128, 2056, 8, 64]⟩
abbrev S_ : Shape := ⟨0, ![]⟩

class Facts : Prop where
  shapeCasts_S1x128x2048x8x64_S128x2048x8x64 : S1x128x2048x8x64.ShapeCasts S128x2048x8x64
  concatenates_S128x2048x8x64_S128x4x8x64_S128x4x8x64_S128x2056x8x64_d1 : Shape.Concatenates [S128x2048x8x64, S128x4x8x64, S128x4x8x64] S128x2056x8x64 1
  bcast_S_S128x2056x8x64 : S_.BroadcastsInDim S128x2056x8x64 (![] : Fin 0 → Fin S128x2056x8x64.rank)

variable [Facts]

def fn {F : FTy → Type} [FloatOps F] (main_arg0 : FVec F S16x2048x1024 .f32) (main_arg1 : FVec F S32768x512 .bf16) (main_arg2 : FVec F S32768x512 .bf16) (main_arg3 : FVec F S1x1024x1024 .f32) (main_arg4 : FVec F S1x1024 .f32) (main_arg5 : FVec F S1x1024 .f32) (main_arg6 : FVec F S1x1024x4096 .f32) (main_arg7 : FVec F S1x4096x1024 .f32) (main_arg8 : FVec F S1x1024 .f32) (main_arg9 : FVec F S64x96x2176 .bf16) (main_arg10 : FVec F S128x4x8x64 .f32) (main_arg11 : FVec F S128x4x8x64 .f32) (main_arg12 : FVec F S128x4x8x64 .f32) (main_arg13 : FVec F S1x128x2048x8x64 .f32) (main_arg14 : FVec F S1x128x2048x8x64 .f32) (main_arg15 : FVec F S1x512 .f32) : IVec S128x2056x8x64 1 :=
  let main_v0 : FVec F S128x2048x8x64 .f32 := shapeCast S128x2048x8x64 main_arg13 shapeCasts_S1x128x2048x8x64_S128x2048x8x64
  let main_v1 : FVec F S128x2056x8x64 .f32 := concatenate S128x2056x8x64 1 [⟨S128x2048x8x64, main_v0⟩, ⟨S128x4x8x64, main_arg10⟩, ⟨S128x4x8x64, main_arg11⟩] concatenates_S128x2048x8x64_S128x4x8x64_S128x4x8x64_S128x2056x8x64_d1
  let main_v2 : FVec F S128x2056x8x64 .f32 := Host.absf main_v1
  let main_cst : FVec F S_ .f32 := constant S_ .f32 0x7F800000#32
  let main_v3 : FVec F S128x2056x8x64 .f32 := broadcastInDim S128x2056x8x64 ![] bcast_S_S128x2056x8x64 main_cst
  let main_v4 : IVec S128x2056x8x64 1 := cmpf .olt main_v2 main_v3
  main_v4
-- ==== Kernel.lean ====
abbrev S16x2048x1024 : Shape := ⟨3, ![16, 2048, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S64x96x2176 : Shape := ⟨3, ![64, 96, 2176]⟩
abbrev S128x4x8x64 : Shape := ⟨4, ![128, 4, 8, 64]⟩
abbrev S1x128x2048x8x64 : Shape := ⟨5, ![1, 128, 2048, 8, 64]⟩
abbrev S1x512 : Shape := ⟨2, ![1, 512]⟩
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x128x8x64 : Shape := ⟨4, ![4, 128, 8, 64]⟩
abbrev S4x128x1x512 : Shape := ⟨4, ![4, 128, 1, 512]⟩
abbrev S_ : Shape := ⟨0, ![]⟩
abbrev S128x2048x8x64 : Shape := ⟨4, ![128, 2048, 8, 64]⟩
abbrev S512 : Shape := ⟨1, ![512]⟩
abbrev S2048 : Shape := ⟨1, ![2048]⟩
abbrev S4 : Shape := ⟨1, ![4]⟩
abbrev S124 : Shape := ⟨1, ![124]⟩
abbrev S2176 : Shape := ⟨1, ![2176]⟩
abbrev S4x1 : Shape := ⟨2, ![4, 1]⟩
abbrev S1x2176 : Shape := ⟨2, ![1, 2176]⟩
abbrev S4x2176 : Shape := ⟨2, ![4, 2176]⟩
abbrev S1x4x2176 : Shape := ⟨3, ![1, 4, 2176]⟩
abbrev S3x4x2176 : Shape := ⟨3, ![3, 4, 2176]⟩
abbrev S3x4x1x2176 : Shape := ⟨4, ![3, 4, 1, 2176]⟩
abbrev S3x4x8x2176 : Shape := ⟨4, ![3, 4, 8, 2176]⟩
abbrev S96x2176 : Shape := ⟨2, ![96, 2176]⟩
abbrev S128x8x64x2048 : Shape := ⟨4, ![128, 8, 64, 2048]⟩
abbrev S512x1024 : Shape := ⟨2, ![512, 1024]⟩
abbrev S512x512 : Shape := ⟨2, ![512, 512]⟩
abbrev S1x96x2176 : Shape := ⟨3, ![1, 96, 2176]⟩
abbrev S4x2x1x512 : Shape := ⟨4, ![4, 2, 1, 512]⟩
abbrev S2x8x64x2048 : Shape := ⟨4, ![2, 8, 64, 2048]⟩
abbrev S4x1x1x512 : Shape := ⟨4, ![4, 1, 1, 512]⟩
abbrev S1x8x64x2048 : Shape := ⟨4, ![1, 8, 64, 2048]⟩
abbrev S4x512 : Shape := ⟨2, ![4, 512]⟩
abbrev S8x64x2048 : Shape := ⟨3, ![8, 64, 2048]⟩
abbrev S8x512 : Shape := ⟨2, ![8, 512]⟩
abbrev S124x512 : Shape := ⟨2, ![124, 512]⟩
abbrev S96x512 : Shape := ⟨2, ![96, 512]⟩
abbrev S512x2048 : Shape := ⟨2, ![512, 2048]⟩
abbrev S128x512 : Shape := ⟨2, ![128, 512]⟩
abbrev S96x2048 : Shape := ⟨2, ![96, 2048]⟩
abbrev S96x128 : Shape := ⟨2, ![96, 128]⟩
abbrev S96 : Shape := ⟨1, ![96]⟩
abbrev S96x1 : Shape := ⟨2, ![96, 1]⟩
abbrev S32x1 : Shape := ⟨2, ![32, 1]⟩
abbrev S1 : Shape := ⟨1, ![1]⟩
abbrev S1x1 : Shape := ⟨2, ![1, 1]⟩
abbrev S1x1x1x512 : Shape := ⟨4, ![1, 1, 1, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 209
  | .vmem => 30
  | .smem => 0
  | _ => 0

abbrev hbmTy0_0 (i : Nat) : BufTy := match i % 128 with
  | 0 => ⟨S16x2048x1024, .f32⟩
  | 1 => ⟨S32768x512, .bf16⟩
  | 2 => ⟨S32768x512, .bf16⟩
  | 3 => ⟨S1x1024x1024, .f32⟩
  | 4 => ⟨S1x1024, .f32⟩
  | 5 => ⟨S1x1024, .f32⟩
  | 6 => ⟨S1x1024x4096, .f32⟩
  | 7 => ⟨S1x4096x1024, .f32⟩
  | 8 => ⟨S1x1024, .f32⟩
  | 9 => ⟨S64x96x2176, .bf16⟩
  | 10 => ⟨S128x4x8x64, .f32⟩
  | 11 => ⟨S128x4x8x64, .f32⟩
  | 12 => ⟨S128x4x8x64, .f32⟩
  | 13 => ⟨S1x128x2048x8x64, .f32⟩
  | 14 => ⟨S1x128x2048x8x64, .f32⟩
  | 15 => ⟨S1x512, .f32⟩
  | 16 => ⟨S32768x1024, .f32⟩
  | 17 => ⟨S1024x1024, .f32⟩
  | 18 => ⟨S1024x1024, .bf16⟩
  | 19 => ⟨S1024, .f32⟩
  | 20 => ⟨S1x1024, .f32⟩
  | 21 => ⟨S1024, .f32⟩
  | 22 => ⟨S1x1024, .f32⟩
  | 23 => ⟨S1024x4096, .f32⟩
  | 24 => ⟨S1024x4096, .bf16⟩
  | 25 => ⟨S4096x1024, .f32⟩
  | 26 => ⟨S4096x1024, .bf16⟩
  | 27 => ⟨S1024, .f32⟩
  | 28 => ⟨S1x1024, .f32⟩
  | 29 => ⟨S4x128x8x64, .f32⟩
  | 30 => ⟨S4x128x1x512, .f32⟩
  | 31 => ⟨S_, .f32⟩
  | 32 => ⟨S4x128x1x512, .f32⟩
  | 33 => ⟨S4x128x1x512, .f32⟩
  | 34 => ⟨S4x128x8x64, .f32⟩
  | 35 => ⟨S4x128x1x512, .f32⟩
  | 36 => ⟨S4x128x8x64, .f32⟩
  | 37 => ⟨S4x128x1x512, .f32⟩
  | 38 => ⟨S128x2048x8x64, .f32⟩
  | 39 => ⟨S128x2048x8x64, .f32⟩
  | 40 => ⟨S512, .f32⟩
  | 41 => ⟨S1x512, .f32⟩
  | 42 => ⟨S2048, .i32⟩
  | 43 => ⟨S_, .i32⟩
  | 44 => ⟨S2048, .i32⟩
  | 45 => ⟨S2048, .i32⟩
  | 46 => ⟨S4, .i32⟩
  | 47 => ⟨S_, .i32⟩
  | 48 => ⟨S124, .i32⟩
  | 49 => ⟨S124, .i32⟩
  | 50 => ⟨S2176, .i32⟩
  | 51 => ⟨S4, .i32⟩
  | 52 => ⟨S4x1, .i32⟩
  | 53 => ⟨S1x2176, .i32⟩
  | 54 => ⟨S4x2176, .i32⟩
  | 55 => ⟨S4x2176, .i32⟩
  | 56 => ⟨S4x2176, .i32⟩
  | 57 => ⟨S_, .i32⟩
  | 58 => ⟨S4x2176, .i32⟩
  | 59 => ⟨S4x2176, .i1⟩
  | 60 => ⟨S_, .i32⟩
  | 61 => ⟨S4x2176, .i32⟩
  | 62 => ⟨S4x2176, .i1⟩
  | 63 => ⟨S4x2176, .i1⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S4x2176, .i32⟩
  | 71 => ⟨S4x2176, .i32⟩
  | 72 => ⟨S_, .i32⟩
  | 73 => ⟨S4x2176, .i32⟩
  | 74 => ⟨S4x2176, .i1⟩
  | 75 => ⟨S_, .i32⟩
  | 76 => ⟨S4x2176, .i32⟩
  | 77 => ⟨S4x2176, .i1⟩
  | 78 => ⟨S_, .i32⟩
  | 79 => ⟨S_, .i1⟩
  | 80 => ⟨S4x2176, .i1⟩
  | 81 => ⟨S4x2176, .i1⟩
  | 82 => ⟨S4x2176, .i1⟩
  | 83 => ⟨S4x2176, .i32⟩
  | 84 => ⟨S4x2176, .i32⟩
  | 85 => ⟨S4x2176, .i32⟩
  | 86 => ⟨S_, .i32⟩
  | 87 => ⟨S4x2176, .i32⟩
  | 88 => ⟨S4x2176, .i1⟩
  | 89 => ⟨S4x2176, .i1⟩
  | 90 => ⟨S_, .i32⟩
  | 91 => ⟨S2176, .i32⟩
  | 92 => ⟨S2176, .i32⟩
  | 93 => ⟨S_, .i32⟩
  | 94 => ⟨S2176, .i32⟩
  | 95 => ⟨S2176, .i1⟩
  | 96 => ⟨S1x2176, .i1⟩
  | 97 => ⟨S4x2176, .i1⟩
  | 98 => ⟨S4x2176, .i1⟩
  | 99 => ⟨S_, .f32⟩
  | 100 => ⟨S_, .f32⟩
  | 101 => ⟨S4x2176, .f32⟩
  | 102 => ⟨S4x2176, .f32⟩
  | 103 => ⟨S4x2176, .f32⟩
  | 104 => ⟨S_, .i32⟩
  | 105 => ⟨S4x2176, .i32⟩
  | 106 => ⟨S4x2176, .i1⟩
  | 107 => ⟨S_, .i32⟩
  | 108 => ⟨S4x2176, .i32⟩
  | 109 => ⟨S4x2176, .i1⟩
  | 110 => ⟨S4x2176, .i1⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S4x2176, .i32⟩
  | 118 => ⟨S4x2176, .i32⟩
  | 119 => ⟨S_, .i32⟩
  | 120 => ⟨S4x2176, .i32⟩
  | 121 => ⟨S4x2176, .i1⟩
  | 122 => ⟨S_, .i32⟩
  | 123 => ⟨S4x2176, .i32⟩
  | 124 => ⟨S4x2176, .i1⟩
  | 125 => ⟨S_, .i32⟩
  | 126 => ⟨S_, .i1⟩
  | 127 => ⟨S4x2176, .i1⟩
  | _ => ⟨S16x2048x1024, .f32⟩

abbrev hbmTy0_1 (i : Nat) : BufTy := match i % 128 with
  | 0 => ⟨S4x2176, .i1⟩
  | 1 => ⟨S4x2176, .i1⟩
  | 2 => ⟨S4x2176, .i32⟩
  | 3 => ⟨S4x2176, .i32⟩
  | 4 => ⟨S4x2176, .i32⟩
  | 5 => ⟨S_, .i32⟩
  | 6 => ⟨S4x2176, .i32⟩
  | 7 => ⟨S4x2176, .i1⟩
  | 8 => ⟨S4x2176, .i1⟩
  | 9 => ⟨S_, .i32⟩
  | 10 => ⟨S2176, .i32⟩
  | 11 => ⟨S2176, .i32⟩
  | 12 => ⟨S_, .i32⟩
  | 13 => ⟨S2176, .i32⟩
  | 14 => ⟨S2176, .i1⟩
  | 15 => ⟨S1x2176, .i1⟩
  | 16 => ⟨S4x2176, .i1⟩
  | 17 => ⟨S4x2176, .i1⟩
  | 18 => ⟨S_, .f32⟩
  | 19 => ⟨S_, .f32⟩
  | 20 => ⟨S4x2176, .f32⟩
  | 21 => ⟨S4x2176, .f32⟩
  | 22 => ⟨S4x2176, .f32⟩
  | 23 => ⟨S_, .i32⟩
  | 24 => ⟨S4x2176, .i32⟩
  | 25 => ⟨S4x2176, .i1⟩
  | 26 => ⟨S_, .i32⟩
  | 27 => ⟨S4x2176, .i32⟩
  | 28 => ⟨S4x2176, .i1⟩
  | 29 => ⟨S4x2176, .i1⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S4x2176, .i32⟩
  | 37 => ⟨S4x2176, .i32⟩
  | 38 => ⟨S_, .i32⟩
  | 39 => ⟨S4x2176, .i32⟩
  | 40 => ⟨S4x2176, .i1⟩
  | 41 => ⟨S_, .i32⟩
  | 42 => ⟨S4x2176, .i32⟩
  | 43 => ⟨S4x2176, .i1⟩
  | 44 => ⟨S_, .i32⟩
  | 45 => ⟨S_, .i1⟩
  | 46 => ⟨S4x2176, .i1⟩
  | 47 => ⟨S4x2176, .i1⟩
  | 48 => ⟨S4x2176, .i1⟩
  | 49 => ⟨S4x2176, .i32⟩
  | 50 => ⟨S4x2176, .i32⟩
  | 51 => ⟨S4x2176, .i32⟩
  | 52 => ⟨S_, .i32⟩
  | 53 => ⟨S4x2176, .i32⟩
  | 54 => ⟨S4x2176, .i1⟩
  | 55 => ⟨S4x2176, .i1⟩
  | 56 => ⟨S_, .i32⟩
  | 57 => ⟨S2176, .i32⟩
  | 58 => ⟨S2176, .i32⟩
  | 59 => ⟨S_, .i32⟩
  | 60 => ⟨S2176, .i32⟩
  | 61 => ⟨S2176, .i1⟩
  | 62 => ⟨S1x2176, .i1⟩
  | 63 => ⟨S4x2176, .i1⟩
  | 64 => ⟨S4x2176, .i1⟩
  | 65 => ⟨S_, .f32⟩
  | 66 => ⟨S_, .f32⟩
  | 67 => ⟨S4x2176, .f32⟩
  | 68 => ⟨S4x2176, .f32⟩
  | 69 => ⟨S4x2176, .f32⟩
  | 70 => ⟨S1x4x2176, .f32⟩
  | 71 => ⟨S1x4x2176, .f32⟩
  | 72 => ⟨S1x4x2176, .f32⟩
  | 73 => ⟨S3x4x2176, .f32⟩
  | 74 => ⟨S3x4x1x2176, .f32⟩
  | 75 => ⟨S3x4x8x2176, .f32⟩
  | 76 => ⟨S96x2176, .f32⟩
  | 77 => ⟨S128x8x64x2048, .f32⟩
  | 78 => ⟨S128x8x64x2048, .f32⟩
  | 79 => ⟨S32768x1024, .f32⟩
  | 80 => ⟨S4x128x1x512, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x96x2176, .bf16⟩
  | .local _ .vmem, ⟨13, _⟩ => ⟨S1x96x2176, .bf16⟩
  | .local _ .vmem, ⟨14, _⟩ => ⟨S4x2x1x512, .f32⟩
  | .local _ .vmem, ⟨15, _⟩ => ⟨S4x2x1x512, .f32⟩
  | .local _ .vmem, ⟨16, _⟩ => ⟨S2x8x64x2048, .f32⟩
  | .local _ .vmem, ⟨17, _⟩ => ⟨S2x8x64x2048, .f32⟩
  | .local _ .vmem, ⟨18, _⟩ => ⟨S1x512, .f32⟩
  | .local _ .vmem, ⟨19, _⟩ => ⟨S4x1x1x512, .f32⟩
  | .local _ .vmem, ⟨20, _⟩ => ⟨S4x1x1x512, .f32⟩
  | .local _ .vmem, ⟨21, _⟩ => ⟨S4x1x1x512, .f32⟩
  | .local _ .vmem, ⟨22, _⟩ => ⟨S4x1x1x512, .f32⟩
  | .local _ .vmem, ⟨23, _⟩ => ⟨S1x8x64x2048, .f32⟩
  | .local _ .vmem, ⟨24, _⟩ => ⟨S1x8x64x2048, .f32⟩
  | .local _ .vmem, ⟨25, _⟩ => ⟨S96x2176, .f32⟩
  | .local _ .vmem, ⟨26, _⟩ => ⟨S512x1024, .f32⟩
  | .local _ .vmem, ⟨27, _⟩ => ⟨S512x1024, .f32⟩
  | .local _ .vmem, ⟨28, _⟩ => ⟨S4x2x1x512, .f32⟩
  | .local _ .vmem, ⟨29, _⟩ => ⟨S4x2x1x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_1 : Ref sig .tc := ⟨.hbm, 57, rfl⟩
abbrev main_v38 : Ref sig .tc := ⟨.hbm, 58, rfl⟩
abbrev main_v39 : Ref sig .tc := ⟨.hbm, 59, rfl⟩
abbrev main_c_2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_3 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_c_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_1 : Ref sig .tc := ⟨.hbm, 72, rfl⟩
abbrev main_call0_v5 : Ref sig .tc := ⟨.hbm, 73, rfl⟩
abbrev main_call0_v6 : Ref sig .tc := ⟨.hbm, 74, rfl⟩
abbrev main_call0_c_2 : Ref sig .tc := ⟨.hbm, 75, rfl⟩
abbrev main_call0_v7 : Ref sig .tc := ⟨.hbm, 76, rfl⟩
abbrev main_call0_v8 : Ref sig .tc := ⟨.hbm, 77, rfl⟩
abbrev main_call0_c_3 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_v43 : Ref sig .tc := ⟨.hbm, 85, rfl⟩
abbrev main_c_4 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_c_5 : Ref sig .tc := ⟨.hbm, 90, rfl⟩
abbrev main_v47 : Ref sig .tc := ⟨.hbm, 91, rfl⟩
abbrev main_v48 : Ref sig .tc := ⟨.hbm, 92, rfl⟩
abbrev main_c_6 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_7 : Ref sig .tc := ⟨.hbm, 99, rfl⟩
abbrev main_cst_8 : Ref sig .tc := ⟨.hbm, 100, rfl⟩
abbrev main_call1_v0 : Ref sig .tc := ⟨.hbm, 101, rfl⟩
abbrev main_call1_v1 : Ref sig .tc := ⟨.hbm, 102, rfl⟩
abbrev main_v54 : Ref sig .tc := ⟨.hbm, 103, rfl⟩
abbrev main_c_9 : Ref sig .tc := ⟨.hbm, 104, rfl⟩
abbrev main_v55 : Ref sig .tc := ⟨.hbm, 105, rfl⟩
abbrev main_v56 : Ref sig .tc := ⟨.hbm, 106, rfl⟩
abbrev main_c_10 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_c_11 : Ref sig .tc := ⟨.hbm, 111, rfl⟩
abbrev main_call2_v0 : Ref sig .tc := ⟨.hbm, 112, rfl⟩
abbrev main_call2_c : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_c_1 : Ref sig .tc := ⟨.hbm, 119, rfl⟩
abbrev main_call2_v5 : Ref sig .tc := ⟨.hbm, 120, rfl⟩
abbrev main_call2_v6 : Ref sig .tc := ⟨.hbm, 121, rfl⟩
abbrev main_call2_c_2 : Ref sig .tc := ⟨.hbm, 122, rfl⟩
abbrev main_call2_v7 : Ref sig .tc := ⟨.hbm, 123, rfl⟩
abbrev main_call2_v8 : Ref sig .tc := ⟨.hbm, 124, rfl⟩
abbrev main_call2_c_3 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_v60 : Ref sig .tc := ⟨.hbm, 132, rfl⟩
abbrev main_c_12 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_c_13 : Ref sig .tc := ⟨.hbm, 137, rfl⟩
abbrev main_v64 : Ref sig .tc := ⟨.hbm, 138, rfl⟩
abbrev main_v65 : Ref sig .tc := ⟨.hbm, 139, rfl⟩
abbrev main_c_14 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_15 : Ref sig .tc := ⟨.hbm, 146, rfl⟩
abbrev main_cst_16 : Ref sig .tc := ⟨.hbm, 147, rfl⟩
abbrev main_call3_v0 : Ref sig .tc := ⟨.hbm, 148, rfl⟩
abbrev main_call3_v1 : Ref sig .tc := ⟨.hbm, 149, rfl⟩
abbrev main_v71 : Ref sig .tc := ⟨.hbm, 150, rfl⟩
abbrev main_c_17 : Ref sig .tc := ⟨.hbm, 151, rfl⟩
abbrev main_v72 : Ref sig .tc := ⟨.hbm, 152, rfl⟩
abbrev main_v73 : Ref sig .tc := ⟨.hbm, 153, rfl⟩
abbrev main_c_18 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_c_19 : Ref sig .tc := ⟨.hbm, 158, rfl⟩
abbrev main_call4_v0 : Ref sig .tc := ⟨.hbm, 159, rfl⟩
abbrev main_call4_c : Ref sig .tc := ⟨.hbm, 160, rfl⟩
abbrev main_call4_v1 : Ref sig .tc := ⟨.hbm, 161, rfl⟩
abbrev main_call4_c_0 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_c_1 : Ref sig .tc := ⟨.hbm, 166, rfl⟩
abbrev main_call4_v5 : Ref sig .tc := ⟨.hbm, 167, rfl⟩
abbrev main_call4_v6 : Ref sig .tc := ⟨.hbm, 168, rfl⟩
abbrev main_call4_c_2 : Ref sig .tc := ⟨.hbm, 169, rfl⟩
abbrev main_call4_v7 : Ref sig .tc := ⟨.hbm, 170, rfl⟩
abbrev main_call4_v8 : Ref sig .tc := ⟨.hbm, 171, rfl⟩
abbrev main_call4_c_3 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_v12 : Ref sig .tc := ⟨.hbm, 176, rfl⟩
abbrev main_call4_v13 : Ref sig .tc := ⟨.hbm, 177, rfl⟩
abbrev main_call4_v14 : Ref sig .tc := ⟨.hbm, 178, rfl⟩
abbrev main_v77 : Ref sig .tc := ⟨.hbm, 179, rfl⟩
abbrev main_c_20 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_c_21 : Ref sig .tc := ⟨.hbm, 184, rfl⟩
abbrev main_v81 : Ref sig .tc := ⟨.hbm, 185, rfl⟩
abbrev main_v82 : Ref sig .tc := ⟨.hbm, 186, rfl⟩
abbrev main_c_22 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_cst_23 : Ref sig .tc := ⟨.hbm, 193, rfl⟩
abbrev main_cst_24 : Ref sig .tc := ⟨.hbm, 194, rfl⟩
abbrev main_call5_v0 : Ref sig .tc := ⟨.hbm, 195, rfl⟩
abbrev main_call5_v1 : Ref sig .tc := ⟨.hbm, 196, rfl⟩
abbrev main_v88 : Ref sig .tc := ⟨.hbm, 197, rfl⟩
abbrev main_v89 : Ref sig .tc := ⟨.hbm, 198, rfl⟩
abbrev main_v90 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_v98_0 : Ref sig .tc := ⟨.hbm, 207, rfl⟩
abbrev main_v98_1 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_14 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_15 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x96x2176 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S96x2176 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x2x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16x2048x1024 : Shape := ⟨3, ![16, 2048, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S64x96x2176 : Shape := ⟨3, ![64, 96, 2176]⟩
abbrev S128x4x8x64 : Shape := ⟨4, ![128, 4, 8, 64]⟩
abbrev S1x128x2048x8x64 : Shape := ⟨5, ![1, 128, 2048, 8, 64]⟩
abbrev S1x512 : Shape := ⟨2, ![1, 512]⟩
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x4096 : Shape := ⟨2, ![1024, 4096]⟩
abbrev S32768x4096 : Shape := ⟨2, ![32768, 4096]⟩
abbrev S4096x1024 : Shape := ⟨2, ![4096, 1024]⟩
abbrev S128x2048x8x64 : Shape := ⟨4, ![128, 2048, 8, 64]⟩
abbrev S128x2052x8x64 : Shape := ⟨4, ![128, 2052, 8, 64]⟩
abbrev S4 : Shape := ⟨1, ![4]⟩
abbrev S64x4x8x64 : Shape := ⟨4, ![64, 4, 8, 64]⟩
abbrev S64x2052x8x64 : Shape := ⟨4, ![64, 2052, 8, 64]⟩
abbrev S129 : Shape := ⟨1, ![129]⟩
abbrev S4x1 : Shape := ⟨2, ![4, 1]⟩
abbrev S1x129 : Shape := ⟨2, ![1, 129]⟩
abbrev S4x129 : Shape := ⟨2, ![4, 129]⟩
abbrev S4x129x1 : Shape := ⟨3, ![4, 129, 1]⟩
abbrev S1 : Shape := ⟨1, ![1]⟩
abbrev S1x1x1 : Shape := ⟨3, ![1, 1, 1]⟩
abbrev S64x4x129x8x64 : Shape := ⟨5, ![64, 4, 129, 8, 64]⟩
abbrev S64x4x8x129 : Shape := ⟨4, ![64, 4, 8, 129]⟩
abbrev S1x4x1x129 : Shape := ⟨4, ![1, 4, 1, 129]⟩
abbrev S64x4x8 : Shape := ⟨3, ![64, 4, 8]⟩
abbrev S64x4x8x1 : Shape := ⟨4, ![64, 4, 8, 1]⟩
abbrev S64x4x8x3 : Shape := ⟨4, ![64, 4, 8, 3]⟩
abbrev S64x3x4x8x2176 : Shape := ⟨5, ![64, 3, 4, 8, 2176]⟩
abbrev S64x3x4x8x2052 : Shape := ⟨5, ![64, 3, 4, 8, 2052]⟩
abbrev S64x8x64x3x4 : Shape := ⟨5, ![64, 8, 64, 3, 4]⟩
abbrev S64x3x4x8x64 : Shape := ⟨5, ![64, 3, 4, 8, 64]⟩
abbrev S64x1x4x8x64 : Shape := ⟨5, ![64, 1, 4, 8, 64]⟩
abbrev S64x2x4x8x64 : Shape := ⟨5, ![64, 2, 4, 8, 64]⟩
abbrev S128x4x512 : Shape := ⟨3, ![128, 4, 512]⟩
abbrev S512 : Shape := ⟨1, ![512]⟩
abbrev S128x4 : Shape := ⟨2, ![128, 4]⟩
abbrev S128x4x1 : Shape := ⟨3, ![128, 4, 1]⟩
abbrev S1x1x512 : Shape := ⟨3, ![1, 1, 512]⟩
abbrev S4x128x512 : Shape := ⟨3, ![4, 128, 512]⟩
abbrev S4x128x1x512 : Shape := ⟨4, ![4, 128, 1, 512]⟩

abbrev nBuf : Space → Nat
  | .hbm => 421
  | .vmem => 0
  | .smem => 0
  | _ => 0

abbrev hbmTy0_0 (i : Nat) : BufTy := match i % 128 with
  | 0 => ⟨S16x2048x1024, .f32⟩
  | 1 => ⟨S32768x512, .bf16⟩
  | 2 => ⟨S32768x512, .bf16⟩
  | 3 => ⟨S1x1024x1024, .f32⟩
  | 4 => ⟨S1x1024, .f32⟩
  | 5 => ⟨S1x1024, .f32⟩
  | 6 => ⟨S1x1024x4096, .f32⟩
  | 7 => ⟨S1x4096x1024, .f32⟩
  | 8 => ⟨S1x1024, .f32⟩
  | 9 => ⟨S64x96x2176, .bf16⟩
  | 10 => ⟨S128x4x8x64, .f32⟩
  | 11 => ⟨S128x4x8x64, .f32⟩
  | 12 => ⟨S128x4x8x64, .f32⟩
  | 13 => ⟨S1x128x2048x8x64, .f32⟩
  | 14 => ⟨S1x128x2048x8x64, .f32⟩
  | 15 => ⟨S1x512, .f32⟩
  | 16 => ⟨S32768x512, .f32⟩
  | 17 => ⟨S32768x512, .f32⟩
  | 18 => ⟨S32768x1024, .f32⟩
  | 19 => ⟨S1024x1024, .f32⟩
  | 20 => ⟨S32768x1024, .f32⟩
  | 21 => ⟨S32768x1024, .f32⟩
  | 22 => ⟨S1024, .f32⟩
  | 23 => ⟨S32768x1024, .f32⟩
  | 24 => ⟨S_, .f32⟩
  | 25 => ⟨S32768, .f32⟩
  | 26 => ⟨S32768x1, .f32⟩
  | 27 => ⟨S_, .f32⟩
  | 28 => ⟨S32768x1, .f32⟩
  | 29 => ⟨S32768x1, .f32⟩
  | 30 => ⟨S_, .f32⟩
  | 31 => ⟨S32768x1, .f32⟩
  | 32 => ⟨S32768x1, .f32⟩
  | 33 => ⟨S32768x1, .f32⟩
  | 34 => ⟨S32768x1024, .f32⟩
  | 35 => ⟨S32768x1024, .f32⟩
  | 36 => ⟨S1x1024, .f32⟩
  | 37 => ⟨S32768x1024, .f32⟩
  | 38 => ⟨S32768x1024, .f32⟩
  | 39 => ⟨S32768x1024, .f32⟩
  | 40 => ⟨S1024, .f32⟩
  | 41 => ⟨S32768x1024, .f32⟩
  | 42 => ⟨S_, .f32⟩
  | 43 => ⟨S32768, .f32⟩
  | 44 => ⟨S32768x1, .f32⟩
  | 45 => ⟨S_, .f32⟩
  | 46 => ⟨S32768x1, .f32⟩
  | 47 => ⟨S32768x1, .f32⟩
  | 48 => ⟨S_, .f32⟩
  | 49 => ⟨S32768x1, .f32⟩
  | 50 => ⟨S32768x1, .f32⟩
  | 51 => ⟨S32768x1, .f32⟩
  | 52 => ⟨S32768x1024, .f32⟩
  | 53 => ⟨S32768x1024, .f32⟩
  | 54 => ⟨S1x1024, .f32⟩
  | 55 => ⟨S32768x1024, .f32⟩
  | 56 => ⟨S32768x1024, .f32⟩
  | 57 => ⟨S1024x4096, .f32⟩
  | 58 => ⟨S32768x4096, .f32⟩
  | 59 => ⟨S_, .f32⟩
  | 60 => ⟨S32768x4096, .f32⟩
  | 61 => ⟨S32768x4096, .f32⟩
  | 62 => ⟨S32768x4096, .f32⟩
  | 63 => ⟨S4096x1024, .f32⟩
  | 64 => ⟨S32768x1024, .f32⟩
  | 65 => ⟨S1024, .f32⟩
  | 66 => ⟨S32768x1024, .f32⟩
  | 67 => ⟨S_, .f32⟩
  | 68 => ⟨S32768, .f32⟩
  | 69 => ⟨S32768x1, .f32⟩
  | 70 => ⟨S_, .f32⟩
  | 71 => ⟨S32768x1, .f32⟩
  | 72 => ⟨S32768x1, .f32⟩
  | 73 => ⟨S_, .f32⟩
  | 74 => ⟨S32768x1, .f32⟩
  | 75 => ⟨S32768x1, .f32⟩
  | 76 => ⟨S32768x1, .f32⟩
  | 77 => ⟨S32768x1024, .f32⟩
  | 78 => ⟨S32768x1024, .f32⟩
  | 79 => ⟨S1x1024, .f32⟩
  | 80 => ⟨S32768x1024, .f32⟩
  | 81 => ⟨S32768x1024, .f32⟩
  | 82 => ⟨S32768x1024, .f32⟩
  | 83 => ⟨S128x2048x8x64, .f32⟩
  | 84 => ⟨S128x2052x8x64, .f32⟩
  | 85 => ⟨S128x2048x8x64, .f32⟩
  | 86 => ⟨S128x2052x8x64, .f32⟩
  | 87 => ⟨S4, .i32⟩
  | 88 => ⟨S_, .i32⟩
  | 89 => ⟨S4, .i32⟩
  | 90 => ⟨S4, .i32⟩
  | 91 => ⟨S64x4x8x64, .f32⟩
  | 92 => ⟨S64x2052x8x64, .f32⟩
  | 93 => ⟨S64x2052x8x64, .f32⟩
  | 94 => ⟨S_, .f32⟩
  | 95 => ⟨S64x4x8x64, .f32⟩
  | 96 => ⟨S64x4x8x64, .f32⟩
  | 97 => ⟨S129, .i32⟩
  | 98 => ⟨S_, .i32⟩
  | 99 => ⟨S129, .i32⟩
  | 100 => ⟨S129, .i32⟩
  | 101 => ⟨S4x1, .i32⟩
  | 102 => ⟨S1x129, .i32⟩
  | 103 => ⟨S4x129, .i32⟩
  | 104 => ⟨S4x129, .i32⟩
  | 105 => ⟨S4x129, .i32⟩
  | 106 => ⟨S_, .i32⟩
  | 107 => ⟨S4x129, .i32⟩
  | 108 => ⟨S4x129, .i1⟩
  | 109 => ⟨S_, .i32⟩
  | 110 => ⟨S4x129, .i32⟩
  | 111 => ⟨S4x129, .i32⟩
  | 112 => ⟨S_, .i32⟩
  | 113 => ⟨S_, .i32⟩
  | 114 => ⟨S_, .i32⟩
  | 115 => ⟨S4x129, .i32⟩
  | 116 => ⟨S4x129, .i32⟩
  | 117 => ⟨S_, .i32⟩
  | 118 => ⟨S4x129, .i32⟩
  | 119 => ⟨S4x129, .i32⟩
  | 120 => ⟨S_, .i32⟩
  | 121 => ⟨S4x129, .i32⟩
  | 122 => ⟨S4x129, .i1⟩
  | 123 => ⟨S_, .i32⟩
  | 124 => ⟨S4x129, .i32⟩
  | 125 => ⟨S4x129, .i32⟩
  | 126 => ⟨S4x129, .i32⟩
  | 127 => ⟨S4x129x1, .i32⟩
  | _ => ⟨S16x2048x1024, .f32⟩

abbrev hbmTy0_1 (i : Nat) : BufTy := match i % 128 with
  | 0 => ⟨S1, .i32⟩
  | 1 => ⟨S_, .i32⟩
  | 2 => ⟨S4x129x1, .i32⟩
  | 3 => ⟨S4x129x1, .i1⟩
  | 4 => ⟨S1x1x1, .i32⟩
  | 5 => ⟨S4x129x1, .i32⟩
  | 6 => ⟨S4x129x1, .i1⟩
  | 7 => ⟨S4x129x1, .i1⟩
  | 8 => ⟨S_, .i1⟩
  | 9 => ⟨S4x129, .i1⟩
  | 10 => ⟨S64x4x129x8x64, .f32⟩
  | 11 => ⟨S64x4x129x8x64, .i1⟩
  | 12 => ⟨S_, .f32⟩
  | 13 => ⟨S64x4x129x8x64, .f32⟩
  | 14 => ⟨S64x4x129x8x64, .f32⟩
  | 15 => ⟨S_, .i32⟩
  | 16 => ⟨S4x129, .i32⟩
  | 17 => ⟨S4x129, .i1⟩
  | 18 => ⟨S_, .i32⟩
  | 19 => ⟨S4x129, .i32⟩
  | 20 => ⟨S4x129, .i32⟩
  | 21 => ⟨S4x129, .i32⟩
  | 22 => ⟨S4x129x1, .i32⟩
  | 23 => ⟨S1, .i32⟩
  | 24 => ⟨S_, .i32⟩
  | 25 => ⟨S4x129x1, .i32⟩
  | 26 => ⟨S4x129x1, .i1⟩
  | 27 => ⟨S1x1x1, .i32⟩
  | 28 => ⟨S4x129x1, .i32⟩
  | 29 => ⟨S4x129x1, .i1⟩
  | 30 => ⟨S4x129x1, .i1⟩
  | 31 => ⟨S_, .i1⟩
  | 32 => ⟨S4x129, .i1⟩
  | 33 => ⟨S64x4x129x8x64, .f32⟩
  | 34 => ⟨S64x4x129x8x64, .i1⟩
  | 35 => ⟨S_, .f32⟩
  | 36 => ⟨S64x4x129x8x64, .f32⟩
  | 37 => ⟨S64x4x129x8x64, .f32⟩
  | 38 => ⟨S64x4x8x129, .f32⟩
  | 39 => ⟨S1x4x1x129, .i1⟩
  | 40 => ⟨S_, .f32⟩
  | 41 => ⟨S64x4x8x129, .i1⟩
  | 42 => ⟨S64x4x8x129, .f32⟩
  | 43 => ⟨S64x4x8x129, .f32⟩
  | 44 => ⟨S_, .f32⟩
  | 45 => ⟨S64x4x8, .f32⟩
  | 46 => ⟨S64x4x8x1, .f32⟩
  | 47 => ⟨S64x4x8x129, .f32⟩
  | 48 => ⟨S64x4x8x129, .f32⟩
  | 49 => ⟨S64x4x8x129, .f32⟩
  | 50 => ⟨S_, .f32⟩
  | 51 => ⟨S64x4x8, .f32⟩
  | 52 => ⟨S64x4x8x1, .f32⟩
  | 53 => ⟨S64x4x8x64, .f32⟩
  | 54 => ⟨S64x4x8x64, .f32⟩
  | 55 => ⟨S64x4x8x64, .f32⟩
  | 56 => ⟨S64x4x8x1, .f32⟩
  | 57 => ⟨S64x4x8x1, .f32⟩
  | 58 => ⟨S129, .i32⟩
  | 59 => ⟨S_, .i32⟩
  | 60 => ⟨S129, .i32⟩
  | 61 => ⟨S129, .i32⟩
  | 62 => ⟨S4x1, .i32⟩
  | 63 => ⟨S1x129, .i32⟩
  | 64 => ⟨S4x129, .i32⟩
  | 65 => ⟨S4x129, .i32⟩
  | 66 => ⟨S4x129, .i32⟩
  | 67 => ⟨S_, .i32⟩
  | 68 => ⟨S4x129, .i32⟩
  | 69 => ⟨S4x129, .i1⟩
  | 70 => ⟨S_, .i32⟩
  | 71 => ⟨S4x129, .i32⟩
  | 72 => ⟨S4x129, .i32⟩
  | 73 => ⟨S_, .i32⟩
  | 74 => ⟨S_, .i32⟩
  | 75 => ⟨S_, .i32⟩
  | 76 => ⟨S4x129, .i32⟩
  | 77 => ⟨S4x129, .i32⟩
  | 78 => ⟨S_, .i32⟩
  | 79 => ⟨S4x129, .i32⟩
  | 80 => ⟨S4x129, .i32⟩
  | 81 => ⟨S_, .i32⟩
  | 82 => ⟨S4x129, .i32⟩
  | 83 => ⟨S4x129, .i1⟩
  | 84 => ⟨S_, .i32⟩
  | 85 => ⟨S4x129, .i32⟩
  | 86 => ⟨S4x129, .i32⟩
  | 87 => ⟨S4x129, .i32⟩
  | 88 => ⟨S4x129x1, .i32⟩
  | 89 => ⟨S1, .i32⟩
  | 90 => ⟨S_, .i32⟩
  | 91 => ⟨S4x129x1, .i32⟩
  | 92 => ⟨S4x129x1, .i1⟩
  | 93 => ⟨S1x1x1, .i32⟩
  | 94 => ⟨S4x129x1, .i32⟩
  | 95 => ⟨S4x129x1, .i1⟩
  | 96 => ⟨S4x129x1, .i1⟩
  | 97 => ⟨S_, .i1⟩
  | 98 => ⟨S4x129, .i1⟩
  | 99 => ⟨S64x4x129x8x64, .f32⟩
  | 100 => ⟨S64x4x129x8x64, .i1⟩
  | 101 => ⟨S_, .f32⟩
  | 102 => ⟨S64x4x129x8x64, .f32⟩
  | 103 => ⟨S64x4x129x8x64, .f32⟩
  | 104 => ⟨S_, .i32⟩
  | 105 => ⟨S4x129, .i32⟩
  | 106 => ⟨S4x129, .i1⟩
  | 107 => ⟨S_, .i32⟩
  | 108 => ⟨S4x129, .i32⟩
  | 109 => ⟨S4x129, .i32⟩
  | 110 => ⟨S4x129, .i32⟩
  | 111 => ⟨S4x129x1, .i32⟩
  | 112 => ⟨S1, .i32⟩
  | 113 => ⟨S_, .i32⟩
  | 114 => ⟨S4x129x1, .i32⟩
  | 115 => ⟨S4x129x1, .i1⟩
  | 116 => ⟨S1x1x1, .i32⟩
  | 117 => ⟨S4x129x1, .i32⟩
  | 118 => ⟨S4x129x1, .i1⟩
  | 119 => ⟨S4x129x1, .i1⟩
  | 120 => ⟨S_, .i1⟩
  | 121 => ⟨S4x129, .i1⟩
  | 122 => ⟨S64x4x129x8x64, .f32⟩
  | 123 => ⟨S64x4x129x8x64, .i1⟩
  | 124 => ⟨S_, .f32⟩
  | 125 => ⟨S64x4x129x8x64, .f32⟩
  | 126 => ⟨S64x4x129x8x64, .f32⟩
  | 127 => ⟨S64x4x8x129, .f32⟩
  | _ => ⟨S16x2048x1024, .f32⟩

abbrev hbmTy0_2 (i : Nat) : BufTy := match i % 128 with
  | 0 => ⟨S1x4x1x129, .i1⟩
  | 1 => ⟨S_, .f32⟩
  | 2 => ⟨S64x4x8x129, .i1⟩
  | 3 => ⟨S64x4x8x129, .f32⟩
  | 4 => ⟨S64x4x8x129, .f32⟩
  | 5 => ⟨S_, .f32⟩
  | 6 => ⟨S64x4x8, .f32⟩
  | 7 => ⟨S64x4x8x1, .f32⟩
  | 8 => ⟨S64x4x8x129, .f32⟩
  | 9 => ⟨S64x4x8x129, .f32⟩
  | 10 => ⟨S64x4x8x129, .f32⟩
  | 11 => ⟨S_, .f32⟩
  | 12 => ⟨S64x4x8, .f32⟩
  | 13 => ⟨S64x4x8x1, .f32⟩
  | 14 => ⟨S64x4x8x64, .f32⟩
  | 15 => ⟨S64x4x8x64, .f32⟩
  | 16 => ⟨S64x4x8x64, .f32⟩
  | 17 => ⟨S64x4x8x1, .f32⟩
  | 18 => ⟨S64x4x8x1, .f32⟩
  | 19 => ⟨S129, .i32⟩
  | 20 => ⟨S_, .i32⟩
  | 21 => ⟨S129, .i32⟩
  | 22 => ⟨S129, .i32⟩
  | 23 => ⟨S4x1, .i32⟩
  | 24 => ⟨S1x129, .i32⟩
  | 25 => ⟨S4x129, .i32⟩
  | 26 => ⟨S4x129, .i32⟩
  | 27 => ⟨S4x129, .i32⟩
  | 28 => ⟨S_, .i32⟩
  | 29 => ⟨S4x129, .i32⟩
  | 30 => ⟨S4x129, .i1⟩
  | 31 => ⟨S_, .i32⟩
  | 32 => ⟨S4x129, .i32⟩
  | 33 => ⟨S4x129, .i32⟩
  | 34 => ⟨S_, .i32⟩
  | 35 => ⟨S_, .i32⟩
  | 36 => ⟨S_, .i32⟩
  | 37 => ⟨S4x129, .i32⟩
  | 38 => ⟨S4x129, .i32⟩
  | 39 => ⟨S_, .i32⟩
  | 40 => ⟨S4x129, .i32⟩
  | 41 => ⟨S4x129, .i32⟩
  | 42 => ⟨S_, .i32⟩
  | 43 => ⟨S4x129, .i32⟩
  | 44 => ⟨S4x129, .i1⟩
  | 45 => ⟨S_, .i32⟩
  | 46 => ⟨S4x129, .i32⟩
  | 47 => ⟨S4x129, .i32⟩
  | 48 => ⟨S4x129, .i32⟩
  | 49 => ⟨S4x129x1, .i32⟩
  | 50 => ⟨S1, .i32⟩
  | 51 => ⟨S_, .i32⟩
  | 52 => ⟨S4x129x1, .i32⟩
  | 53 => ⟨S4x129x1, .i1⟩
  | 54 => ⟨S1x1x1, .i32⟩
  | 55 => ⟨S4x129x1, .i32⟩
  | 56 => ⟨S4x129x1, .i1⟩
  | 57 => ⟨S4x129x1, .i1⟩
  | 58 => ⟨S_, .i1⟩
  | 59 => ⟨S4x129, .i1⟩
  | 60 => ⟨S64x4x129x8x64, .f32⟩
  | 61 => ⟨S64x4x129x8x64, .i1⟩
  | 62 => ⟨S_, .f32⟩
  | 63 => ⟨S64x4x129x8x64, .f32⟩
  | 64 => ⟨S64x4x129x8x64, .f32⟩
  | 65 => ⟨S_, .i32⟩
  | 66 => ⟨S4x129, .i32⟩
  | 67 => ⟨S4x129, .i1⟩
  | 68 => ⟨S_, .i32⟩
  | 69 => ⟨S4x129, .i32⟩
  | 70 => ⟨S4x129, .i32⟩
  | 71 => ⟨S4x129, .i32⟩
  | 72 => ⟨S4x129x1, .i32⟩
  | 73 => ⟨S1, .i32⟩
  | 74 => ⟨S_, .i32⟩
  | 75 => ⟨S4x129x1, .i32⟩
  | 76 => ⟨S4x129x1, .i1⟩
  | 77 => ⟨S1x1x1, .i32⟩
  | 78 => ⟨S4x129x1, .i32⟩
  | 79 => ⟨S4x129x1, .i1⟩
  | 80 => ⟨S4x129x1, .i1⟩
  | 81 => ⟨S_, .i1⟩
  | 82 => ⟨S4x129, .i1⟩
  | 83 => ⟨S64x4x129x8x64, .f32⟩
  | 84 => ⟨S64x4x129x8x64, .i1⟩
  | 85 => ⟨S_, .f32⟩
  | 86 => ⟨S64x4x129x8x64, .f32⟩
  | 87 => ⟨S64x4x129x8x64, .f32⟩
  | 88 => ⟨S64x4x8x129, .f32⟩
  | 89 => ⟨S1x4x1x129, .i1⟩
  | 90 => ⟨S_, .f32⟩
  | 91 => ⟨S64x4x8x129, .i1⟩
  | 92 => ⟨S64x4x8x129, .f32⟩
  | 93 => ⟨S64x4x8x129, .f32⟩
  | 94 => ⟨S_, .f32⟩
  | 95 => ⟨S64x4x8, .f32⟩
  | 96 => ⟨S64x4x8x1, .f32⟩
  | 97 => ⟨S64x4x8x129, .f32⟩
  | 98 => ⟨S64x4x8x129, .f32⟩
  | 99 => ⟨S64x4x8x129, .f32⟩
  | 100 => ⟨S_, .f32⟩
  | 101 => ⟨S64x4x8, .f32⟩
  | 102 => ⟨S64x4x8x1, .f32⟩
  | 103 => ⟨S64x4x8x64, .f32⟩
  | 104 => ⟨S64x4x8x64, .f32⟩
  | 105 => ⟨S64x4x8x64, .f32⟩
  | 106 => ⟨S64x4x8x1, .f32⟩
  | 107 => ⟨S64x4x8x1, .f32⟩
  | 108 => ⟨S64x4x8x3, .f32⟩
  | 109 => ⟨S_, .f32⟩
  | 110 => ⟨S64x4x8, .f32⟩
  | 111 => ⟨S_, .f32⟩
  | 112 => ⟨S64x4x8, .f32⟩
  | 113 => ⟨S64x4x8, .f32⟩
  | 114 => ⟨S64x4x8x1, .f32⟩
  | 115 => ⟨S64x4x8x3, .f32⟩
  | 116 => ⟨S64x4x8x3, .f32⟩
  | 117 => ⟨S64x4x8x3, .f32⟩
  | 118 => ⟨S_, .f32⟩
  | 119 => ⟨S64x4x8, .f32⟩
  | 120 => ⟨S64x4x8x1, .f32⟩
  | 121 => ⟨S64x4x8x3, .f32⟩
  | 122 => ⟨S64x4x8x3, .f32⟩
  | 123 => ⟨S64x4x8x1, .f32⟩
  | 124 => ⟨S64x4x8x64, .f32⟩
  | 125 => ⟨S64x4x8x64, .f32⟩
  | 126 => ⟨S64x4x8x1, .f32⟩
  | 127 => ⟨S64x4x8x64, .f32⟩
  | _ => ⟨S16x2048x1024, .f32⟩

abbrev hbmTy0_3 (i : Nat) : BufTy := match i % 128 with
  | 0 => ⟨S64x4x8x64, .f32⟩
  | 1 => ⟨S64x4x8x64, .f32⟩
  | 2 => ⟨S64x4x8x1, .f32⟩
  | 3 => ⟨S64x4x8x64, .f32⟩
  | 4 => ⟨S64x4x8x64, .f32⟩
  | 5 => ⟨S64x4x8x64, .f32⟩
  | 6 => ⟨S64x96x2176, .f32⟩
  | 7 => ⟨S64x3x4x8x2176, .f32⟩
  | 8 => ⟨S64x3x4x8x2052, .f32⟩
  | 9 => ⟨S64x2052x8x64, .f32⟩
  | 10 => ⟨S64x8x64x3x4, .f32⟩
  | 11 => ⟨S64x3x4x8x64, .f32⟩
  | 12 => ⟨S_, .f32⟩
  | 13 => ⟨S64x4x8x64, .f32⟩
  | 14 => ⟨S64x1x4x8x64, .f32⟩
  | 15 => ⟨S64x1x4x8x64, .f32⟩
  | 16 => ⟨S64x2x4x8x64, .f32⟩
  | 17 => ⟨S128x4x512, .f32⟩
  | 18 => ⟨S512, .f32⟩
  | 19 => ⟨S128x4x512, .f32⟩
  | 20 => ⟨S_, .f32⟩
  | 21 => ⟨S128x4, .f32⟩
  | 22 => ⟨S128x4x1, .f32⟩
  | 23 => ⟨S_, .f32⟩
  | 24 => ⟨S128x4x1, .f32⟩
  | 25 => ⟨S128x4x1, .f32⟩
  | 26 => ⟨S_, .f32⟩
  | 27 => ⟨S128x4x1, .f32⟩
  | 28 => ⟨S128x4x1, .f32⟩
  | 29 => ⟨S128x4x1, .f32⟩
  | 30 => ⟨S128x4x512, .f32⟩
  | 31 => ⟨S128x4x512, .f32⟩
  | 32 => ⟨S1x1x512, .f32⟩
  | 33 => ⟨S128x4x512, .f32⟩
  | 34 => ⟨S128x4x512, .f32⟩
  | 35 => ⟨S4x128x512, .f32⟩
  | 36 => ⟨S4x128x1x512, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call0_cst : Ref sig .tc := ⟨.hbm, 59, rfl⟩
abbrev main_call0_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_8 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_9 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_10 : Ref sig .tc := ⟨.hbm, 106, rfl⟩
abbrev main_v76 : Ref sig .tc := ⟨.hbm, 107, rfl⟩
abbrev main_v77 : Ref sig .tc := ⟨.hbm, 108, rfl⟩
abbrev main_c_11 : Ref sig .tc := ⟨.hbm, 109, rfl⟩
abbrev main_v78 : Ref sig .tc := ⟨.hbm, 110, rfl⟩
abbrev main_v79 : Ref sig .tc := ⟨.hbm, 111, rfl⟩
abbrev main_c_12 : Ref sig .tc := ⟨.hbm, 112, rfl⟩
abbrev main_c_13 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_v80 : Ref sig .tc := ⟨.hbm, 119, rfl⟩
abbrev main_call2_c : Ref sig .tc := ⟨.hbm, 120, rfl⟩
abbrev main_call2_v0 : Ref sig .tc := ⟨.hbm, 121, rfl⟩
abbrev main_call2_v1 : Ref sig .tc := ⟨.hbm, 122, rfl⟩
abbrev main_call2_c_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_c_1 : Ref sig .tc := ⟨.hbm, 128, rfl⟩
abbrev main_call2_c_2 : Ref sig .tc := ⟨.hbm, 129, rfl⟩
abbrev main_call2_v6 : Ref sig .tc := ⟨.hbm, 130, rfl⟩
abbrev main_call2_v7 : Ref sig .tc := ⟨.hbm, 131, rfl⟩
abbrev main_call2_v8 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_c_3 : Ref sig .tc := ⟨.hbm, 136, rfl⟩
abbrev main_call2_v12 : Ref sig .tc := ⟨.hbm, 137, rfl⟩
abbrev main_call2_v13 : Ref sig .tc := ⟨.hbm, 138, rfl⟩
abbrev main_call2_v14 : Ref sig .tc := ⟨.hbm, 139, rfl⟩
abbrev main_call2_cst : Ref sig .tc := ⟨.hbm, 140, rfl⟩
abbrev main_call2_v15 : Ref sig .tc := ⟨.hbm, 141, rfl⟩
abbrev main_v81 : Ref sig .tc := ⟨.hbm, 142, rfl⟩
abbrev main_call3_c : Ref sig .tc := ⟨.hbm, 143, rfl⟩
abbrev main_call3_v0 : Ref sig .tc := ⟨.hbm, 144, rfl⟩
abbrev main_call3_v1 : Ref sig .tc := ⟨.hbm, 145, rfl⟩
abbrev main_call3_c_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_c_1 : Ref sig .tc := ⟨.hbm, 151, rfl⟩
abbrev main_call3_c_2 : Ref sig .tc := ⟨.hbm, 152, rfl⟩
abbrev main_call3_v6 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_c_3 : Ref sig .tc := ⟨.hbm, 159, rfl⟩
abbrev main_call3_v12 : Ref sig .tc := ⟨.hbm, 160, rfl⟩
abbrev main_call3_v13 : Ref sig .tc := ⟨.hbm, 161, rfl⟩
abbrev main_call3_v14 : Ref sig .tc := ⟨.hbm, 162, rfl⟩
abbrev main_call3_cst : Ref sig .tc := ⟨.hbm, 163, rfl⟩
abbrev main_call3_v15 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_cst_14 : Ref sig .tc := ⟨.hbm, 168, rfl⟩
abbrev main_call4_v0 : Ref sig .tc := ⟨.hbm, 169, rfl⟩
abbrev main_call4_v1 : Ref sig .tc := ⟨.hbm, 170, rfl⟩
abbrev main_v85 : Ref sig .tc := ⟨.hbm, 171, rfl⟩
abbrev main_cst_15 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_cst_16 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_c_17 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_c_18 : Ref sig .tc := ⟨.hbm, 195, rfl⟩
abbrev main_v106 : Ref sig .tc := ⟨.hbm, 196, rfl⟩
abbrev main_v107 : Ref sig .tc := ⟨.hbm, 197, rfl⟩
abbrev main_c_19 : Ref sig .tc := ⟨.hbm, 198, rfl⟩
abbrev main_v108 : Ref sig .tc := ⟨.hbm, 199, rfl⟩
abbrev main_v109 : Ref sig .tc := ⟨.hbm, 200, rfl⟩
abbrev main_c_20 : Ref sig .tc := ⟨.hbm, 201, rfl⟩
abbrev main_c_21 : Ref sig .tc := ⟨.hbm, 202, rfl⟩
abbrev main_call5_v0 : Ref sig .tc := ⟨.hbm, 203, rfl⟩
abbrev main_call5_v1 : Ref sig .tc := ⟨.hbm, 204, rfl⟩
abbrev main_call5_v2 : Ref sig .tc := ⟨.hbm, 205, rfl⟩
abbrev main_call5_v3 : Ref sig .tc := ⟨.hbm, 206, rfl⟩
abbrev main_call5_v4 : Ref sig .tc := ⟨.hbm, 207, rfl⟩
abbrev main_v110 : Ref sig .tc := ⟨.hbm, 208, rfl⟩
abbrev main_call6_c : Ref sig .tc := ⟨.hbm, 209, rfl⟩
abbrev main_call6_v0 : Ref sig .tc := ⟨.hbm, 210, rfl⟩
abbrev main_call6_v1 : Ref sig .tc := ⟨.hbm, 211, rfl⟩
abbrev main_call6_c_0 : Ref sig .tc := ⟨.hbm, 212, rfl⟩
abbrev main_call6_v2 : Ref sig .tc := ⟨.hbm, 213, rfl⟩
abbrev main_call6_v3 : Ref sig .tc := ⟨.hbm, 214, rfl⟩
abbrev main_call6_v4 : Ref sig .tc := ⟨.hbm, 215, rfl⟩
abbrev main_call6_v5 : Ref sig .tc := ⟨.hbm, 216, rfl⟩
abbrev main_call6_c_1 : Ref sig .tc := ⟨.hbm, 217, rfl⟩
abbrev main_call6_c_2 : Ref sig .tc := ⟨.hbm, 218, rfl⟩
abbrev main_call6_v6 : Ref sig .tc := ⟨.hbm, 219, rfl⟩
abbrev main_call6_v7 : Ref sig .tc := ⟨.hbm, 220, rfl⟩
abbrev main_call6_v8 : Ref sig .tc := ⟨.hbm, 221, rfl⟩
abbrev main_call6_v9 : Ref sig .tc := ⟨.hbm, 222, rfl⟩
abbrev main_call6_v10 : Ref sig .tc := ⟨.hbm, 223, rfl⟩
abbrev main_call6_v11 : Ref sig .tc := ⟨.hbm, 224, rfl⟩
abbrev main_call6_c_3 : Ref sig .tc := ⟨.hbm, 225, rfl⟩
abbrev main_call6_v12 : Ref sig .tc := ⟨.hbm, 226, rfl⟩
abbrev main_call6_v13 : Ref sig .tc := ⟨.hbm, 227, rfl⟩
abbrev main_call6_v14 : Ref sig .tc := ⟨.hbm, 228, rfl⟩
abbrev main_call6_cst : Ref sig .tc := ⟨.hbm, 229, rfl⟩
abbrev main_call6_v15 : Ref sig .tc := ⟨.hbm, 230, rfl⟩
abbrev main_v111 : Ref sig .tc := ⟨.hbm, 231, rfl⟩
abbrev main_call7_c : Ref sig .tc := ⟨.hbm, 232, rfl⟩
abbrev main_call7_v0 : Ref sig .tc := ⟨.hbm, 233, rfl⟩
abbrev main_call7_v1 : Ref sig .tc := ⟨.hbm, 234, rfl⟩
abbrev main_call7_c_0 : Ref sig .tc := ⟨.hbm, 235, rfl⟩
abbrev main_call7_v2 : Ref sig .tc := ⟨.hbm, 236, rfl⟩
abbrev main_call7_v3 : Ref sig .tc := ⟨.hbm, 237, rfl⟩
abbrev main_call7_v4 : Ref sig .tc := ⟨.hbm, 238, rfl⟩
abbrev main_call7_v5 : Ref sig .tc := ⟨.hbm, 239, rfl⟩
abbrev main_call7_c_1 : Ref sig .tc := ⟨.hbm, 240, rfl⟩
abbrev main_call7_c_2 : Ref sig .tc := ⟨.hbm, 241, rfl⟩
abbrev main_call7_v6 : Ref sig .tc := ⟨.hbm, 242, rfl⟩
abbrev main_call7_v7 : Ref sig .tc := ⟨.hbm, 243, rfl⟩
abbrev main_call7_v8 : Ref sig .tc := ⟨.hbm, 244, rfl⟩
abbrev main_call7_v9 : Ref sig .tc := ⟨.hbm, 245, rfl⟩
abbrev main_call7_v10 : Ref sig .tc := ⟨.hbm, 246, rfl⟩
abbrev main_call7_v11 : Ref sig .tc := ⟨.hbm, 247, rfl⟩
abbrev main_call7_c_3 : Ref sig .tc := ⟨.hbm, 248, rfl⟩
abbrev main_call7_v12 : Ref sig .tc := ⟨.hbm, 249, rfl⟩
abbrev main_call7_v13 : Ref sig .tc := ⟨.hbm, 250, rfl⟩
abbrev main_call7_v14 : Ref sig .tc := ⟨.hbm, 251, rfl⟩
abbrev main_call7_cst : Ref sig .tc := ⟨.hbm, 252, rfl⟩
abbrev main_call7_v15 : Ref sig .tc := ⟨.hbm, 253, rfl⟩
abbrev main_v112 : Ref sig .tc := ⟨.hbm, 254, rfl⟩
abbrev main_v113 : Ref sig .tc := ⟨.hbm, 255, rfl⟩
abbrev main_v114 : Ref sig .tc := ⟨.hbm, 256, rfl⟩
abbrev main_cst_22 : Ref sig .tc := ⟨.hbm, 257, rfl⟩
abbrev main_call8_v0 : Ref sig .tc := ⟨.hbm, 258, rfl⟩
abbrev main_call8_v1 : Ref sig .tc := ⟨.hbm, 259, rfl⟩
abbrev main_v115 : Ref sig .tc := ⟨.hbm, 260, rfl⟩
abbrev main_cst_23 : Ref sig .tc := ⟨.hbm, 261, rfl⟩
abbrev main_v116 : Ref sig .tc := ⟨.hbm, 262, rfl⟩
abbrev main_v117 : Ref sig .tc := ⟨.hbm, 263, rfl⟩
abbrev main_v118 : Ref sig .tc := ⟨.hbm, 264, rfl⟩
abbrev main_v119 : Ref sig .tc := ⟨.hbm, 265, rfl⟩
abbrev main_v120 : Ref sig .tc := ⟨.hbm, 266, rfl⟩
abbrev main_cst_24 : Ref sig .tc := ⟨.hbm, 267, rfl⟩
abbrev main_v121 : Ref sig .tc := ⟨.hbm, 268, rfl⟩
abbrev main_v122 : Ref sig .tc := ⟨.hbm, 269, rfl⟩
abbrev main_v123 : Ref sig .tc := ⟨.hbm, 270, rfl⟩
abbrev main_v124 : Ref sig .tc := ⟨.hbm, 271, rfl⟩
abbrev main_v125 : Ref sig .tc := ⟨.hbm, 272, rfl⟩
abbrev main_v126 : Ref sig .tc := ⟨.hbm, 273, rfl⟩
abbrev main_v127 : Ref sig .tc := ⟨.hbm, 274, rfl⟩
abbrev main_v128 : Ref sig .tc := ⟨.hbm, 275, rfl⟩
abbrev main_c_25 : Ref sig .tc := ⟨.hbm, 276, rfl⟩
abbrev main_v129 : Ref sig .tc := ⟨.hbm, 277, rfl⟩
abbrev main_v130 : Ref sig .tc := ⟨.hbm, 278, rfl⟩
abbrev main_v131 : Ref sig .tc := ⟨.hbm, 279, rfl⟩
abbrev main_v132 : Ref sig .tc := ⟨.hbm, 280, rfl⟩
abbrev main_v133 : Ref sig .tc := ⟨.hbm, 281, rfl⟩
abbrev main_v134 : Ref sig .tc := ⟨.hbm, 282, rfl⟩
abbrev main_v135 : Ref sig .tc := ⟨.hbm, 283, rfl⟩
abbrev main_c_26 : Ref sig .tc := ⟨.hbm, 284, rfl⟩
abbrev main_v136 : Ref sig .tc := ⟨.hbm, 285, rfl⟩
abbrev main_v137 : Ref sig .tc := ⟨.hbm, 286, rfl⟩
abbrev main_c_27 : Ref sig .tc := ⟨.hbm, 287, rfl⟩
abbrev main_v138 : Ref sig .tc := ⟨.hbm, 288, rfl⟩
abbrev main_v139 : Ref sig .tc := ⟨.hbm, 289, rfl⟩
abbrev main_c_28 : Ref sig .tc := ⟨.hbm, 290, rfl⟩
abbrev main_c_29 : Ref sig .tc := ⟨.hbm, 291, rfl⟩
abbrev main_call9_v0 : Ref sig .tc := ⟨.hbm, 292, rfl⟩
abbrev main_call9_v1 : Ref sig .tc := ⟨.hbm, 293, rfl⟩
abbrev main_call9_v2 : Ref sig .tc := ⟨.hbm, 294, rfl⟩
abbrev main_call9_v3 : Ref sig .tc := ⟨.hbm, 295, rfl⟩
abbrev main_call9_v4 : Ref sig .tc := ⟨.hbm, 296, rfl⟩
abbrev main_v140 : Ref sig .tc := ⟨.hbm, 297, rfl⟩
abbrev main_call10_c : Ref sig .tc := ⟨.hbm, 298, rfl⟩
abbrev main_call10_v0 : Ref sig .tc := ⟨.hbm, 299, rfl⟩
abbrev main_call10_v1 : Ref sig .tc := ⟨.hbm, 300, rfl⟩
abbrev main_call10_c_0 : Ref sig .tc := ⟨.hbm, 301, rfl⟩
abbrev main_call10_v2 : Ref sig .tc := ⟨.hbm, 302, rfl⟩
abbrev main_call10_v3 : Ref sig .tc := ⟨.hbm, 303, rfl⟩
abbrev main_call10_v4 : Ref sig .tc := ⟨.hbm, 304, rfl⟩
abbrev main_call10_v5 : Ref sig .tc := ⟨.hbm, 305, rfl⟩
abbrev main_call10_c_1 : Ref sig .tc := ⟨.hbm, 306, rfl⟩
abbrev main_call10_c_2 : Ref sig .tc := ⟨.hbm, 307, rfl⟩
abbrev main_call10_v6 : Ref sig .tc := ⟨.hbm, 308, rfl⟩
abbrev main_call10_v7 : Ref sig .tc := ⟨.hbm, 309, rfl⟩
abbrev main_call10_v8 : Ref sig .tc := ⟨.hbm, 310, rfl⟩
abbrev main_call10_v9 : Ref sig .tc := ⟨.hbm, 311, rfl⟩
abbrev main_call10_v10 : Ref sig .tc := ⟨.hbm, 312, rfl⟩
abbrev main_call10_v11 : Ref sig .tc := ⟨.hbm, 313, rfl⟩
abbrev main_call10_c_3 : Ref sig .tc := ⟨.hbm, 314, rfl⟩
abbrev main_call10_v12 : Ref sig .tc := ⟨.hbm, 315, rfl⟩
abbrev main_call10_v13 : Ref sig .tc := ⟨.hbm, 316, rfl⟩
abbrev main_call10_v14 : Ref sig .tc := ⟨.hbm, 317, rfl⟩
abbrev main_call10_cst : Ref sig .tc := ⟨.hbm, 318, rfl⟩
abbrev main_call10_v15 : Ref sig .tc := ⟨.hbm, 319, rfl⟩
abbrev main_v141 : Ref sig .tc := ⟨.hbm, 320, rfl⟩
abbrev main_call11_c : Ref sig .tc := ⟨.hbm, 321, rfl⟩
abbrev main_call11_v0 : Ref sig .tc := ⟨.hbm, 322, rfl⟩
abbrev main_call11_v1 : Ref sig .tc := ⟨.hbm, 323, rfl⟩
abbrev main_call11_c_0 : Ref sig .tc := ⟨.hbm, 324, rfl⟩
abbrev main_call11_v2 : Ref sig .tc := ⟨.hbm, 325, rfl⟩
abbrev main_call11_v3 : Ref sig .tc := ⟨.hbm, 326, rfl⟩
abbrev main_call11_v4 : Ref sig .tc := ⟨.hbm, 327, rfl⟩
abbrev main_call11_v5 : Ref sig .tc := ⟨.hbm, 328, rfl⟩
abbrev main_call11_c_1 : Ref sig .tc := ⟨.hbm, 329, rfl⟩
abbrev main_call11_c_2 : Ref sig .tc := ⟨.hbm, 330, rfl⟩
abbrev main_call11_v6 : Ref sig .tc := ⟨.hbm, 331, rfl⟩
abbrev main_call11_v7 : Ref sig .tc := ⟨.hbm, 332, rfl⟩
abbrev main_call11_v8 : Ref sig .tc := ⟨.hbm, 333, rfl⟩
abbrev main_call11_v9 : Ref sig .tc := ⟨.hbm, 334, rfl⟩
abbrev main_call11_v10 : Ref sig .tc := ⟨.hbm, 335, rfl⟩
abbrev main_call11_v11 : Ref sig .tc := ⟨.hbm, 336, rfl⟩
abbrev main_call11_c_3 : Ref sig .tc := ⟨.hbm, 337, rfl⟩
abbrev main_call11_v12 : Ref sig .tc := ⟨.hbm, 338, rfl⟩
abbrev main_call11_v13 : Ref sig .tc := ⟨.hbm, 339, rfl⟩
abbrev main_call11_v14 : Ref sig .tc := ⟨.hbm, 340, rfl⟩
abbrev main_call11_cst : Ref sig .tc := ⟨.hbm, 341, rfl⟩
abbrev main_call11_v15 : Ref sig .tc := ⟨.hbm, 342, rfl⟩
abbrev main_v142 : Ref sig .tc := ⟨.hbm, 343, rfl⟩
abbrev main_v143 : Ref sig .tc := ⟨.hbm, 344, rfl⟩
abbrev main_v144 : Ref sig .tc := ⟨.hbm, 345, rfl⟩
abbrev main_cst_30 : Ref sig .tc := ⟨.hbm, 346, rfl⟩
abbrev main_call12_v0 : Ref sig .tc := ⟨.hbm, 347, rfl⟩
abbrev main_call12_v1 : Ref sig .tc := ⟨.hbm, 348, rfl⟩
abbrev main_v145 : Ref sig .tc := ⟨.hbm, 349, rfl⟩
abbrev main_cst_31 : Ref sig .tc := ⟨.hbm, 350, rfl⟩
abbrev main_v146 : Ref sig .tc := ⟨.hbm, 351, rfl⟩
abbrev main_v147 : Ref sig .tc := ⟨.hbm, 352, rfl⟩
abbrev main_v148 : Ref sig .tc := ⟨.hbm, 353, rfl⟩
abbrev main_v149 : Ref sig .tc := ⟨.hbm, 354, rfl⟩
abbrev main_v150 : Ref sig .tc := ⟨.hbm, 355, rfl⟩
abbrev main_cst_32 : Ref sig .tc := ⟨.hbm, 356, rfl⟩
abbrev main_v151 : Ref sig .tc := ⟨.hbm, 357, rfl⟩
abbrev main_v152 : Ref sig .tc := ⟨.hbm, 358, rfl⟩
abbrev main_v153 : Ref sig .tc := ⟨.hbm, 359, rfl⟩
abbrev main_v154 : Ref sig .tc := ⟨.hbm, 360, rfl⟩
abbrev main_v155 : Ref sig .tc := ⟨.hbm, 361, rfl⟩
abbrev main_v156 : Ref sig .tc := ⟨.hbm, 362, rfl⟩
abbrev main_v157 : Ref sig .tc := ⟨.hbm, 363, rfl⟩
abbrev main_v158 : Ref sig .tc := ⟨.hbm, 364, rfl⟩
abbrev main_cst_33 : Ref sig .tc := ⟨.hbm, 365, rfl⟩
abbrev main_v159 : Ref sig .tc := ⟨.hbm, 366, rfl⟩
abbrev main_cst_34 : Ref sig .tc := ⟨.hbm, 367, rfl⟩
abbrev main_v160 : Ref sig .tc := ⟨.hbm, 368, rfl⟩
abbrev main_v161 : Ref sig .tc := ⟨.hbm, 369, rfl⟩
abbrev main_v162 : Ref sig .tc := ⟨.hbm, 370, rfl⟩
abbrev main_v163 : Ref sig .tc := ⟨.hbm, 371, rfl⟩
abbrev main_v164 : Ref sig .tc := ⟨.hbm, 372, rfl⟩
abbrev main_v165 : Ref sig .tc := ⟨.hbm, 373, rfl⟩
abbrev main_cst_35 : Ref sig .tc := ⟨.hbm, 374, rfl⟩
abbrev main_v166 : Ref sig .tc := ⟨.hbm, 375, rfl⟩
abbrev main_v167 : Ref sig .tc := ⟨.hbm, 376, rfl⟩
abbrev main_v168 : Ref sig .tc := ⟨.hbm, 377, rfl⟩
abbrev main_v169 : Ref sig .tc := ⟨.hbm, 378, rfl⟩
abbrev main_v170 : Ref sig .tc := ⟨.hbm, 379, rfl⟩
abbrev main_v171 : Ref sig .tc := ⟨.hbm, 380, rfl⟩
abbrev main_v172 : Ref sig .tc := ⟨.hbm, 381, rfl⟩
abbrev main_v173 : Ref sig .tc := ⟨.hbm, 382, rfl⟩
abbrev main_v174 : Ref sig .tc := ⟨.hbm, 383, rfl⟩
abbrev main_v175 : Ref sig .tc := ⟨.hbm, 384, rfl⟩
abbrev main_v176 : Ref sig .tc := ⟨.hbm, 385, rfl⟩
abbrev main_v177 : Ref sig .tc := ⟨.hbm, 386, rfl⟩
abbrev main_v178 : Ref sig .tc := ⟨.hbm, 387, rfl⟩
abbrev main_v179 : Ref sig .tc := ⟨.hbm, 388, rfl⟩
abbrev main_v180 : Ref sig .tc := ⟨.hbm, 389, rfl⟩
abbrev main_v181 : Ref sig .tc := ⟨.hbm, 390, rfl⟩
abbrev main_v182 : Ref sig .tc := ⟨.hbm, 391, rfl⟩
abbrev main_v183 : Ref sig .tc := ⟨.hbm, 392, rfl⟩
abbrev main_v184 : Ref sig .tc := ⟨.hbm, 393, rfl⟩
abbrev main_v185 : Ref sig .tc := ⟨.hbm, 394, rfl⟩
abbrev main_v186 : Ref sig .tc := ⟨.hbm, 395, rfl⟩
abbrev main_cst_36 : Ref sig .tc := ⟨.hbm, 396, rfl⟩
abbrev main_v187 : Ref sig .tc := ⟨.hbm, 397, rfl⟩
abbrev main_v188 : Ref sig .tc := ⟨.hbm, 398, rfl⟩
abbrev main_v189 : Ref sig .tc := ⟨.hbm, 399, rfl⟩
abbrev main_v190 : Ref sig .tc := ⟨.hbm, 400, rfl⟩
abbrev main_v191 : Ref sig .tc := ⟨.hbm, 401, rfl⟩
abbrev main_v192 : Ref sig .tc := ⟨.hbm, 402, rfl⟩
abbrev main_v193 : Ref sig .tc := ⟨.hbm, 403, rfl⟩
abbrev main_cst_37 : Ref sig .tc := ⟨.hbm, 404, rfl⟩
abbrev main_v194 : Ref sig .tc := ⟨.hbm, 405, rfl⟩
abbrev main_v195 : Ref sig .tc := ⟨.hbm, 406, rfl⟩
abbrev main_cst_38 : Ref sig .tc := ⟨.hbm, 407, rfl⟩
abbrev main_v196 : Ref sig .tc := ⟨.hbm, 408, rfl⟩
abbrev main_v197 : Ref sig .tc := ⟨.hbm, 409, rfl⟩
abbrev main_cst_39 : Ref sig .tc := ⟨.hbm, 410, rfl⟩
abbrev main_v198 : Ref sig .tc := ⟨.hbm, 411, rfl⟩
abbrev main_v199 : Ref sig .tc := ⟨.hbm, 412, rfl⟩
abbrev main_v200 : Ref sig .tc := ⟨.hbm, 413, rfl⟩
abbrev main_v201 : Ref sig .tc := ⟨.hbm, 414, rfl⟩
abbrev main_v202 : Ref sig .tc := ⟨.hbm, 415, rfl⟩
abbrev main_v203 : Ref sig .tc := ⟨.hbm, 416, rfl⟩
abbrev main_v204 : Ref sig .tc := ⟨.hbm, 417, rfl⟩
abbrev main_v205 : Ref sig .tc := ⟨.hbm, 418, rfl⟩
abbrev main_v206 : Ref sig .tc := ⟨.hbm, 419, rfl⟩
abbrev main_v207 : Ref sig .tc := ⟨.hbm, 420, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024 : Shape := ⟨2, ![1, 1024]⟩
abbrev S1x1024x3072 : Shape := ⟨3, ![1, 1024, 3072]⟩
abbrev S1x3x512 : Shape := ⟨3, ![1, 3, 512]⟩
abbrev S1x512 : Shape := ⟨2, ![1, 512]⟩
abbrev S128x4x8x64 : Shape := ⟨4, ![128, 4, 8, 64]⟩
abbrev S1x128x2048x8x64 : Shape := ⟨5, ![1, 128, 2048, 8, 64]⟩
abbrev S32768x1024 : Shape := ⟨2, ![32768, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S4x128x8x64 : Shape := ⟨4, ![4, 128, 8, 64]⟩
abbrev S4x128x1x512 : Shape := ⟨4, ![4, 128, 1, 512]⟩
abbrev S_ : Shape := ⟨0, ![]⟩
abbrev S128x2048x8x64 : Shape := ⟨4, ![128, 2048, 8, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4 : Shape := ⟨1, ![4]⟩
abbrev S124 : Shape := ⟨1, ![124]⟩
abbrev S2176 : Shape := ⟨1, ![2176]⟩
abbrev S4x1 : Shape := ⟨2, ![4, 1]⟩
abbrev S1x2176 : Shape := ⟨2, ![1, 2176]⟩
abbrev S4x2176 : Shape := ⟨2, ![4, 2176]⟩
abbrev S1x4x2176 : Shape := ⟨3, ![1, 4, 2176]⟩
abbrev S3x4x2176 : Shape := ⟨3, ![3, 4, 2176]⟩
abbrev S3x4x1x2176 : Shape := ⟨4, ![3, 4, 1, 2176]⟩
abbrev S3x4x8x2176 : Shape := ⟨4, ![3, 4, 8, 2176]⟩
abbrev S96x2176 : Shape := ⟨2, ![96, 2176]⟩
abbrev S128x8x64x2048 : Shape := ⟨4, ![128, 8, 64, 2048]⟩
abbrev S16x4x2048x128 : Shape := ⟨4, ![16, 4, 2048, 128]⟩
abbrev S16x512x2048 : Shape := ⟨3, ![16, 512, 2048]⟩
abbrev S32768x512 : Shape := ⟨2, ![32768, 512]⟩
abbrev S16x2x512 : Shape := ⟨3, ![16, 2, 512]⟩
abbrev S64x96x2176 : Shape := ⟨3, ![64, 96, 2176]⟩
abbrev S512x1024 : Shape := ⟨2, ![512, 1024]⟩
abbrev S4x1x1x512 : Shape := ⟨4, ![4, 1, 1, 512]⟩
abbrev S1x8x64x2048 : Shape := ⟨4, ![1, 8, 64, 2048]⟩
abbrev S1x4x512x128 : Shape := ⟨4, ![1, 4, 512, 128]⟩
abbrev S1x512x512 : Shape := ⟨3, ![1, 512, 512]⟩
abbrev S512x512 : Shape := ⟨2, ![512, 512]⟩
abbrev S1x2x512 : Shape := ⟨3, ![1, 2, 512]⟩
abbrev S1x96x2176 : Shape := ⟨3, ![1, 96, 2176]⟩
abbrev S520x512 : Shape := ⟨2, ![520, 512]⟩
abbrev S4x512 : Shape := ⟨2, ![4, 512]⟩
abbrev S8x64x2048 : Shape := ⟨3, ![8, 64, 2048]⟩
abbrev S8x512 : Shape := ⟨2, ![8, 512]⟩
abbrev S124x512 : Shape := ⟨2, ![124, 512]⟩
abbrev S96x512 : Shape := ⟨2, ![96, 512]⟩
abbrev S512x2048 : Shape := ⟨2, ![512, 2048]⟩
abbrev S128x512 : Shape := ⟨2, ![128, 512]⟩
abbrev S96x2048 : Shape := ⟨2, ![96, 2048]⟩
abbrev S96x128 : Shape := ⟨2, ![96, 128]⟩
abbrev S96 : Shape := ⟨1, ![96]⟩
abbrev S96x1 : Shape := ⟨2, ![96, 1]⟩
abbrev S32x1 : Shape := ⟨2, ![32, 1]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1x1x256x128 : Shape := ⟨4, ![1, 1, 256, 128]⟩
abbrev S512x256 : Shape := ⟨2, ![512, 256]⟩
abbrev S1x512x256 : Shape := ⟨3, ![1, 512, 256]⟩
abbrev S2x512 : Shape := ⟨2, ![2, 512]⟩

abbrev nBuf : Space → Nat
  | .hbm => 231
  | .vmem => 33
  | .smem => 0
  | _ => 0

abbrev hbmTy0_0 (i : Nat) : BufTy := match i % 128 with
  | 0 => ⟨S16x2048x1024, .f32⟩
  | 1 => ⟨S1x1024, .f32⟩
  | 2 => ⟨S1x1024x3072, .f32⟩
  | 3 => ⟨S1x3x512, .f32⟩
  | 4 => ⟨S1x512, .f32⟩
  | 5 => ⟨S128x4x8x64, .f32⟩
  | 6 => ⟨S128x4x8x64, .f32⟩
  | 7 => ⟨S1x128x2048x8x64, .f32⟩
  | 8 => ⟨S32768x1024, .f32⟩
  | 9 => ⟨S1024, .f32⟩
  | 10 => ⟨S1x1024, .f32⟩
  | 11 => ⟨S1024x3072, .f32⟩
  | 12 => ⟨S1024x3072, .bf16⟩
  | 13 => ⟨S3x512, .f32⟩
  | 14 => ⟨S512, .f32⟩
  | 15 => ⟨S1x512, .f32⟩
  | 16 => ⟨S4x128x8x64, .f32⟩
  | 17 => ⟨S4x128x1x512, .f32⟩
  | 18 => ⟨S_, .f32⟩
  | 19 => ⟨S4x128x1x512, .f32⟩
  | 20 => ⟨S4x128x1x512, .f32⟩
  | 21 => ⟨S4x128x8x64, .f32⟩
  | 22 => ⟨S4x128x1x512, .f32⟩
  | 23 => ⟨S128x2048x8x64, .f32⟩
  | 24 => ⟨S2048, .i32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S2048, .f32⟩
  | 37 => ⟨S2048x1, .f32⟩
  | 38 => ⟨S1x32, .f32⟩
  | 39 => ⟨S2048x32, .f32⟩
  | 40 => ⟨S2048x32, .f32⟩
  | 41 => ⟨S2048x32, .f32⟩
  | 42 => ⟨S2048x32, .f32⟩
  | 43 => ⟨S2048x32, .f32⟩
  | 44 => ⟨S_, .f32⟩
  | 45 => ⟨S2048x32, .f32⟩
  | 46 => ⟨S2048x64, .f32⟩
  | 47 => ⟨S1x2048x1x64, .f32⟩
  | 48 => ⟨S1x2048x2x64, .f32⟩
  | 49 => ⟨S2048x128, .f32⟩
  | 50 => ⟨S2048x32, .f32⟩
  | 51 => ⟨S2048x64, .f32⟩
  | 52 => ⟨S1x2048x1x64, .f32⟩
  | 53 => ⟨S1x2048x2x64, .f32⟩
  | 54 => ⟨S2048x128, .f32⟩
  | 55 => ⟨S2048x64, .f32⟩
  | 56 => ⟨S1x2048x1x64, .f32⟩
  | 57 => ⟨S1x2048x2x64, .f32⟩
  | 58 => ⟨S2048x128, .f32⟩
  | 59 => ⟨S2048, .i32⟩
  | 60 => ⟨S_, .i32⟩
  | 61 => ⟨S2048, .i32⟩
  | 62 => ⟨S2048, .i32⟩
  | 63 => ⟨S4, .i32⟩
  | 64 => ⟨S_, .i32⟩
  | 65 => ⟨S124, .i32⟩
  | 66 => ⟨S124, .i32⟩
  | 67 => ⟨S2176, .i32⟩
  | 68 => ⟨S4, .i32⟩
  | 69 => ⟨S4x1, .i32⟩
  | 70 => ⟨S1x2176, .i32⟩
  | 71 => ⟨S4x2176, .i32⟩
  | 72 => ⟨S4x2176, .i32⟩
  | 73 => ⟨S4x2176, .i32⟩
  | 74 => ⟨S_, .i32⟩
  | 75 => ⟨S4x2176, .i32⟩
  | 76 => ⟨S4x2176, .i1⟩
  | 77 => ⟨S_, .i32⟩
  | 78 => ⟨S4x2176, .i32⟩
  | 79 => ⟨S4x2176, .i1⟩
  | 80 => ⟨S4x2176, .i1⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S4x2176, .i32⟩
  | 88 => ⟨S4x2176, .i32⟩
  | 89 => ⟨S_, .i32⟩
  | 90 => ⟨S4x2176, .i32⟩
  | 91 => ⟨S4x2176, .i1⟩
  | 92 => ⟨S_, .i32⟩
  | 93 => ⟨S4x2176, .i32⟩
  | 94 => ⟨S4x2176, .i1⟩
  | 95 => ⟨S_, .i32⟩
  | 96 => ⟨S_, .i1⟩
  | 97 => ⟨S4x2176, .i1⟩
  | 98 => ⟨S4x2176, .i1⟩
  | 99 => ⟨S4x2176, .i1⟩
  | 100 => ⟨S4x2176, .i32⟩
  | 101 => ⟨S4x2176, .i32⟩
  | 102 => ⟨S4x2176, .i32⟩
  | 103 => ⟨S_, .i32⟩
  | 104 => ⟨S4x2176, .i32⟩
  | 105 => ⟨S4x2176, .i1⟩
  | 106 => ⟨S4x2176, .i1⟩
  | 107 => ⟨S_, .i32⟩
  | 108 => ⟨S2176, .i32⟩
  | 109 => ⟨S2176, .i32⟩
  | 110 => ⟨S_, .i32⟩
  | 111 => ⟨S2176, .i32⟩
  | 112 => ⟨S2176, .i1⟩
  | 113 => ⟨S1x2176, .i1⟩
  | 114 => ⟨S4x2176, .i1⟩
  | 115 => ⟨S4x2176, .i1⟩
  | 116 => ⟨S_, .f32⟩
  | 117 => ⟨S_, .f32⟩
  | 118 => ⟨S4x2176, .f32⟩
  | 119 => ⟨S4x2176, .f32⟩
  | 120 => ⟨S4x2176, .f32⟩
  | 121 => ⟨S_, .i32⟩
  | 122 => ⟨S4x2176, .i32⟩
  | 123 => ⟨S4x2176, .i1⟩
  | 124 => ⟨S_, .i32⟩
  | 125 => ⟨S4x2176, .i32⟩
  | 126 => ⟨S4x2176, .i1⟩
  | 127 => ⟨S4x2176, .i1⟩
  | _ => ⟨S16x2048x1024, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S4x2176, .i32⟩
  | 7 => ⟨S4x2176, .i32⟩
  | 8 => ⟨S_, .i32⟩
  | 9 => ⟨S4x2176, .i32⟩
  | 10 => ⟨S4x2176, .i1⟩
  | 11 => ⟨S_, .i32⟩
  | 12 => ⟨S4x2176, .i32⟩
  | 13 => ⟨S4x2176, .i1⟩
  | 14 => ⟨S_, .i32⟩
  | 15 => ⟨S_, .i1⟩
  | 16 => ⟨S4x2176, .i1⟩
  | 17 => ⟨S4x2176, .i1⟩
  | 18 => ⟨S4x2176, .i1⟩
  | 19 => ⟨S4x2176, .i32⟩
  | 20 => ⟨S4x2176, .i32⟩
  | 21 => ⟨S4x2176, .i32⟩
  | 22 => ⟨S_, .i32⟩
  | 23 => ⟨S4x2176, .i32⟩
  | 24 => ⟨S4x2176, .i1⟩
  | 25 => ⟨S4x2176, .i1⟩
  | 26 => ⟨S_, .i32⟩
  | 27 => ⟨S2176, .i32⟩
  | 28 => ⟨S2176, .i32⟩
  | 29 => ⟨S_, .i32⟩
  | 30 => ⟨S2176, .i32⟩
  | 31 => ⟨S2176, .i1⟩
  | 32 => ⟨S1x2176, .i1⟩
  | 33 => ⟨S4x2176, .i1⟩
  | 34 => ⟨S4x2176, .i1⟩
  | 35 => ⟨S_, .f32⟩
  | 36 => ⟨S_, .f32⟩
  | 37 => ⟨S4x2176, .f32⟩
  | 38 => ⟨S4x2176, .f32⟩
  | 39 => ⟨S4x2176, .f32⟩
  | 40 => ⟨S_, .i32⟩
  | 41 => ⟨S4x2176, .i32⟩
  | 42 => ⟨S4x2176, .i1⟩
  | 43 => ⟨S_, .i32⟩
  | 44 => ⟨S4x2176, .i32⟩
  | 45 => ⟨S4x2176, .i1⟩
  | 46 => ⟨S4x2176, .i1⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S4x2176, .i32⟩
  | 54 => ⟨S4x2176, .i32⟩
  | 55 => ⟨S_, .i32⟩
  | 56 => ⟨S4x2176, .i32⟩
  | 57 => ⟨S4x2176, .i1⟩
  | 58 => ⟨S_, .i32⟩
  | 59 => ⟨S4x2176, .i32⟩
  | 60 => ⟨S4x2176, .i1⟩
  | 61 => ⟨S_, .i32⟩
  | 62 => ⟨S_, .i1⟩
  | 63 => ⟨S4x2176, .i1⟩
  | 64 => ⟨S4x2176, .i1⟩
  | 65 => ⟨S4x2176, .i1⟩
  | 66 => ⟨S4x2176, .i32⟩
  | 67 => ⟨S4x2176, .i32⟩
  | 68 => ⟨S4x2176, .i32⟩
  | 69 => ⟨S_, .i32⟩
  | 70 => ⟨S4x2176, .i32⟩
  | 71 => ⟨S4x2176, .i1⟩
  | 72 => ⟨S4x2176, .i1⟩
  | 73 => ⟨S_, .i32⟩
  | 74 => ⟨S2176, .i32⟩
  | 75 => ⟨S2176, .i32⟩
  | 76 => ⟨S_, .i32⟩
  | 77 => ⟨S2176, .i32⟩
  | 78 => ⟨S2176, .i1⟩
  | 79 => ⟨S1x2176, .i1⟩
  | 80 => ⟨S4x2176, .i1⟩
  | 81 => ⟨S4x2176, .i1⟩
  | 82 => ⟨S_, .f32⟩
  | 83 => ⟨S_, .f32⟩
  | 84 => ⟨S4x2176, .f32⟩
  | 85 => ⟨S4x2176, .f32⟩
  | 86 => ⟨S4x2176, .f32⟩
  | 87 => ⟨S1x4x2176, .f32⟩
  | 88 => ⟨S1x4x2176, .f32⟩
  | 89 => ⟨S1x4x2176, .f32⟩
  | 90 => ⟨S3x4x2176, .f32⟩
  | 91 => ⟨S3x4x1x2176, .f32⟩
  | 92 => ⟨S3x4x8x2176, .f32⟩
  | 93 => ⟨S96x2176, .f32⟩
  | 94 => ⟨S128x8x64x2048, .f32⟩
  | 95 => ⟨S16x4x2048x128, .f32⟩
  | 96 => ⟨S16x4x2048x128, .f32⟩
  | 97 => ⟨S16x4x2048x128, .f32⟩
  | 98 => ⟨S16x512x2048, .f32⟩
  | 99 => ⟨S16x512x2048, .f32⟩
  | 100 => ⟨S32768x512, .bf16⟩
  | 101 => ⟨S16x2x512, .f32⟩
  | 102 => ⟨S64x96x2176, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S3x512, .f32⟩
  | .local _ .vmem, ⟨8, _⟩ => ⟨S1x512, .f32⟩
  | .local _ .vmem, ⟨9, _⟩ => ⟨S4x1x1x512, .f32⟩
  | .local _ .vmem, ⟨10, _⟩ => ⟨S4x1x1x512, .f32⟩
  | .local _ .vmem, ⟨11, _⟩ => ⟨S4x1x1x512, .f32⟩
  | .local _ .vmem, ⟨12, _⟩ => ⟨S4x1x1x512, .f32⟩
  | .local _ .vmem, ⟨13, _⟩ => ⟨S1x8x64x2048, .f32⟩
  | .local _ .vmem, ⟨14, _⟩ => ⟨S1x8x64x2048, .f32⟩
  | .local _ .vmem, ⟨15, _⟩ => ⟨S96x2176, .f32⟩
  | .local _ .vmem, ⟨16, _⟩ => ⟨S1x4x512x128, .f32⟩
  | .local _ .vmem, ⟨17, _⟩ => ⟨S1x4x512x128, .f32⟩
  | .local _ .vmem, ⟨18, _⟩ => ⟨S1x4x512x128, .f32⟩
  | .local _ .vmem, ⟨19, _⟩ => ⟨S1x4x512x128, .f32⟩
  | .local _ .vmem, ⟨20, _⟩ => ⟨S1x4x512x128, .f32⟩
  | .local _ .vmem, ⟨21, _⟩ => ⟨S1x4x512x128, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S512x512, .bf16⟩
  | .local _ .vmem, ⟨27, _⟩ => ⟨S512x512, .bf16⟩
  | .local _ .vmem, ⟨28, _⟩ => ⟨S1x2x512, .f32⟩
  | .local _ .vmem, ⟨29, _⟩ => ⟨S1x2x512, .f32⟩
  | .local _ .vmem, ⟨30, _⟩ => ⟨S1x96x2176, .bf16⟩
  | .local _ .vmem, ⟨31, _⟩ => ⟨S1x96x2176, .bf16⟩
  | .local _ .vmem, ⟨32, _⟩ => ⟨S520x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_5 : Ref sig .tc := ⟨.hbm, 74, rfl⟩
abbrev main_v59 : Ref sig .tc := ⟨.hbm, 75, rfl⟩
abbrev main_v60 : Ref sig .tc := ⟨.hbm, 76, rfl⟩
abbrev main_c_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_7 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_c_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_c_1 : Ref sig .tc := ⟨.hbm, 89, rfl⟩
abbrev main_call0_v5 : Ref sig .tc := ⟨.hbm, 90, rfl⟩
abbrev main_call0_v6 : Ref sig .tc := ⟨.hbm, 91, rfl⟩
abbrev main_call0_c_2 : Ref sig .tc := ⟨.hbm, 92, rfl⟩
abbrev main_call0_v7 : Ref sig .tc := ⟨.hbm, 93, rfl⟩
abbrev main_call0_v8 : Ref sig .tc := ⟨.hbm, 94, rfl⟩
abbrev main_call0_c_3 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_v12 : Ref sig .tc := ⟨.hbm, 99, rfl⟩
abbrev main_call0_v13 : Ref sig .tc := ⟨.hbm, 100, rfl⟩
abbrev main_call0_v14 : Ref sig .tc := ⟨.hbm, 101, rfl⟩
abbrev main_v64 : Ref sig .tc := ⟨.hbm, 102, rfl⟩
abbrev main_c_8 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_9 : Ref sig .tc := ⟨.hbm, 107, rfl⟩
abbrev main_v68 : Ref sig .tc := ⟨.hbm, 108, rfl⟩
abbrev main_v69 : Ref sig .tc := ⟨.hbm, 109, rfl⟩
abbrev main_c_10 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_11 : Ref sig .tc := ⟨.hbm, 116, rfl⟩
abbrev main_cst_12 : Ref sig .tc := ⟨.hbm, 117, rfl⟩
abbrev main_call1_v0 : Ref sig .tc := ⟨.hbm, 118, rfl⟩
abbrev main_call1_v1 : Ref sig .tc := ⟨.hbm, 119, rfl⟩
abbrev main_v75 : Ref sig .tc := ⟨.hbm, 120, rfl⟩
abbrev main_c_13 : Ref sig .tc := ⟨.hbm, 121, rfl⟩
abbrev main_v76 : Ref sig .tc := ⟨.hbm, 122, rfl⟩
abbrev main_v77 : Ref sig .tc := ⟨.hbm, 123, rfl⟩
abbrev main_c_14 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_15 : Ref sig .tc := ⟨.hbm, 128, rfl⟩
abbrev main_call2_v0 : Ref sig .tc := ⟨.hbm, 129, rfl⟩
abbrev main_call2_c : Ref sig .tc := ⟨.hbm, 130, rfl⟩
abbrev main_call2_v1 : Ref sig .tc := ⟨.hbm, 131, rfl⟩
abbrev main_call2_c_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_c_1 : Ref sig .tc := ⟨.hbm, 136, rfl⟩
abbrev main_call2_v5 : Ref sig .tc := ⟨.hbm, 137, rfl⟩
abbrev main_call2_v6 : Ref sig .tc := ⟨.hbm, 138, rfl⟩
abbrev main_call2_c_2 : Ref sig .tc := ⟨.hbm, 139, rfl⟩
abbrev main_call2_v7 : Ref sig .tc := ⟨.hbm, 140, rfl⟩
abbrev main_call2_v8 : Ref sig .tc := ⟨.hbm, 141, rfl⟩
abbrev main_call2_c_3 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_v12 : Ref sig .tc := ⟨.hbm, 146, rfl⟩
abbrev main_call2_v13 : Ref sig .tc := ⟨.hbm, 147, rfl⟩
abbrev main_call2_v14 : Ref sig .tc := ⟨.hbm, 148, rfl⟩
abbrev main_v81 : Ref sig .tc := ⟨.hbm, 149, rfl⟩
abbrev main_c_16 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_c_17 : Ref sig .tc := ⟨.hbm, 154, rfl⟩
abbrev main_v85 : Ref sig .tc := ⟨.hbm, 155, rfl⟩
abbrev main_v86 : Ref sig .tc := ⟨.hbm, 156, rfl⟩
abbrev main_c_18 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_cst_19 : Ref sig .tc := ⟨.hbm, 163, rfl⟩
abbrev main_cst_20 : Ref sig .tc := ⟨.hbm, 164, rfl⟩
abbrev main_call3_v0 : Ref sig .tc := ⟨.hbm, 165, rfl⟩
abbrev main_call3_v1 : Ref sig .tc := ⟨.hbm, 166, rfl⟩
abbrev main_v92 : Ref sig .tc := ⟨.hbm, 167, rfl⟩
abbrev main_c_21 : Ref sig .tc := ⟨.hbm, 168, rfl⟩
abbrev main_v93 : Ref sig .tc := ⟨.hbm, 169, rfl⟩
abbrev main_v94 : Ref sig .tc := ⟨.hbm, 170, rfl⟩
abbrev main_c_22 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_c_23 : Ref sig .tc := ⟨.hbm, 175, rfl⟩
abbrev main_call4_v0 : Ref sig .tc := ⟨.hbm, 176, rfl⟩
abbrev main_call4_c : Ref sig .tc := ⟨.hbm, 177, rfl⟩
abbrev main_call4_v1 : Ref sig .tc := ⟨.hbm, 178, rfl⟩
abbrev main_call4_c_0 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_call4_c_1 : Ref sig .tc := ⟨.hbm, 183, rfl⟩
abbrev main_call4_v5 : Ref sig .tc := ⟨.hbm, 184, rfl⟩
abbrev main_call4_v6 : Ref sig .tc := ⟨.hbm, 185, rfl⟩
abbrev main_call4_c_2 : Ref sig .tc := ⟨.hbm, 186, rfl⟩
abbrev main_call4_v7 : Ref sig .tc := ⟨.hbm, 187, rfl⟩
abbrev main_call4_v8 : Ref sig .tc := ⟨.hbm, 188, rfl⟩
abbrev main_call4_c_3 : Ref sig .tc := ⟨.hbm, 189, rfl⟩
abbrev main_call4_v9 : Ref sig .tc := ⟨.hbm, 190, rfl⟩
abbrev main_call4_v10 : Ref sig .tc := ⟨.hbm, 191, rfl⟩
abbrev main_call4_v11 : Ref sig .tc := ⟨.hbm, 192, rfl⟩
abbrev main_call4_v12 : Ref sig .tc := ⟨.hbm, 193, rfl⟩
abbrev main_call4_v13 : Ref sig .tc := ⟨.hbm, 194, rfl⟩
abbrev main_call4_v14 : Ref sig .tc := ⟨.hbm, 195, rfl⟩
abbrev main_v98 : Ref sig .tc := ⟨.hbm, 196, rfl⟩
abbrev main_c_24 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_c_25 : Ref sig .tc := ⟨.hbm, 201, rfl⟩
abbrev main_v102 : Ref sig .tc := ⟨.hbm, 202, rfl⟩
abbrev main_v103 : Ref sig .tc := ⟨.hbm, 203, rfl⟩
abbrev main_c_26 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_cst_27 : Ref sig .tc := ⟨.hbm, 210, rfl⟩
abbrev main_cst_28 : Ref sig .tc := ⟨.hbm, 211, rfl⟩
abbrev main_call5_v0 : Ref sig .tc := ⟨.hbm, 212, rfl⟩
abbrev main_call5_v1 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118_0 : Ref sig .tc := ⟨.hbm, 223, rfl⟩
abbrev main_v118_1 : Ref sig .tc := ⟨.hbm, 224, rfl⟩
abbrev main_v118_2 : Ref sig .tc := ⟨.hbm, 225, rfl⟩
abbrev main_v118_3 : Ref sig .tc := ⟨.hbm, 226, rfl⟩
abbrev main_v118_4 : Ref sig .tc := ⟨.hbm, 227, rfl⟩
abbrev main_v118_5 : Ref sig .tc := ⟨.hbm, 228, rfl⟩
abbrev main_v118_6 : Ref sig .tc := ⟨.hbm, 229, rfl⟩
abbrev main_v118_7 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c4_i32 : BitVec 32 := 4#32
  let c0_i32_29 : BitVec 32 := 0#32
  let v101 : BitVec 1 := Scalar.cmpi .eq c4_i32 c0_i32_29
  let c1_i32_30 : BitVec 32 := 1#32
  let v102 : BitVec 32 := Scalar.select v101 c1_i32_30 c4_i32
  let v103 : BitVec 32 := Scalar.remsi arg0 v102
  let c0_i32_32 : BitVec 32 := 0#32
  let v105 : BitVec 1 := Scalar.cmpi .slt v103 c0_i32_32
  let c0_i32_33 : BitVec 32 := 0#32
  let v106 : BitVec 1 := Scalar.cmpi .slt v102 c0_i32_33
  let v107 : BitVec 1 := Scalar.xori v105 v106
  let c0_i32_31 : BitVec 32 := 0#32
  let v104 : BitVec 1 := Scalar.cmpi .ne v103 c0_i32_31
  let v108 : BitVec 1 := Scalar.andi v107 v104
  let v109 : BitVec 32 := Scalar.addi v103 v102
  let v110 : BitVec 32 := Scalar.select v108 v109 v103
  let c512_i32 : BitVec 32 := 512#32
  let v188 : BitVec 32 := Scalar.muli v110 c512_i32
  let c0_i32_84 : BitVec 32 := 0#32
  let v189 : BitVec 32 := Scalar.addi v188 c0_i32_84
  v189
def k0_off1 (i : grid0.Coords) (c0_i32_84 : BitVec 32) : Fin 2 → Nat :=
  let arg0 : BitVec 32 := BitVec.ofNat 32 (i 0).val
  let c4_i32 : BitVec 32 := 4#32
  let c0_i32_29 : BitVec 32 := 0#32
  let v101 : BitVec 1 := Scalar.cmpi .eq c4_i32 c0_i32_29
  let c1_i32_30 : BitVec 32 := 1#32
  let v102 : BitVec 32 := Scalar.select v101 c1_i32_30 c4_i32
  let v103 : BitVec 32 := Scalar.remsi arg0 v102
  let c0_i32_32 : BitVec 32 := 0#32
  let v105 : BitVec 1 := Scalar.cmpi .slt v103 c0_i32_32
  let c0_i32_33 : BitVec 32 := 0#32
  let v106 : BitVec 1 := Scalar.cmpi .slt v102 c0_i32_33
  let v107 : BitVec 1 := Scalar.xori v105 v106
  let c0_i32_31 : BitVec 32 := 0#32
  let v104 : BitVec 1 := Scalar.cmpi .ne v103 c0_i32_31
  let v108 : BitVec 1 := Scalar.andi v107 v104
  let v109 : BitVec 32 := Scalar.addi v103 v102
  let v110 : BitVec 32 := Scalar.select v108 v109 v103
  let c512_i32 : BitVec 32 := 512#32
  let v188 : BitVec 32 := Scalar.muli v110 c512_i32
  let v189 : BitVec 32 := Scalar.addi v188 c0_i32_84
  let v190 : BitVec 32 := v189
  let v191 : Index := Scalar.indexCast v190
  let c0_85 : Index := 0#32
  ![v191.toNat, 0]
def k0_mult2 (i : grid0.Coords) : BitVec 32 :=
  let arg0 : BitVec 32 := BitVec.ofNat 32 (i 0).val
  let c4_i32 : BitVec 32 := 4#32
  let c0_i32_29 : BitVec 32 := 0#32
  let v101 : BitVec 1 := Scalar.cmpi .eq c4_i32 c0_i32_29
  let c1_i32_30 : BitVec 32 := 1#32
  let v102 : BitVec 32 := Scalar.select v101 c1_i32_30 c4_i32
  let v103 : BitVec 32 := Scalar.remsi arg0 v102
  let c0_i32_32 : BitVec 32 := 0#32
  let v105 : BitVec 1 := Scalar.cmpi .slt v103 c0_i32_32
  let c0_i32_33 : BitVec 32 := 0#32
  let v106 : BitVec 1 := Scalar.cmpi .slt v102 c0_i32_33
  let v107 : BitVec 1 := Scalar.xori v105 v106
  let c0_i32_31 : BitVec 32 := 0#32
  let v104 : BitVec 1 := Scalar.cmpi .ne v103 c0_i32_31
  let v108 : BitVec 1 := Scalar.andi v107 v104
  let v109 : BitVec 32 := Scalar.addi v103 v102
  let v110 : BitVec 32 := Scalar.select v108 v109 v103
  let c512_i32_170 : BitVec 32 := 512#32
  let v361 : BitVec 32 := Scalar.muli v110 c512_i32_170
  let c256_i32 : BitVec 32 := 256#32
  let v362 : BitVec 32 := Scalar.addi v361 c256_i32
  v362
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_9 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_10 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S96x2176 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x4x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x96x2176 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S16x2048x1024 : Shape := ⟨3, ![16, 2048, 1024]⟩
abbrev S1x1024 : Shape := ⟨2, ![1, 1024]⟩
abbrev S1x1024x3072 : Shape := ⟨3, ![1, 1024, 3072]⟩
abbrev S1x3x512 : Shape := ⟨3, ![1, 3, 512]⟩
abbrev S1x512 : Shape := ⟨2, ![1, 512]⟩
abbrev S128x4x8x64 : Shape := ⟨4, ![128, 4, 8, 64]⟩
abbrev S1x128x2048x8x64 : Shape := ⟨5, ![1, 128, 2048, 8, 64]⟩
abbrev S2048 : Shape := ⟨1, ![2048]⟩
abbrev S_ : Shape := ⟨0, ![]⟩
abbrev S16x2x512 : Shape := ⟨3, ![16, 2, 512]⟩
abbrev S1024 : Shape := ⟨1, ![1024]⟩
abbrev S1024x3072 : Shape := ⟨2, ![1024, 3072]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S16x2048x512 : Shape := ⟨3, ![16, 2048, 512]⟩
abbrev S16x2048x8x64 : Shape := ⟨4, ![16, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x8x32 : Shape := ⟨4, ![16, 2048, 8, 32]⟩
abbrev S16x2050x512 : Shape := ⟨3, ![16, 2050, 512]⟩
abbrev S16x512x2048 : Shape := ⟨3, ![16, 512, 2048]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3072, .f32⟩
  | .hbm, ⟨3, _⟩ => ⟨S1x3x512, .f32⟩
  | .hbm, ⟨4, _⟩ => ⟨S1x512, .f32⟩
  | .hbm, ⟨5, _⟩ => ⟨S128x4x8x64, .f32⟩
  | .hbm, ⟨6, _⟩ => ⟨S128x4x8x64, .f32⟩
  | .hbm, ⟨7, _⟩ => ⟨S1x128x2048x8x64, .f32⟩
  | .hbm, ⟨8, _⟩ => ⟨S2048, .i32⟩
  | .hbm, ⟨9, _⟩ => ⟨S_, .f32⟩
  | .hbm, ⟨10, _⟩ => ⟨S16x2x512, .f32⟩
  | .hbm, ⟨11, _⟩ => ⟨S1024, .f32⟩
  | .hbm, ⟨12, _⟩ => ⟨S1024x3072, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x2048x3072, .f32⟩
  | .hbm, ⟨30, _⟩ => ⟨S16x2048x512, .f32⟩
  | .hbm, ⟨31, _⟩ => ⟨S16x2048x512, .f32⟩
  | .hbm, ⟨32, _⟩ => ⟨S16x2048x512, .f32⟩
  | .hbm, ⟨33, _⟩ => ⟨S16x2048x512, .f32⟩
  | .hbm, ⟨34, _⟩ => ⟨S16x2048x512, .f32⟩
  | .hbm, ⟨35, _⟩ => ⟨S16x2048x512, .f32⟩
  | .hbm, ⟨36, _⟩ => ⟨S16x2048x8x64, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S2048, .f32⟩
  | .hbm, ⟨49, _⟩ => ⟨S2048x1, .f32⟩
  | .hbm, ⟨50, _⟩ => ⟨S1x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S1x2048x1x32, .f32⟩
  | .hbm, ⟨56, _⟩ => ⟨S2048x32, .f32⟩
  | .hbm, ⟨57, _⟩ => ⟨S1x2048x1x32, .f32⟩
  | .hbm, ⟨58, _⟩ => ⟨S16x2048x8x32, .f32⟩
  | .hbm, ⟨59, _⟩ => ⟨S16x2048x8x32, .f32⟩
  | .hbm, ⟨60, _⟩ => ⟨S16x2048x8x32, .f32⟩
  | .hbm, ⟨61, _⟩ => ⟨S16x2048x8x32, .f32⟩
  | .hbm, ⟨62, _⟩ => ⟨S16x2048x8x32, .f32⟩
  | .hbm, ⟨63, _⟩ => ⟨S16x2048x8x32, .f32⟩
  | .hbm, ⟨64, _⟩ => ⟨S16x2048x8x32, .f32⟩
  | .hbm, ⟨65, _⟩ => ⟨S16x2048x8x32, .f32⟩
  | .hbm, ⟨66, _⟩ => ⟨S16x2048x8x32, .f32⟩
  | .hbm, ⟨67, _⟩ => ⟨S16x2048x8x32, .f32⟩
  | .hbm, ⟨68, _⟩ => ⟨S16x2048x8x32, .f32⟩
  | .hbm, ⟨69, _⟩ => ⟨S16x2048x8x32, .f32⟩
  | .hbm, ⟨70, _⟩ => ⟨S16x2048x8x64, .f32⟩
  | .hbm, ⟨71, _⟩ => ⟨S16x2048x512, .f32⟩
  | .hbm, ⟨72, _⟩ => ⟨S16x2048x512, .f32⟩
  | .hbm, ⟨73, _⟩ => ⟨S16x2050x512, .f32⟩
  | .hbm, ⟨74, _⟩ => ⟨S16x2x512, .f32⟩
  | .hbm, ⟨75, _⟩ => ⟨S16x512x2048, .f32⟩
  | .hbm, ⟨76, _⟩ => ⟨S16x512x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Kernel3.lean ====
abbrev S128x4x1024 : Shape := ⟨3, ![128, 4, 1024]⟩
abbrev S512x512 : Shape := ⟨2, ![512, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x128x1024 : Shape := ⟨3, ![4, 128, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 10
  | .smem => 0
  | _ => 0

abbrev bufTy : (tb : Table) → Fin (tcTables nBuf tb) → BufTy
  | .hbm, ⟨0, _⟩ => ⟨S128x4x1024, .f32⟩
  | .hbm, ⟨1, _⟩ => ⟨S512x512, .f32⟩
  | .hbm, ⟨2, _⟩ => ⟨S512x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1x1024, .f32⟩
  | .hbm, ⟨9, _⟩ => ⟨S4x128x1024, .f32⟩
  | .hbm, ⟨10, _⟩ => ⟨S512x1024, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x4096, .f32⟩
  | .hbm, ⟨18, _⟩ => ⟨S1024x4096, .bf16⟩
  | .hbm, ⟨19, _⟩ => ⟨S4096x1024, .f32⟩
  | .hbm, ⟨20, _⟩ => ⟨S4096x1024, .bf16⟩
  | .hbm, ⟨21, _⟩ => ⟨S1024, .f32⟩
  | .hbm, ⟨22, _⟩ => ⟨S1x1024, .f32⟩
  | .hbm, ⟨23, _⟩ => ⟨S512x1024, .f32⟩
  | .local _ .vmem, ⟨0, _⟩ => ⟨S512x1024, .f32⟩
  | .local _ .vmem, ⟨1, _⟩ => ⟨S512x512, .f32⟩
  | .local _ .vmem, ⟨2, _⟩ => ⟨S512x512, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference3Ideal.lean ====
abbrev S128x4x1024 : Shape := ⟨3, ![128, 4, 1024]⟩
abbrev S512x512 : Shape := ⟨2, ![512, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1024x1024 : Shape := ⟨2, ![1024, 1024]⟩
abbrev S4x128x1024 : Shape := ⟨3, ![4, 128, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 76
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x512, .f32⟩
  | .hbm, ⟨2, _⟩ => ⟨S512x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1x1024, .f32⟩
  | .hbm, ⟨9, _⟩ => ⟨S512x512, .f32⟩
  | .hbm, ⟨10, _⟩ => ⟨S512x1024, .f32⟩
  | .hbm, ⟨11, _⟩ => ⟨S1024x1024, .f32⟩
  | .hbm, ⟨12, _⟩ => ⟨S512x1024, .f32⟩
  | .hbm, ⟨13, _⟩ => ⟨S4x128x1024, .f32⟩
  | .hbm, ⟨14, _⟩ => ⟨S512x1024, .f32⟩
  | .hbm, ⟨15, _⟩ => ⟨S1024, .f32⟩
  | .hbm, ⟨16, _⟩ => ⟨S512x1024, .f32⟩
  | .hbm, ⟨17, _⟩ => ⟨S_, .f32⟩
  | .hbm, ⟨18, _⟩ => ⟨S512, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x1024, .f32⟩
  | .hbm, ⟨28, _⟩ => ⟨S512x1024, .f32⟩
  | .hbm, ⟨29, _⟩ => ⟨S1x1024, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S1024, .f32⟩
  | .hbm, ⟨34, _⟩ => ⟨S512x1024, .f32⟩
  | .hbm, ⟨35, _⟩ => ⟨S_, .f32⟩
  | .hbm, ⟨36, _⟩ => ⟨S512, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S_, .f32⟩
  | .hbm, ⟨42, _⟩ => ⟨S512x1, .f32⟩
  | .hbm, ⟨43, _⟩ => ⟨S512x1, .f32⟩
  | .hbm, ⟨44, _⟩ => ⟨S512x1, .f32⟩
  | .hbm, ⟨45, _⟩ => ⟨S512x1024, .f32⟩
  | .hbm, ⟨46, _⟩ => ⟨S512x1024, .f32⟩
  | .hbm, ⟨47, _⟩ => ⟨S1x1024, .f32⟩
  | .hbm, ⟨48, _⟩ => ⟨S512x1024, .f32⟩
  | .hbm, ⟨49, _⟩ => ⟨S512x1024, .f32⟩
  | .hbm, ⟨50, _⟩ => ⟨S1024x4096, .f32⟩
  | .hbm, ⟨51, _⟩ => ⟨S512x4096, .f32⟩
  | .hbm, ⟨52, _⟩ => ⟨S_, .f32⟩
  | .hbm, ⟨53, _⟩ => ⟨S512x4096, .f32⟩
  | .hbm, ⟨54, _⟩ => ⟨S512x4096, .f32⟩
  | .hbm, ⟨55, _⟩ => ⟨S512x4096, .f32⟩
  | .hbm, ⟨56, _⟩ => ⟨S4096x1024, .f32⟩
  | .hbm, ⟨57, _⟩ => ⟨S512x1024, .f32⟩
  | .hbm, ⟨58, _⟩ => ⟨S1024, .f32⟩
  | .hbm, ⟨59, _⟩ => ⟨S512x1024, .f32⟩
  | .hbm, ⟨60, _⟩ => ⟨S_, .f32⟩
  | .hbm, ⟨61, _⟩ => ⟨S512, .f32⟩
  | .hbm, ⟨62, _⟩ => ⟨S512x1, .f32⟩
  | .hbm, ⟨63, _⟩ => ⟨S_, .f32⟩
  | .hbm, ⟨64, _⟩ => ⟨S512x1, .f32⟩
  | .hbm, ⟨65, _⟩ => ⟨S512x1, .f32⟩
  | .hbm, ⟨66, _⟩ => ⟨S_, .f32⟩
  | .hbm, ⟨67, _⟩ => ⟨S512x1, .f32⟩
  | .hbm, ⟨68, _⟩ => ⟨S512x1, .f32⟩
  | .hbm, ⟨69, _⟩ => ⟨S512x1, .f32⟩
  | .hbm, ⟨70, _⟩ => ⟨S512x1024, .f32⟩
  | .hbm, ⟨71, _⟩ => ⟨S512x1024, .f32⟩
  | .hbm, ⟨72, _⟩ => ⟨S1x1024, .f32⟩
  | .hbm, ⟨73, _⟩ => ⟨S512x1024, .f32⟩
  | .hbm, ⟨74, _⟩ => ⟨S512x1024, .f32⟩
  | .hbm, ⟨75, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_cst : Ref sig .tc := ⟨.hbm, 52, rfl⟩
abbrev main_call0_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Proof.Spec.lean ====
/- The mathematics of one row of the two results, on extended reals: a row normalized by its root mean square, the
   layer's second half on one row (`layerRow`), the sum of value rows that a row of attention weights takes (`mixRow`),
   and the weights of dilated attention (`weight`). No program is named here. -/
module

public import Idealize.ShloMosaic.Lib.Pointwise

@[expose] public section

noncomputable section

namespace Cert.Layer

open Idealize.ShloMosaic

/-- Row `v` over the root of its mean square (`len` is the row's length, as the programs' constant), scaled by `g`. -/
def rms {n : Nat} (len : EReal) (v g : Fin n → EReal) (l : Fin n) : EReal :=
  v l * Ideal.rsqrt (Ideal.div (∑ k, v k * v k) len + Ideal.ofBits .f32 0x358637BD#32) * g l

/-- The model width 1024 as the programs' constant. -/
abbrev len1024 : EReal := Ideal.ofBits .f32 0x44800000#32

/-- The attention's width 512 as the programs' constant. -/
abbrev len512 : EReal := Ideal.ofBits .f32 0x44000000#32

/-- The output projection of one row: the attention's half `a` and the convolution's half `c` against the two halves of
    the matrix `w`. -/
def mixed (a c : Fin 512 → EReal) (w : Fin 1024 → Fin 1024 → EReal) (l : Fin 1024) : EReal :=
  (∑ k : Fin 512, a k * w ⟨k.val, by omega⟩ l) + ∑ k : Fin 512, c k * w ⟨512 + k.val, by omega⟩ l

/-- The row after the first residual connection. -/
def mid (x : Fin 1024 → EReal) (a c : Fin 512 → EReal) (w : Fin 1024 → Fin 1024 → EReal) (g : Fin 1024 → EReal)
    (l : Fin 1024) : EReal :=
  x l + rms len1024 (mixed a c w) g l

/-- The squared ReLU of one hidden unit of the normalized row `h`. -/
def act (h : Fin 1024 → EReal) (u : Fin 1024 → Fin 4096 → EReal) (k : Fin 4096) : EReal :=
  max (∑ i, h i * u i k) 0 * max (∑ i, h i * u i k) 0

/-- The feed-forward of the normalized row `h`. -/
def feed (h : Fin 1024 → EReal) (u : Fin 1024 → Fin 4096 → EReal) (d : Fin 4096 → Fin 1024 → EReal)
    (l : Fin 1024) : EReal :=
  ∑ k, act h u k * d k l

/-- One row of the layer's result, from its input row and the two mixers' rows. -/
def layerRow (x : Fin 1024 → EReal) (a c : Fin 512 → EReal) (w : Fin 1024 → Fin 1024 → EReal)
    (g₁ g₂ : Fin 1024 → EReal) (u : Fin 1024 → Fin 4096 → EReal) (d : Fin 4096 → Fin 1024 → EReal)
    (g₃ : Fin 1024 → EReal) (l : Fin 1024) : EReal :=
  mid x a c w g₁ l + rms len1024 (feed (rms len1024 (mid x a c w g₁) g₂) u d) g₃ l

/-- Rows that agree entry by entry have the same result. -/
theorem layerRow_congr {x x' : Fin 1024 → EReal} {a a' c c' : Fin 512 → EReal} {w w' : Fin 1024 → Fin 1024 → EReal}
    {g₁ g₁' g₂ g₂' : Fin 1024 → EReal} {u u' : Fin 1024 → Fin 4096 → EReal} {d d' : Fin 4096 → Fin 1024 → EReal}
    {g₃ g₃' : Fin 1024 → EReal} (hx : ∀ k, x k = x' k) (ha : ∀ k, a k = a' k) (hc : ∀ k, c k = c' k)
    (hw : ∀ k l, w k l = w' k l) (h₁ : ∀ k, g₁ k = g₁' k) (h₂ : ∀ k, g₂ k = g₂' k) (hu : ∀ k l, u k l = u' k l)
    (hd : ∀ k l, d k l = d' k l) (h₃ : ∀ k, g₃ k = g₃' k) (l : Fin 1024) :
    layerRow x a c w g₁ g₂ u d g₃ l = layerRow x' a' c' w' g₁' g₂' u' d' g₃' l := by
  obtain rfl := funext hx
  obtain rfl := funext ha
  obtain rfl := funext hc
  obtain rfl := funext fun k => funext (hw k)
  obtain rfl := funext h₁
  obtain rfl := funext h₂
  obtain rfl := funext fun k => funext (hu k)
  obtain rfl := funext fun k => funext (hd k)
  obtain rfl := funext h₃
  rfl

/-- Head `h`'s part of the product of a query row and a key row, both of eight heads of 64 lanes. -/
def headDot (f k : Fin 512 → EReal) (h : Fin 8) : EReal :=
  ∑ d : Fin 64, f ⟨64 * h.val + d.val, by omega⟩ * k ⟨64 * h.val + d.val, by omega⟩

/-- Key position `x`'s row: 2048 old rows, then the four new ones, then no row. -/
def keyRow (old : Fin 512 → Fin 2048 → EReal) (new : Fin 4 → Fin 512 → EReal) (x : Fin 2176) (l : Fin 512) : EReal :=
  if h : x.val < 2048 then old l ⟨x.val, h⟩ else if h : x.val < 2052 then new ⟨x.val - 2048, by omega⟩ l else 0

/-- The sum of value rows that a row of weights over the 2176 key positions takes: 2048 old rows, then the four new
    ones; the positions after those hold no row. -/
def mixRow (w : Fin 2176 → EReal) (old : Fin 2048 → EReal) (new : Fin 4 → EReal) : EReal :=
  (∑ x : Fin 2048, w ⟨x.val, by omega⟩ * old x) + ∑ x : Fin 4, w ⟨2048 + x.val, by omega⟩ * new x

/-- The attention's output at step `t` and lane `l`: the three patterns' sums (row `32 i + 8 t + head` of the weights
    belongs to pattern `i`), head `l / 64`. -/
def mixed3 (w : Fin 96 → Fin 2176 → EReal) (old : Fin 512 → Fin 2048 → EReal) (new : Fin 4 → Fin 512 → EReal)
    (t : Fin 4) (l : Fin 512) : EReal :=
  mixRow (w ⟨8 * t.val + l.val / 64, by omega⟩) (old l) (fun x => new x l)
    + mixRow (w ⟨32 + 8 * t.val + l.val / 64, by omega⟩) (old l) (fun x => new x l)
    + mixRow (w ⟨64 + 8 * t.val + l.val / 64, by omega⟩) (old l) (fun x => new x l)

/-- The hidden units taken in four chunks of 1024. -/
theorem feed_chunks (h : Fin 1024 → EReal) (u : Fin 1024 → Fin 4096 → EReal) (d : Fin 4096 → Fin 1024 → EReal)
    (l : Fin 1024) :
    feed h u d l = (∑ k : Fin 1024, act h u ⟨k.val, by omega⟩ * d ⟨k.val, by omega⟩ l)
      + (∑ k : Fin 1024, act h u ⟨1024 + k.val, by omega⟩ * d ⟨1024 + k.val, by omega⟩ l)
      + (∑ k : Fin 1024, act h u ⟨2048 + k.val, by omega⟩ * d ⟨2048 + k.val, by omega⟩ l)
      + ∑ k : Fin 1024, act h u ⟨3072 + k.val, by omega⟩ * d ⟨3072 + k.val, by omega⟩ l := by
  unfold feed
  rw [Fin.sum_univ_tiles 4 1024 rfl (fun k => act h u k * d k l), Fin.sum_univ_four]
  simp

end Cert.Layer

end
-- ==== Proof.FfnPay.lean ====
/- What one grid point computes for the prompt: each of its two groups of 256 rows, read at a row and a column, is
   `Layer.layerRow` of that row of the staged blocks. -/
module

public import proofs.«01_k».proof.Proof.Gen.KernelIdeal.Skeleton
public import proofs.«01_k».proof.Proof.Spec

@[expose] public section

set_option maxRecDepth 16384

noncomputable section

namespace Cert.KernelIdeal.Ffn

open Idealize.ShloMosaic Idealize.ShloMosaic.TcCoe Idealize.SL.Sem
open Cert.KernelIdeal Cert.KernelIdeal.Gen Cert.Layer

/-- The output projection of row `r`: two products, one per half of the matrix. -/
theorem pay38_at (a : Vec Ideal S256x512 .bf16) (w : Vec Ideal S512x1024 .bf16) (c : Vec Ideal S256x512 .bf16)
    (w' : Vec Ideal S512x1024 .bf16) (r : Fin 256) (l : Fin 1024) :
    k0_pay38 (F := Ideal) a w c w' (ix2 r l)
      = (∑ k : Fin 512, (show EReal from a (ix2 r k)) * (show EReal from w (ix2 k l)))
        + ∑ k : Fin 512, (show EReal from c (ix2 r k)) * (show EReal from w' (ix2 k l)) := by
  pointwise [k0_pay38]

/-- The same of the second group of rows. -/
theorem pay40_at (a : Vec Ideal S256x512 .bf16) (w : Vec Ideal S512x1024 .bf16) (c : Vec Ideal S256x512 .bf16)
    (w' : Vec Ideal S512x1024 .bf16) (r : Fin 256) (l : Fin 1024) :
    k0_pay40 (F := Ideal) (k0_pay39 a w) c w' (ix2 r l)
      = (∑ k : Fin 512, (show EReal from a (ix2 r k)) * (show EReal from w (ix2 k l)))
        + ∑ k : Fin 512, (show EReal from c (ix2 r k)) * (show EReal from w' (ix2 k l)) := by
  pointwise [k0_pay40, k0_pay39]

/-- The first residual connection. -/
theorem pay56_at (v : FVec Ideal S256x1024 .f32) (x : Vec Ideal S256x1024 .f32) (g : Vec Ideal S1x1024 .f32)
    (r : Fin 256) (l : Fin 1024) :
    k0_pay56 (F := Ideal) v x g (ix2 r l)
      = (show EReal from x (ix2 r l)) + rms len1024 (fun k => v (ix2 r k)) (fun k => g (ix2 0 k)) l := by
  pointwise [k0_pay56, rms]

/-- The same of the second group of rows. -/
theorem pay66_at (v : FVec Ideal S256x1024 .f32) (x : Vec Ideal S256x1024 .f32) (g : Vec Ideal S1x1024 .f32)
    (r : Fin 256) (l : Fin 1024) :
    k0_pay66 (F := Ideal) v (k0_pay63 x) (k0_pay64 g) (k0_pay65 v) (ix2 r l)
      = (show EReal from x (ix2 r l)) + rms len1024 (fun k => v (ix2 r k)) (fun k => g (ix2 0 k)) l := by
  pointwise [k0_pay66, k0_pay63, k0_pay64, k0_pay65, rms]

/-- The feed-forward's input. -/
theorem pay60_at (v : FVec Ideal S256x1024 .f32) (x : Vec Ideal S256x1024 .f32) (g g' : Vec Ideal S1x1024 .f32)
    (r : Fin 256) (l : Fin 1024) :
    k0_pay60 (F := Ideal) (k0_pay56 v x g) (k0_pay57 g') (k0_pay58 v x g) (k0_pay59 (F := Ideal)) (ix2 r l)
      = rms len1024 (fun k => k0_pay56 (F := Ideal) v x g (ix2 r k)) (fun k => g' (ix2 0 k)) l := by
  pointwise [k0_pay60, k0_pay57, k0_pay58, k0_pay59, rms]

/-- The same of the second group of rows. -/
theorem pay67_at (v : FVec Ideal S256x1024 .f32) (x : FVec Ideal S256x1024 .f32) (g : FVec Ideal S1x1024 .f32)
    (s : FVec Ideal S256x1 .f32) (g' : Vec Ideal S1x1024 .f32) (r : Fin 256) (l : Fin 1024) :
    k0_pay67 (F := Ideal) v x g s g' (ix2 r l)
      = rms len1024 (fun k => k0_pay66 (F := Ideal) v x g s (ix2 r k)) (fun k => g' (ix2 0 k)) l := by
  pointwise [k0_pay67, rms]

/-- One chunk of hidden units and its share of the feed-forward's result. -/
def chunk (h : Fin 1024 → EReal) (u d : Vec Ideal S1024x1024 .bf16) (l : Fin 1024) : EReal :=
  ∑ k : Fin 1024, max (∑ i, h i * (show EReal from u (ix2 i k))) 0 * max (∑ i, h i * (show EReal from u (ix2 i k))) 0
    * (show EReal from d (ix2 k l))

/-- The first three chunks, first group of rows. -/
theorem pay61_at (v : FVec Ideal S256x1024 .f32) (g : FVec Ideal S1x1024 .f32) (s e : FVec Ideal S256x1 .f32)
    (u₀ d₀ u₁ d₁ u₂ d₂ : Vec Ideal S1024x1024 .bf16) (r : Fin 256) (l : Fin 1024) :
    k0_pay61 (F := Ideal) v g s e u₀ d₀ u₁ d₁ u₂ d₂ (ix2 r l)
      = chunk (fun k => k0_pay60 (F := Ideal) v g s e (ix2 r k)) u₀ d₀ l
        + chunk (fun k => k0_pay60 (F := Ideal) v g s e (ix2 r k)) u₁ d₁ l
        + chunk (fun k => k0_pay60 (F := Ideal) v g s e (ix2 r k)) u₂ d₂ l := by
  pointwise [k0_pay61, chunk]

/-- The last chunk and the second residual connection, first group of rows. -/
theorem pay62_at (v : FVec Ideal S256x1024 .f32) (h : FVec Ideal S256x1024 .bf16) (f : FVec Ideal S256x1024 .f32)
    (u d : Vec Ideal S1024x1024 .bf16) (g : Vec Ideal S1x1024 .f32) (r : Fin 256) (l : Fin 1024) :
    k0_pay62 (F := Ideal) v h f u d g (ix2 r l)
      = (show EReal from v (ix2 r l))
        + rms len1024 (fun k => (show EReal from f (ix2 r k)) + chunk (fun i => h (ix2 r i)) u d k)
            (fun k => g (ix2 0 k)) l := by
  pointwise [k0_pay62, rms, chunk]

/-- The second group's first chunk. -/
theorem pay68_at (v : FVec Ideal S256x1024 .f32) (x : FVec Ideal S256x1024 .f32) (g : FVec Ideal S1x1024 .f32)
    (s : FVec Ideal S256x1 .f32) (g' : Vec Ideal S1x1024 .f32) (u d : Vec Ideal S1024x1024 .bf16) (r : Fin 256)
    (l : Fin 1024) :
    k0_pay68 (F := Ideal) v x g s g' u d (ix2 r l)
      = chunk (fun k => k0_pay67 (F := Ideal) v x g s g' (ix2 r k)) u d l := by
  pointwise [k0_pay68, chunk]

/-- The second group's second chunk. -/
theorem pay69_at (v : FVec Ideal S256x1024 .f32) (x : FVec Ideal S256x1024 .f32) (g : FVec Ideal S1x1024 .f32)
    (s : FVec Ideal S256x1 .f32) (g' : Vec Ideal S1x1024 .f32) (u d : Vec Ideal S1024x1024 .bf16) (r : Fin 256)
    (l : Fin 1024) :
    k0_pay69 (F := Ideal) v x g s g' u d (ix2 r l)
      = chunk (fun k => k0_pay67 (F := Ideal) v x g s g' (ix2 r k)) u d l := by
  pointwise [k0_pay69, chunk]

/-- The second group's last two chunks and its second residual connection. -/
theorem pay70_at (v : FVec Ideal S256x1024 .f32) (h : FVec Ideal S256x1024 .bf16) (f₀ f₁ : FVec Ideal S256x1024 .f32)
    (u₂ d₂ u₃ d₃ : Vec Ideal S1024x1024 .bf16) (g : Vec Ideal S1x1024 .f32) (r : Fin 256) (l : Fin 1024) :
    k0_pay70 (F := Ideal) v h f₀ f₁ u₂ d₂ u₃ d₃ g (ix2 r l)
      = (show EReal from v (ix2 r l))
        + rms len1024 (fun k => (show EReal from f₀ (ix2 r k)) + (show EReal from f₁ (ix2 r k))
              + chunk (fun i => h (ix2 r i)) u₂ d₂ k + chunk (fun i => h (ix2 r i)) u₃ d₃ k)
            (fun k => g (ix2 0 k)) l := by
  pointwise [k0_pay70, rms, chunk]

end Cert.KernelIdeal.Ffn

end
-- ==== Proof.FfnBlock.lean ====
/- One grid point's part of the prompt's result: the stored block of 512 rows, read at a row and a column, is
   `Layer.layerRow` of that row of the input blocks. -/
module

public import proofs.«01_k».proof.Proof.Gen.KernelIdeal.Frame
public import proofs.«01_k».proof.Proof.FfnPay
public import Idealize.ShloMosaic.Lib.Pipeline.ValueKit

@[expose] public section

set_option maxRecDepth 16384

noncomputable section

namespace Cert.KernelIdeal.Ffn

open Idealize.ShloMosaic Idealize.ShloMosaic.TcCoe Idealize.SL.Sem
open Cert.KernelIdeal Cert.KernelIdeal.Gen Cert.Layer

/-- A chunk of hidden units, as a part of the whole feed-forward. -/
theorem chunk_eq (h : Fin 1024 → EReal) (u d : Vec Ideal S1024x1024 .bf16) (U : Fin 1024 → Fin 4096 → EReal)
    (D : Fin 4096 → Fin 1024 → EReal) (e : Fin 1024 → Fin 4096)
    (hu : ∀ i k, (show EReal from u (ix2 i k)) = U i (e k)) (hd : ∀ k l, (show EReal from d (ix2 k l)) = D (e k) l)
    (l : Fin 1024) : chunk h u d l = ∑ k : Fin 1024, act h U (e k) * D (e k) l := by
  unfold chunk act
  simp only [hu, hd]

section Groups

variable (a : Vec Ideal S256x512 .bf16) (w : Vec Ideal S512x1024 .bf16) (c : Vec Ideal S256x512 .bf16)
  (w' : Vec Ideal S512x1024 .bf16) (x : Vec Ideal S256x1024 .f32) (g g' g'' : Vec Ideal S1x1024 .f32)
  (u₀ d₀ u₁ d₁ u₂ d₂ u₃ d₃ : Vec Ideal S1024x1024 .bf16)
  (W : Fin 1024 → Fin 1024 → EReal) (U : Fin 1024 → Fin 4096 → EReal) (D : Fin 4096 → Fin 1024 → EReal)
  (hw : ∀ k l, (show EReal from w (ix2 k l)) = W ⟨k.val, by omega⟩ l)
  (hw' : ∀ k l, (show EReal from w' (ix2 k l)) = W ⟨512 + k.val, by omega⟩ l)
  (hu₀ : ∀ i k, (show EReal from u₀ (ix2 i k)) = U i ⟨k.val, by omega⟩)
  (hd₀ : ∀ k l, (show EReal from d₀ (ix2 k l)) = D ⟨k.val, by omega⟩ l)
  (hu₁ : ∀ i k, (show EReal from u₁ (ix2 i k)) = U i ⟨1024 + k.val, by omega⟩)
  (hd₁ : ∀ k l, (show EReal from d₁ (ix2 k l)) = D ⟨1024 + k.val, by omega⟩ l)
  (hu₂ : ∀ i k, (show EReal from u₂ (ix2 i k)) = U i ⟨2048 + k.val, by omega⟩)
  (hd₂ : ∀ k l, (show EReal from d₂ (ix2 k l)) = D ⟨2048 + k.val, by omega⟩ l)
  (hu₃ : ∀ i k, (show EReal from u₃ (ix2 i k)) = U i ⟨3072 + k.val, by omega⟩)
  (hd₃ : ∀ k l, (show EReal from d₃ (ix2 k l)) = D ⟨3072 + k.val, by omega⟩ l)

include hw hw' hu₀ hd₀ hu₁ hd₁ hu₂ hd₂ hu₃ hd₃

/-- The first group of rows. -/
theorem group0 (r : Fin 256) (l : Fin 1024) :
    k0_pay62 (F := Ideal) (k0_pay56 (k0_pay38 a w c w') x g)
        (k0_pay60 (k0_pay56 (k0_pay38 a w c w') x g) (k0_pay57 g') (k0_pay58 (k0_pay38 a w c w') x g) (k0_pay59 (F := Ideal)))
        (k0_pay61 (k0_pay56 (k0_pay38 a w c w') x g) (k0_pay57 g') (k0_pay58 (k0_pay38 a w c w') x g) (k0_pay59 (F := Ideal))
          u₀ d₀ u₁ d₁ u₂ d₂) u₃ d₃ g'' (ix2 r l)
      = layerRow (fun k => x (ix2 r k)) (fun k => a (ix2 r k)) (fun k => c (ix2 r k)) W (fun k => g (ix2 0 k))
          (fun k => g' (ix2 0 k)) U D (fun k => g'' (ix2 0 k)) l := by
  rw [pay62_at]
  simp only [pay61_at, pay60_at, pay56_at, pay38_at]
  simp only [chunk_eq _ u₀ d₀ U D _ hu₀ hd₀, chunk_eq _ u₁ d₁ U D _ hu₁ hd₁, chunk_eq _ u₂ d₂ U D _ hu₂ hd₂,
    chunk_eq _ u₃ d₃ U D _ hu₃ hd₃, hw, hw']
  unfold layerRow
  simp only [← feed_chunks]
  rfl

/-- The second group of rows. -/
theorem group1 (r : Fin 256) (l : Fin 1024) :
    k0_pay70 (F := Ideal) (k0_pay66 (k0_pay40 (k0_pay39 a w) c w') (k0_pay63 x) (k0_pay64 g) (k0_pay65 (k0_pay40 (k0_pay39 a w) c w')))
        (k0_pay67 (k0_pay40 (k0_pay39 a w) c w') (k0_pay63 x) (k0_pay64 g) (k0_pay65 (k0_pay40 (k0_pay39 a w) c w')) g')
        (k0_pay68 (k0_pay40 (k0_pay39 a w) c w') (k0_pay63 x) (k0_pay64 g) (k0_pay65 (k0_pay40 (k0_pay39 a w) c w')) g' u₀ d₀)
        (k0_pay69 (k0_pay40 (k0_pay39 a w) c w') (k0_pay63 x) (k0_pay64 g) (k0_pay65 (k0_pay40 (k0_pay39 a w) c w')) g' u₁ d₁)
        u₂ d₂ u₃ d₃ g'' (ix2 r l)
      = layerRow (fun k => x (ix2 r k)) (fun k => a (ix2 r k)) (fun k => c (ix2 r k)) W (fun k => g (ix2 0 k))
          (fun k => g' (ix2 0 k)) U D (fun k => g'' (ix2 0 k)) l := by
  rw [pay70_at]
  simp only [pay68_at, pay69_at, pay67_at, pay66_at, pay40_at]
  simp only [chunk_eq _ u₀ d₀ U D _ hu₀ hd₀, chunk_eq _ u₁ d₁ U D _ hu₁ hd₁, chunk_eq _ u₂ d₂ U D _ hu₂ hd₂,
    chunk_eq _ u₃ d₃ U D _ hu₃ hd₃, hw, hw']
  unfold layerRow
  simp only [← feed_chunks]
  rfl

end Groups

variable (x0 : Vec Ideal S512x1024 .f32) (x1 x2 : Vec Ideal S512x512 .bf16) (x3 : Vec Ideal S1024x1024 .bf16)
  (x4 x5 : Vec Ideal S1x1024 .f32) (x6 : Vec Ideal S1024x4096 .bf16) (x7 : Vec Ideal S4096x1024 .bf16)
  (x8 : Vec Ideal S1x1024 .f32) (x9 : Vec Ideal S1x96x2176 .bf16) (x10 : Vec Ideal S4x2x1x512 .f32)
  (x11 : Vec Ideal S2x8x64x2048 .f32) (x12 : Vec Ideal S1x512 .f32) (x13 x14 : Vec Ideal S4x1x1x512 .f32)
  (x15 : Vec Ideal S1x8x64x2048 .f32) (x16 : Vec Ideal S96x2176 .f32)

/-- The stored block at row `r`. -/
theorem block_at (y : S512x1024.Idx) :
    out0_17 x0 x1 x2 x3 x4 x5 x6 x7 x8 x9 x10 x11 x12 x13 x14 x15 x16 y
      = layerRow (fun k => x0 (ix2 (y 0) k)) (fun k => x1 (ix2 (y 0) k)) (fun k => x2 (ix2 (y 0) k))
          (fun k l => x3 (ix2 k l)) (fun k => x4 (ix2 0 k)) (fun k => x5 (ix2 0 k)) (fun k l => x6 (ix2 k l))
          (fun k l => x7 (ix2 k l)) (fun k => x8 (ix2 0 k)) (y 1) := by
  unfold_out out0_17
  canon_tiles x h
  case piece0 =>
    idx_vars x
    refine (group1 _ _ _ _ _ _ _ _ _ _ _ _ _ _ _ _ (fun k l => x3 (ix2 k l)) (fun k l => x6 (ix2 k l))
      (fun k l => x7 (ix2 k l)) ?_ ?_ ?_ ?_ ?_ ?_ ?_ ?_ ?_ ?_ _ _).trans ?_
    all_goals first | (intro i k; pointwise; done) | skip
    congr 1
    all_goals first
      | (funext k; pointwise; blk_ext; done)
      | (funext k; pointwise; done)
      | (apply Fin.ext; simpa using h1.symm)
  case piece1 =>
    idx_vars x
    refine (group0 _ _ _ _ _ _ _ _ _ _ _ _ _ _ _ _ (fun k l => x3 (ix2 k l)) (fun k l => x6 (ix2 k l))
      (fun k l => x7 (ix2 k l)) ?_ ?_ ?_ ?_ ?_ ?_ ?_ ?_ ?_ ?_ _ _).trans ?_
    all_goals first | (intro i k; pointwise; done) | skip
    congr 1
    all_goals first
      | (funext k; pointwise; blk_ext; done)
      | (funext k; pointwise; done)
      | (apply Fin.ext; simpa using h1.symm)

end Cert.KernelIdeal.Ffn

end
-- ==== Proof.Host.lean ====
/- The arrays the kernel's host code prepares for the call, each read at an index: a reshaped, transposed or scaled
   argument. -/
module

public import proofs.«01_k».proof.Proof.Gen.KernelIdeal.Frame
public import Idealize.ShloMosaic.Lib.Claim
public import Idealize.ShloMosaic.Lib.Pointwise

@[expose] public section

set_option maxRecDepth 16384

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Argument 0 as launched. -/
abbrev a0 : FVec Ideal S16x2048x1024 .f32 := m ((c : Thread nD τ).loc main_arg0)

/-- Argument 1 as launched. -/
abbrev a1 : FVec Ideal S32768x512 .bf16 := m ((c : Thread nD τ).loc main_arg1)

/-- Argument 2 as launched. -/
abbrev a2 : FVec Ideal S32768x512 .bf16 := m ((c : Thread nD τ).loc main_arg2)

/-- Argument 3 as launched. -/
abbrev a3 : FVec Ideal S1x1024x1024 .f32 := m ((c : Thread nD τ).loc main_arg3)

/-- Argument 4 as launched. -/
abbrev a4 : FVec Ideal S1x1024 .f32 := m ((c : Thread nD τ).loc main_arg4)

/-- Argument 5 as launched. -/
abbrev a5 : FVec Ideal S1x1024 .f32 := m ((c : Thread nD τ).loc main_arg5)

/-- Argument 6 as launched. -/
abbrev a6 : FVec Ideal S1x1024x4096 .f32 := m ((c : Thread nD τ).loc main_arg6)

/-- Argument 7 as launched. -/
abbrev a7 : FVec Ideal S1x4096x1024 .f32 := m ((c : Thread nD τ).loc main_arg7)

/-- Argument 8 as launched. -/
abbrev a8 : FVec Ideal S1x1024 .f32 := m ((c : Thread nD τ).loc main_arg8)

/-- Argument 9 as launched. -/
abbrev a9 : FVec Ideal S64x96x2176 .bf16 := m ((c : Thread nD τ).loc main_arg9)

/-- Argument 10 as launched. -/
abbrev a10 : FVec Ideal S128x4x8x64 .f32 := m ((c : Thread nD τ).loc main_arg10)

/-- Argument 11 as launched. -/
abbrev a11 : FVec Ideal S128x4x8x64 .f32 := m ((c : Thread nD τ).loc main_arg11)

/-- Argument 12 as launched. -/
abbrev a12 : FVec Ideal S128x4x8x64 .f32 := m ((c : Thread nD τ).loc main_arg12)

/-- Argument 13 as launched. -/
abbrev a13 : FVec Ideal S1x128x2048x8x64 .f32 := m ((c : Thread nD τ).loc main_arg13)

/-- Argument 14 as launched. -/
abbrev a14 : FVec Ideal S1x128x2048x8x64 .f32 := m ((c : Thread nD τ).loc main_arg14)

/-- Argument 15 as launched. -/
abbrev a15 : FVec Ideal S1x512 .f32 := m ((c : Thread nD τ).loc main_arg15)

theorem V_v0 : (V m c main_v0 : FVec Ideal S32768x1024 .f32)
    = shapeCast S32768x1024 (a0 m c) shapeCasts_S16x2048x1024_S32768x1024 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v0_at (r : Fin 32768) (l : Fin 1024) :
    (V m c main_v0 : FVec Ideal S32768x1024 .f32) (ix2 r l) = a0 m c (ix3 ⟨r.val / 2048, by omega⟩ ⟨r.val % 2048, by omega⟩ l) := by
  rw [V_v0]
  pointwise

theorem V_v2 : (V m c main_v2 : FVec Ideal S1024x1024 .bf16)
    = truncf .bf16 (show FVec Ideal S1024x1024 .f32 from shapeCast S1024x1024 (a3 m c) shapeCasts_S1x1024x1024_S1024x1024) bitsLt_bf16_f32 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v2_at (k l : Fin 1024) :
    (V m c main_v2 : FVec Ideal S1024x1024 .bf16) (ix2 k l) = a3 m c (ix3 0 k l) := by
  rw [V_v2]
  pointwise

theorem V_v4 : (V m c main_v4 : FVec Ideal S1x1024 .f32)
    = broadcastInDim S1x1024 ![1] bcast_S1024_S1x1024_1 (shapeCast S1024 (a4 m c) shapeCasts_S1x1024_S1024) := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v4_at (l : Fin 1024) :
    (V m c main_v4 : FVec Ideal S1x1024 .f32) (ix2 0 l) = a4 m c (ix2 0 l) := by
  rw [V_v4]
  pointwise

theorem V_v6 : (V m c main_v6 : FVec Ideal S1x1024 .f32)
    = broadcastInDim S1x1024 ![1] bcast_S1024_S1x1024_1 (shapeCast S1024 (a5 m c) shapeCasts_S1x1024_S1024) := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v6_at (l : Fin 1024) :
    (V m c main_v6 : FVec Ideal S1x1024 .f32) (ix2 0 l) = a5 m c (ix2 0 l) := by
  rw [V_v6]
  pointwise

theorem V_v12 : (V m c main_v12 : FVec Ideal S1x1024 .f32)
    = broadcastInDim S1x1024 ![1] bcast_S1024_S1x1024_1 (shapeCast S1024 (a8 m c) shapeCasts_S1x1024_S1024) := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v12_at (l : Fin 1024) :
    (V m c main_v12 : FVec Ideal S1x1024 .f32) (ix2 0 l) = a8 m c (ix2 0 l) := by
  rw [V_v12]
  pointwise

theorem V_v8 : (V m c main_v8 : FVec Ideal S1024x4096 .bf16)
    = truncf .bf16 (show FVec Ideal S1024x4096 .f32 from shapeCast S1024x4096 (a6 m c) shapeCasts_S1x1024x4096_S1024x4096) bitsLt_bf16_f32 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v8_at (k : Fin 1024) (l : Fin 4096) :
    (V m c main_v8 : FVec Ideal S1024x4096 .bf16) (ix2 k l) = a6 m c (ix3 0 k l) := by
  rw [V_v8]
  pointwise

theorem V_v10 : (V m c main_v10 : FVec Ideal S4096x1024 .bf16)
    = truncf .bf16 (show FVec Ideal S4096x1024 .f32 from shapeCast S4096x1024 (a7 m c) shapeCasts_S1x4096x1024_S4096x1024) bitsLt_bf16_f32 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v10_at (k : Fin 4096) (l : Fin 1024) :
    (V m c main_v10 : FVec Ideal S4096x1024 .bf16) (ix2 k l) = a7 m c (ix3 0 k l) := by
  rw [V_v10]
  pointwise

theorem V_v24 : (V m c main_v24 : FVec Ideal S1x512 .f32)
    = broadcastInDim S1x512 ![1] bcast_S512_S1x512_1 (shapeCast S512 (a15 m c) shapeCasts_S1x512_S512) := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v24_at (l : Fin 512) :
    (V m c main_v24 : FVec Ideal S1x512 .f32) (ix2 0 l) = a15 m c (ix2 0 l) := by
  rw [V_v24]
  pointwise

theorem V_v16 : (V m c main_v16 : FVec Ideal S4x128x1x512 .f32)
    = mulf (show FVec Ideal S4x128x1x512 .f32 from shapeCast S4x128x1x512 (transpose S4x128x8x64 [1, 0, 2, 3] (a10 m c) transposes_S128x4x8x64_S4x128x8x64_1_0_2_3) shapeCasts_S4x128x8x64_S4x128x1x512) (broadcastInDim S4x128x1x512 ![] bcast_S_S4x128x1x512 (constant S_ .f32 0x3E000000#32)) := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v16_at (t : Fin 4) (b : Fin 128) (l : Fin 512) :
    (V m c main_v16 : FVec Ideal S4x128x1x512 .f32) (ix4 t b 0 l) = a10 m c (ix4 b t ⟨l.val / 64, by omega⟩ ⟨l.val % 64, by omega⟩) * Ideal.ofBits .f32 0x3E000000#32 := by
  rw [V_v16]
  pointwise

theorem V_v18 : (V m c main_v18 : FVec Ideal S4x128x1x512 .f32)
    = shapeCast S4x128x1x512 (transpose S4x128x8x64 [1, 0, 2, 3] (a11 m c) transposes_S128x4x8x64_S4x128x8x64_1_0_2_3) shapeCasts_S4x128x8x64_S4x128x1x512 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v18_at (t : Fin 4) (b : Fin 128) (l : Fin 512) :
    (V m c main_v18 : FVec Ideal S4x128x1x512 .f32) (ix4 t b 0 l) = a11 m c (ix4 b t ⟨l.val / 64, by omega⟩ ⟨l.val % 64, by omega⟩) := by
  rw [V_v18]
  pointwise

theorem V_v20 : (V m c main_v20 : FVec Ideal S4x128x1x512 .f32)
    = shapeCast S4x128x1x512 (transpose S4x128x8x64 [1, 0, 2, 3] (a12 m c) transposes_S128x4x8x64_S4x128x8x64_1_0_2_3) shapeCasts_S4x128x8x64_S4x128x1x512 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v20_at (t : Fin 4) (b : Fin 128) (l : Fin 512) :
    (V m c main_v20 : FVec Ideal S4x128x1x512 .f32) (ix4 t b 0 l) = a12 m c (ix4 b t ⟨l.val / 64, by omega⟩ ⟨l.val % 64, by omega⟩) := by
  rw [V_v20]
  pointwise

theorem V_v96 : (V m c main_v96 : FVec Ideal S128x8x64x2048 .f32)
    = transpose S128x8x64x2048 [0, 2, 3, 1] (shapeCast S128x2048x8x64 (a13 m c) shapeCasts_S1x128x2048x8x64_S128x2048x8x64) transposes_S128x2048x8x64_S128x8x64x2048_0_2_3_1 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v96_at (b : Fin 128) (h : Fin 8) (d : Fin 64) (r : Fin 2048) :
    (V m c main_v96 : FVec Ideal S128x8x64x2048 .f32) (ix4 b h d r) = a13 m c (ix5 0 b r h d) := by
  rw [V_v96]
  pointwise

theorem V_v97 : (V m c main_v97 : FVec Ideal S128x8x64x2048 .f32)
    = transpose S128x8x64x2048 [0, 2, 3, 1] (shapeCast S128x2048x8x64 (a14 m c) shapeCasts_S1x128x2048x8x64_S128x2048x8x64) transposes_S128x2048x8x64_S128x8x64x2048_0_2_3_1 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results
  rfl

theorem v97_at (b : Fin 128) (h : Fin 8) (d : Fin 64) (r : Fin 2048) :
    (V m c main_v97 : FVec Ideal S128x8x64x2048 .f32) (ix4 b h d r) = a14 m c (ix5 0 b r h d) := by
  rw [V_v97]
  pointwise

end Cert.KernelIdeal.Host

end
-- ==== Proof.Prompt.lean ====
/- The prompt's result array after the run: row `i` is `Layer.layerRow` of row `i` of the arguments. -/
module

public import proofs.«01_k».proof.Proof.FfnBlock
public import proofs.«01_k».proof.Proof.Host

@[expose] public section

set_option maxRecDepth 16384

noncomputable section

namespace Cert.KernelIdeal.Ffn

open Idealize.ShloMosaic Idealize.ShloMosaic.TcCoe Idealize.SL.Sem
open Idealize.ShloMosaic.Pipeline (Dat)
open Cert.KernelIdeal Cert.KernelIdeal.Gen Cert.KernelIdeal.Host Cert.Layer

variable (m : (ℓ : Loc nD τ sig) → Buf (Elt Ideal) ℓ) (c : Dev nD)

/-- Where each window stands at point `t`: the row blocks move with `t`, the matrices and scales are whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_17.index t = ![t.val, 0] :=
  (by decide +kernel : ∀ t : Fin grid0.N, _)

/-- Row `i`, column `l` of the prompt's result, from the arguments. -/
def row (i : Fin 32768) (l : Fin 1024) : EReal :=
  layerRow (fun k => a0 m c (ix3 ⟨i.val / 2048, by omega⟩ ⟨i.val % 2048, by omega⟩ k)) (fun k => a1 m c (ix2 i k))
    (fun k => a2 m c (ix2 i k)) (fun k l => a3 m c (ix3 0 k l)) (fun k => a4 m c (ix2 0 k)) (fun k => a5 m c (ix2 0 k))
    (fun k l => a6 m c (ix3 0 k l)) (fun k l => a7 m c (ix3 0 k l)) (fun k => a8 m c (ix2 0 k)) l

theorem lt_N (t : Fin cfg0.N) : t.val < 64 := (by decide +kernel : ∀ t : Fin grid0.N, t.val < 64) t

theorem blk0 (t : Fin cfg0.N) (r : Fin 512) (l : Fin 1024) : (iblk m c 0 t : FVec Ideal S512x1024 .f32) (ix2 r l)
    = a0 m c (ix3 ⟨(t.val * 512 + r.val) / 2048, by have := lt_N t; omega⟩ ⟨(t.val * 512 + r.val) % 2048, by omega⟩ l) := by
  refine Eq.trans ?_ (v0_at m c ⟨t.val * 512 + r.val, by have := lt_N t; omega⟩ l)
  blk_ext [iblk, idx t]

theorem blk1 (t : Fin cfg0.N) (r : Fin 512) (l : Fin 512) : (iblk m c 1 t : FVec Ideal S512x512 .bf16) (ix2 r l)
    = a1 m c (ix2 ⟨t.val * 512 + r.val, by have := lt_N t; omega⟩ l) := by
  blk_ext [iblk, V, idx t]

theorem blk2 (t : Fin cfg0.N) (r : Fin 512) (l : Fin 512) : (iblk m c 2 t : FVec Ideal S512x512 .bf16) (ix2 r l)
    = a2 m c (ix2 ⟨t.val * 512 + r.val, by have := lt_N t; omega⟩ l) := by
  blk_ext [iblk, V, idx t]

theorem blk3 (t : Fin cfg0.N) (k l : Fin 1024) : (iblk m c 3 t : FVec Ideal S1024x1024 .bf16) (ix2 k l)
    = a3 m c (ix3 0 k l) := by
  refine Eq.trans ?_ (v2_at m c k l)
  blk_ext [iblk, idx t]

theorem blk4 (t : Fin cfg0.N) (l : Fin 1024) : (iblk m c 4 t : FVec Ideal S1x1024 .f32) (ix2 0 l)
    = a4 m c (ix2 0 l) := by
  refine Eq.trans ?_ (v4_at m c l)
  blk_ext [iblk, idx t]

theorem blk5 (t : Fin cfg0.N) (l : Fin 1024) : (iblk m c 5 t : FVec Ideal S1x1024 .f32) (ix2 0 l)
    = a5 m c (ix2 0 l) := by
  refine Eq.trans ?_ (v6_at m c l)
  blk_ext [iblk, idx t]

theorem blk6 (t : Fin cfg0.N) (k : Fin 1024) (l : Fin 4096) : (iblk m c 6 t : FVec Ideal S1024x4096 .bf16) (ix2 k l)
    = a6 m c (ix3 0 k l) := by
  refine Eq.trans ?_ (v8_at m c k l)
  blk_ext [iblk, idx t]

theorem blk7 (t : Fin cfg0.N) (k : Fin 4096) (l : Fin 1024) : (iblk m c 7 t : FVec Ideal S4096x1024 .bf16) (ix2 k l)
    = a7 m c (ix3 0 k l) := by
  refine Eq.trans ?_ (v10_at m c k l)
  blk_ext [iblk, idx t]

theorem blk8 (t : Fin cfg0.N) (l : Fin 1024) : (iblk m c 8 t : FVec Ideal S1x1024 .f32) (ix2 0 l)
    = a8 m c (ix2 0 l) := by
  refine Eq.trans ?_ (v12_at m c l)
  blk_ext [iblk, idx t]

/-- The prompt's result array. -/
theorem final (G : FVec Ideal S32768x1024 .f32) (hG : ∀ i l, G (ix2 i l) = row m c i l) :
    (dats m 0 c).arrAt 17 cfg0.N = G := by
  refine (dats m 0 c).arrAt_eq_of_covers 17 _ (by decide +kernel) fun t _ y => ?_
  blk_simp
  rw [after0_17, block_at]
  idx_vars y
  refine Eq.trans ?_ ((hG ⟨t.val * 512 + y0.val, by have := lt_N t; omega⟩ y1).symm.trans ?_)
  · exact layerRow_congr (fun k => blk0 m c t y0 k) (fun k => blk1 m c t y0 k) (fun k => blk2 m c t y0 k)
      (fun k l => blk3 m c t k l) (fun k => blk4 m c t k) (fun k => blk5 m c t k) (fun k l => blk6 m c t k l)
      (fun k l => blk7 m c t k l) (fun k => blk8 m c t k) y1
  · blk_ext [idx t]

end Cert.KernelIdeal.Ffn

end
-- ==== Proof.SamplePay.lean ====
/- What one grid point computes for the sample, read at an index: the products of a sequence's attention weights with
   its values, and the normalized rows that are stored. -/
module

public import proofs.«01_k».proof.Proof.Gen.KernelIdeal.Skeleton
public import proofs.«01_k».proof.Proof.Spec

@[expose] public section

set_option maxRecDepth 16384

noncomputable section

namespace Cert.KernelIdeal.Sample

open Idealize.ShloMosaic Idealize.ShloMosaic.TcCoe Idealize.SL.Sem
open Cert.KernelIdeal Cert.KernelIdeal.Gen Cert.Layer

/-- The row numbers of a block of eight rows. -/
abbrev rowIota : IVec S8x512 32 := iota .tc S8x512 32 [0] iota_S8x512_d0_w32

/-- The word that numbers lane `l`'s head. -/
theorem head_word : ∀ l : Fin 512,
    (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 l.val) 64#32) 0#32))
        (IntOp.subi (IntOp.divsi ArithUnit.vector (BitVec.ofNat 32 l.val) 64#32) 1#32)
        (IntOp.divsi ArithUnit.vector (BitVec.ofNat 32 l.val) 64#32) : BitVec 32) = BitVec.ofNat 32 (l.val / 64) := by
  decide +kernel

theorem head_eq : ∀ (h k : Fin 8), IntOp.cmpi CmpIPredicate.eq (BitVec.ofNat 32 h.val) (BitVec.ofNat 32 k.val)
    = if h.val = k.val then 1#1 else 0#1 := by
  decide +kernel

theorem head5 (h : Fin 8) (l : Fin 512) : k0_pay5 (ix2 h l) = if h.val = l.val / 64 then 1#1 else 0#1 := by
  pointwise [k0_pay5]
  rw [head_word]
  exact head_eq h ⟨l.val / 64, by omega⟩

theorem head25 (h : Fin 8) (l : Fin 512) :
    k0_pay25 rowIota k0_pay23 k0_pay24 (ix2 h l) = if h.val = l.val / 64 then 1#1 else 0#1 := by
  pointwise [k0_pay25, k0_pay23, k0_pay24]
  rw [head_word]
  exact head_eq h ⟨l.val / 64, by omega⟩

theorem head44 (h : Fin 8) (l : Fin 512) : k0_pay44 (ix2 h l) = if h.val = l.val / 64 then 1#1 else 0#1 := by
  pointwise [k0_pay44]
  rw [head_word]
  exact head_eq h ⟨l.val / 64, by omega⟩

/-- Of eight rows masked by the lane's head, the sum is the head's own. -/
theorem sum_head (l : Fin 512) (f : Fin 8 → EReal) :
    (∑ h : Fin 8, Scalar.select (if h.val = l.val / 64 then 1#1 else 0#1) (f h) 0) = f ⟨l.val / 64, by omega⟩ := by
  rw [Finset.sum_eq_single (⟨l.val / 64, by omega⟩ : Fin 8)]
  · rw [if_pos rfl]; rfl
  · intro h _ hh
    rw [if_neg (fun e => hh (Fin.ext e))]; rfl
  · intro h; exact absurd (Finset.mem_univ _) h

section Rows

variable (w : FVec Ideal S96x2176 .bf16) (vn : FVec Ideal S4x512 .f32) (vt : FVec Ideal S8x64x2048 .f32)
  (g : FVec Ideal S1x512 .f32)

theorem pay26_at (r : Fin 96) (l : Fin 512) : k0_pay26 (F := Ideal) w vn vt (ix2 r l)
    = mixRow (fun x => w (ix2 r x)) (fun x => vt (ix3 ⟨l.val / 64, by omega⟩ ⟨l.val % 64, by omega⟩ x))
        (fun x => vn (ix2 x l)) := by
  unfold mixRow
  pointwise [k0_pay26]
  simp only [mul_zero, Finset.sum_const_zero, add_zero]

theorem pay46_at (r : Fin 96) (l : Fin 512) : k0_pay46 (F := Ideal) w vn vt k0_pay45 (ix2 r l)
    = mixRow (fun x => w (ix2 r x)) (fun x => vt (ix3 ⟨l.val / 64, by omega⟩ ⟨l.val % 64, by omega⟩ x))
        (fun x => vn (ix2 x l)) := by
  unfold mixRow
  pointwise [k0_pay46, k0_pay45]
  simp only [mul_zero, Finset.sum_const_zero, add_zero]

/-- The attention's output of one sequence, from its weights, values and new values. -/
def att (t : Fin 4) (l : Fin 512) : EReal :=
  mixed3 (fun r x => w (ix2 r x)) (fun l x => vt (ix3 ⟨l.val / 64, by omega⟩ ⟨l.val % 64, by omega⟩ x))
    (fun x l => vn (ix2 x l)) t l

/-- What is stored of the sequence whose weights are given, for each of the four steps. -/
theorem pay27_at (l : Fin 512) :
    k0_pay27 (F := Ideal) w vn vt g rowIota k0_pay23 k0_pay24 (ix2 0 l)
      = rms len512 (att w vn vt 0) (fun k => g (ix2 0 k)) l := by
  unfold rms att mixed3
  pointwise [k0_pay27]
  simp only [head25, sum_head, pay26_at]

theorem pay31_at (l : Fin 512) :
    k0_pay31 (F := Ideal) g (k0_pay28 w vn vt rowIota k0_pay23 k0_pay24) (k0_pay29 w vn vt rowIota k0_pay23 k0_pay24)
        (k0_pay30 (F := Ideal)) (ix2 0 l)
      = rms len512 (att w vn vt 1) (fun k => g (ix2 0 k)) l := by
  unfold rms att mixed3
  pointwise [k0_pay31, k0_pay28, k0_pay29, k0_pay30]
  simp only [head25, sum_head, pay26_at]

theorem pay32_at (l : Fin 512) :
    k0_pay32 (F := Ideal) g (k0_pay25 rowIota k0_pay23 k0_pay24) (k0_pay26 w vn vt) (ix2 0 l)
      = rms len512 (att w vn vt 2) (fun k => g (ix2 0 k)) l := by
  unfold rms att mixed3
  pointwise [k0_pay32]
  simp only [head25, sum_head, pay26_at]

theorem pay33_at (l : Fin 512) :
    k0_pay33 (F := Ideal) g (k0_pay25 rowIota k0_pay23 k0_pay24) (k0_pay26 w vn vt) (ix2 0 l)
      = rms len512 (att w vn vt 3) (fun k => g (ix2 0 k)) l := by
  unfold rms att mixed3
  pointwise [k0_pay33]
  simp only [head25, sum_head, pay26_at]

/-- The same of the sequence whose weights are computed at the point. -/
theorem pay47_at (l : Fin 512) :
    k0_pay47 (F := Ideal) w vn vt g k0_pay44 k0_pay45 (ix2 0 l)
      = rms len512 (att w vn vt 0) (fun k => g (ix2 0 k)) l := by
  unfold rms att mixed3
  pointwise [k0_pay47]
  simp only [head44, sum_head, pay46_at]

theorem pay49_at (l : Fin 512) :
    k0_pay49 (F := Ideal) g (k0_pay48 w vn vt k0_pay44 k0_pay45) (ix2 0 l)
      = rms len512 (att w vn vt 1) (fun k => g (ix2 0 k)) l := by
  unfold rms att mixed3
  pointwise [k0_pay49, k0_pay48]
  simp only [head44, sum_head, pay46_at]

theorem pay50_at (l : Fin 512) :
    k0_pay50 (F := Ideal) g k0_pay44 (k0_pay46 w vn vt k0_pay45) (ix2 0 l)
      = rms len512 (att w vn vt 2) (fun k => g (ix2 0 k)) l := by
  unfold rms att mixed3
  pointwise [k0_pay50]
  simp only [head44, sum_head, pay46_at]

theorem pay51_at (l : Fin 512) :
    k0_pay51 (F := Ideal) g k0_pay44 (k0_pay46 w vn vt k0_pay45) (ix2 0 l)
      = rms len512 (att w vn vt 3) (fun k => g (ix2 0 k)) l := by
  unfold rms att mixed3
  pointwise [k0_pay51]
  simp only [head44, sum_head, pay46_at]

end Rows

end Cert.KernelIdeal.Sample

end
-- ==== Proof.Merge.lean ====
/- Softmax attention of three patterns, merged by their denominators, on extended reals: the same over all key positions
   with the patterns' other positions masked at minus infinity as over each pattern's own positions. No program is named
   here. -/
module

public import Idealize.ShloMosaic.Lib.Pointwise

@[expose] public section

noncomputable section

namespace Cert.Layer

open Idealize.ShloMosaic

section Defs

variable {K : Type} [Fintype K]

/-- The largest score. -/
def top (s : K → EReal) : EReal := Finset.univ.fold max ⊥ s

/-- The softmax's numerators. -/
def num (s : K → EReal) (x : K) : EReal := Ideal.exp (s x - top s)

/-- The softmax's denominator. -/
def den (s : K → EReal) : EReal := ∑ x, num s x

/-- The logarithm of the sum of the exponentials of the scores. -/
def lse (s : K → EReal) : EReal := top s + Ideal.log (den s)

/-- The largest of three. -/
def top3 (a : Fin 3 → EReal) : EReal := max (max (a 0) (a 1)) (a 2)

/-- The softmax of three numbers. -/
def share (a : Fin 3 → EReal) (i : Fin 3) : EReal :=
  Ideal.div (Ideal.exp (a i - top3 a))
    (Ideal.exp (a 0 - top3 a) + Ideal.exp (a 1 - top3 a) + Ideal.exp (a 2 - top3 a))

/-- The weight of key `x` in pattern `i`: its softmax there times the pattern's share. -/
def weight (s : Fin 3 → K → EReal) (i : Fin 3) (x : K) : EReal :=
  num (s i) x * Ideal.div (share (fun i => lse (s i)) i) (den (s i))

/-- One pattern's attention times the pattern's share. -/
def part (s : Fin 3 → K → EReal) (v : Fin 3 → K → EReal) (i : Fin 3) : EReal :=
  share (fun i => lse (s i)) i * Ideal.div (∑ x, num (s i) x * v i x) (den (s i))

end Defs

section Real

theorem exp_coe (r : ℝ) : Ideal.exp (r : EReal) = ((Real.exp r : ℝ) : EReal) := rfl

theorem log_coe {r : ℝ} (h : 0 < r) : Ideal.log (r : EReal) = ((Real.log r : ℝ) : EReal) := by
  show (if r ≤ 0 then (⊥ : EReal) else (Real.log r : EReal)) = _
  rw [if_neg (not_le.mpr h)]

theorem div_coe (x : EReal) {r : ℝ} (h : 0 < r) : Ideal.div x (r : EReal) = x * ((r⁻¹ : ℝ) : EReal) := by
  unfold Ideal.div
  rw [if_neg (by exact_mod_cast h.ne'), EReal.coe_inv]

theorem top_eq_sup {K : Type} [Fintype K] (s : K → EReal) : top s = Finset.univ.sup s := rfl

/-- The largest of finitely many reals is a real. -/
theorem top_coe {J : Type} [Fintype J] [Nonempty J] (s : J → ℝ) : ∃ r : ℝ, top (fun x => (s x : EReal)) = (r : EReal) := by
  rw [top_eq_sup]
  obtain ⟨j, _, hj⟩ := Finset.exists_mem_eq_sup Finset.univ Finset.univ_nonempty (fun x => (s x : EReal))
  exact ⟨s j, hj⟩

theorem sum_coe {J : Type} [Fintype J] (s : J → ℝ) : (∑ x, (s x : EReal)) = ((∑ x, s x : ℝ) : EReal) := by
  classical
  induction (Finset.univ : Finset J) using Finset.induction_on with
  | empty => simp
  | insert a t ha ih => rw [Finset.sum_insert ha, Finset.sum_insert ha, ih, EReal.coe_add]

/-- Real scores have a positive real denominator and a real logarithm of it. -/
theorem den_coe {J : Type} [Fintype J] [Nonempty J] (s : J → ℝ) :
    (∃ r : ℝ, 0 < r ∧ den (fun x => (s x : EReal)) = (r : EReal)) ∧ ∃ r : ℝ, lse (fun x => (s x : EReal)) = (r : EReal) := by
  obtain ⟨r, hr⟩ := top_coe s
  have hd : den (fun x => (s x : EReal)) = ((∑ x, Real.exp (s x - r) : ℝ) : EReal) := by
    unfold den num
    rw [← sum_coe]
    refine Finset.sum_congr rfl fun x _ => ?_
    rw [hr, ← EReal.coe_sub, exp_coe]
  have hp : 0 < ∑ x, Real.exp (s x - r) := Finset.sum_pos (fun x _ => Real.exp_pos _) Finset.univ_nonempty
  refine ⟨⟨_, hp, hd⟩, ⟨r + Real.log (∑ x, Real.exp (s x - r)), ?_⟩⟩
  unfold lse
  rw [hr, hd, log_coe hp, EReal.coe_add]

/-- The shares of real numbers are nonnegative reals. -/
theorem share_coe (a : Fin 3 → ℝ) (i : Fin 3) : ∃ r : ℝ, 0 ≤ r ∧ share (fun i => (a i : EReal)) i = (r : EReal) := by
  have ht : top3 (fun i => (a i : EReal)) = ((max (max (a 0) (a 1)) (a 2) : ℝ) : EReal) := by
    unfold top3
    rw [EReal.coe_strictMono.monotone.map_max, EReal.coe_strictMono.monotone.map_max]
  unfold share
  simp only [ht, ← EReal.coe_sub, exp_coe, ← EReal.coe_add]
  rw [div_coe _ (by positivity), ← EReal.coe_mul]
  exact ⟨_, by positivity, rfl⟩

end Real

section Gather

variable {K J : Type} [Fintype K] [Fintype J]

theorem exp_bot_sub (r : EReal) : Ideal.exp (⊥ - r) = 0 := by
  rw [sub_eq_add_neg, EReal.bot_add]; rfl

theorem top_gather (s : K → EReal) (g : J → K) (off : ∀ x, (∀ j, g j ≠ x) → s x = ⊥) :
    top s = top (fun j => s (g j)) := by
  rw [top_eq_sup, top_eq_sup]
  refine le_antisymm (Finset.sup_le fun x _ => ?_) (Finset.sup_le fun j _ => Finset.le_sup (f := s) (Finset.mem_univ (g j)))
  by_cases h : ∃ j, g j = x
  · obtain ⟨j, rfl⟩ := h
    exact Finset.le_sup (f := fun j => s (g j)) (Finset.mem_univ j)
  · rw [off x fun j hj => h ⟨j, hj⟩]
    exact bot_le

theorem num_gather (s : K → EReal) (g : J → K) (off : ∀ x, (∀ j, g j ≠ x) → s x = ⊥) (j : J) :
    num s (g j) = num (fun j => s (g j)) j := by
  unfold num
  rw [top_gather s g off]

theorem num_off (s : K → EReal) (g : J → K) (off : ∀ x, (∀ j, g j ≠ x) → s x = ⊥) (x : K) (h : ∀ j, g j ≠ x) :
    num s x = 0 := by
  unfold num
  rw [off x h]
  exact exp_bot_sub _

theorem den_gather (s : K → EReal) (g : J → K) (hg : Function.Injective g) (off : ∀ x, (∀ j, g j ≠ x) → s x = ⊥) :
    den s = den (fun j => s (g j)) := by
  unfold den
  refine (Fintype.sum_of_injective g hg _ _ (fun x hx => num_off s g off x fun j hj => hx ⟨j, hj⟩) fun j => ?_).symm
  exact (num_gather s g off j).symm

theorem lse_gather (s : K → EReal) (g : J → K) (hg : Function.Injective g) (off : ∀ x, (∀ j, g j ≠ x) → s x = ⊥) :
    lse s = lse (fun j => s (g j)) := by
  unfold lse
  rw [den_gather s g hg off, top_gather s g off]

/-- One pattern's weighted sum of values over all key positions is the pattern's attention over its own, times its
    share: the masked positions have weight zero, and the weights' common factor is a nonnegative real. -/
theorem weight_sum [Nonempty J] (s : Fin 3 → K → EReal) (v : K → EReal) (g : Fin 3 → J → K)
    (hg : ∀ i, Function.Injective (g i)) (off : ∀ i x, (∀ j, g i j ≠ x) → s i x = ⊥)
    (real : ∀ i j, ∃ r : ℝ, s i (g i j) = (r : EReal)) (i : Fin 3) :
    (∑ x, weight s i x * v x) = part (fun i j => s i (g i j)) (fun i j => v (g i j)) i := by
  choose a ha using real
  have hl : (fun i => lse (s i)) = fun i => lse (fun j => (a i j : EReal)) := by
    funext i
    rw [lse_gather (s i) (g i) (hg i) (off i)]
    exact congrArg lse (funext fun j => ha i j)
  choose b hb using fun i => (den_coe (a i)).2
  obtain ⟨c, hc, hs⟩ := share_coe b i
  obtain ⟨d, hd, hde⟩ := (den_coe (a i)).1
  have hde' : den (fun j => s i (g i j)) = (d : EReal) := by
    rw [← hde]
    exact congrArg den (funext fun j => ha i j)
  have hsh : share (fun i => lse (s i)) i = (c : EReal) := by
    rw [hl, ← hs]
    exact congrArg (fun f => share f i) (funext hb)
  have hsh' : share (fun i => lse (fun j => s i (g i j))) i = (c : EReal) := by
    rw [← hsh]
    exact congrArg (fun f => share f i) (funext fun i => (lse_gather (s i) (g i) (hg i) (off i)).symm)
  unfold part
  rw [hsh', hde', div_coe _ hd]
  have hw : ∀ x, weight s i x = num (s i) x * ((c * d⁻¹ : ℝ) : EReal) := by
    intro x
    unfold weight
    rw [hsh, den_gather (s i) (g i) (hg i) (off i), hde', div_coe _ hd, EReal.coe_mul]
  have hsum : (∑ x, weight s i x * v x) = ∑ j, ((c * d⁻¹ : ℝ) : EReal) * (num (fun j => s i (g i j)) j * v (g i j)) := by
    refine (Fintype.sum_of_injective (g i) (hg i) _ _ (fun x hx => ?_) fun j => ?_).symm
    · rw [hw, num_off (s i) (g i) (off i) x fun j hj => hx ⟨j, hj⟩, zero_mul, zero_mul]
    · rw [hw, num_gather (s i) (g i) (off i)]
      rw [mul_comm (num _ j) ((c * d⁻¹ : ℝ) : EReal), mul_assoc]
  rw [hsum]
  have hcd : 0 ≤ c * d⁻¹ := by positivity
  have pull : ∀ f : J → EReal, (∑ j, ((c * d⁻¹ : ℝ) : EReal) * f j) = ((c * d⁻¹ : ℝ) : EReal) * ∑ j, f j := by
    intro f
    classical
    induction (Finset.univ : Finset J) using Finset.induction_on with
    | empty => simp
    | insert x t hx ih =>
      rw [Finset.sum_insert hx, Finset.sum_insert hx, ih,
        EReal.left_distrib_of_nonneg_of_ne_top (by exact_mod_cast hcd) (EReal.coe_ne_top _)]
  rw [pull, EReal.coe_mul, mul_assoc, mul_comm ((d⁻¹ : ℝ) : EReal)]

end Gather

end Cert.Layer

end
-- ==== Proof.WeightPay.lean ====
/- The attention weights of the sequence whose weights are computed at the point, read at an index. -/
module

public import proofs.«01_k».proof.Proof.SamplePay
public import proofs.«01_k».proof.Proof.Merge
public import Idealize.ShloMosaic.Lib.Pipeline.Value

@[expose] public section

set_option maxRecDepth 16384

noncomputable section

namespace Cert.KernelIdeal.Sample

open Idealize.ShloMosaic Idealize.ShloMosaic.TcCoe Idealize.SL.Sem
open Cert.KernelIdeal Cert.KernelIdeal.Gen Cert.Layer

theorem pay4_at (b : FVec Ideal S96x2176 .f32) (r : Fin 96) (x : Fin 2176) :
    k0_pay4 (F := Ideal) b (ix2 r x) = b (ix2 r x) * ⊥ := by
  pointwise [k0_pay4]
  rw [show Named.named (F := Ideal) (φ := .f32) κ "mask" 0xF149F2CA#32 = (⊥ : EReal) from IdealRules.named_const.ideal_named_scalar κ "mask" _ ⊥ rfl]

/-- Twelve blocks of eight rows, the four given ones three times over. -/
theorem cat12_at (A : Fin 4 → FVec Ideal S8x512 .f32) (i : Fin 3) (t : Fin 4) (h : Fin 8) (l : Fin 512) :
    concatenate S96x512 0 [⟨S8x512, A 0⟩, ⟨S8x512, A 1⟩, ⟨S8x512, A 2⟩, ⟨S8x512, A 3⟩, ⟨S8x512, A 0⟩, ⟨S8x512, A 1⟩, ⟨S8x512, A 2⟩, ⟨S8x512, A 3⟩, ⟨S8x512, A 0⟩, ⟨S8x512, A 1⟩, ⟨S8x512, A 2⟩, ⟨S8x512, A 3⟩]
      concatenates_S8x512_S8x512_S8x512_S8x512_S8x512_S8x512_S8x512_S8x512_S8x512_S8x512_S8x512_S8x512_S96x512_d0
      (ix2 ⟨32 * i.val + 8 * t.val + h.val, by omega⟩ l) = A t (ix2 h l) := by
  have hv0 : (ix2 (⟨32 * i.val + 8 * t.val + h.val, by omega⟩ : Fin 96) l : S96x512.Idx) 0 = (⟨32 * i.val + 8 * t.val + h.val, by omega⟩ : Fin 96) := rfl
  refine (Idealize.ShloMosaic.concatenate_ofFn_apply (t := S96x512) (s₁ := S8x512) 0 (fun n : Fin 12 => A ⟨n.val % 4, by omega⟩) _ rfl 8 rfl
    (ix2 ⟨32 * i.val + 8 * t.val + h.val, by omega⟩ l)
    ⟨4 * i.val + t.val, by omega⟩ (by rw [hv0]; show (32 * i.val + 8 * t.val + h.val) / 8 = 4 * i.val + t.val; omega) (ix2 h l)
    (by rw [hv0]; show h.val = (32 * i.val + 8 * t.val + h.val) % 8; omega)
    (fun b hb => by
      have hb1 : b = 1 := by
        revert hb; revert b; decide
      subst hb1; rfl)).trans ?_
  have e : (⟨(4 * i.val + t.val) % 4, by omega⟩ : Fin 4) = t := Fin.ext (by show (4 * i.val + t.val) % 4 = t.val; omega)
  exact congrArg (fun t => A t (ix2 h l)) e

/-- Head `h`'s part of the product of a query row and a key row. -/
theorem sum_masked (h : Fin 8) (f k : Fin 512 → EReal) :
    (∑ l : Fin 512, Scalar.select (if h.val = l.val / 64 then 1#1 else 0#1) (f l) 0 * k l) = headDot f k h := by
  rw [Fin.sum_univ_tiles 8 64 rfl, Finset.sum_eq_single h]
  · refine Finset.sum_congr rfl fun d _ => ?_
    rw [if_pos (by simp only [Fin.val_mk]; omega)]
    exact congrArg₂ (fun a b => f a * k b) (Fin.ext (by simp only [Fin.val_mk]; omega)) (Fin.ext (by simp only [Fin.val_mk]; omega))
  · intro h' _ hh
    refine Finset.sum_eq_zero fun d _ => ?_
    rw [if_neg (fun e => hh (Fin.ext (by simp only [Fin.val_mk] at e; omega)))]
    exact zero_mul _
  · intro h; exact absurd (Finset.mem_univ _) h

section Scores

variable (q kn : FVec Ideal S4x512 .f32) (kt : FVec Ideal S8x64x2048 .f32) (b : FVec Ideal S96x2176 .f32)

/-- The row of scores' position in the block of all patterns, steps and heads. -/
abbrev row (i : Fin 3) (t : Fin 4) (h : Fin 8) : Fin 96 := ⟨32 * i.val + 8 * t.val + h.val, by omega⟩

theorem pay6_old (i : Fin 3) (t : Fin 4) (h : Fin 8) (x : Fin 2048) :
    k0_pay6 (F := Ideal) q kn kt b k0_pay5 (ix2 (row i t h) ⟨x.val, by omega⟩)
      = headDot (fun l => q (ix2 t l)) (fun l => kt (ix3 ⟨l.val / 64, by omega⟩ ⟨l.val % 64, by omega⟩ x)) h + b (ix2 (row i t h) ⟨x.val, by omega⟩) := by
  unfold k0_pay6
  generalize hv : concatenate S96x512 0 _ _ = v58
  have e : ∀ l, v58 (ix2 (row i t h) l) = Scalar.select (if h.val = l.val / 64 then 1#1 else 0#1) (q (ix2 t l)) 0 := by
    intro l
    rw [← hv]
    refine (cat12_at (fun t => match t with | 0 => _ | 1 => _ | 2 => _ | 3 => _) i t h l).trans ?_
    fin_cases t <;> (pointwise; simp only [head5])
  pointwise
  simp only [e, sum_masked, mul_zero, Finset.sum_const_zero]

theorem pay6_new (i : Fin 3) (t : Fin 4) (h : Fin 8) (x : Fin 4) :
    k0_pay6 (F := Ideal) q kn kt b k0_pay5 (ix2 (row i t h) ⟨2048 + x.val, by omega⟩)
      = headDot (fun l => q (ix2 t l)) (fun l => kn (ix2 x l)) h + b (ix2 (row i t h) ⟨2048 + x.val, by omega⟩) := by
  unfold k0_pay6
  generalize hv : concatenate S96x512 0 _ _ = v58
  have e : ∀ l, v58 (ix2 (row i t h) l) = Scalar.select (if h.val = l.val / 64 then 1#1 else 0#1) (q (ix2 t l)) 0 := by
    intro l
    rw [← hv]
    refine (cat12_at (fun t => match t with | 0 => _ | 1 => _ | 2 => _ | 3 => _) i t h l).trans ?_
    fin_cases t <;> (pointwise; simp only [head5])
  pointwise
  simp only [e, sum_masked, mul_zero, Finset.sum_const_zero]

theorem pay6_pad (i : Fin 3) (t : Fin 4) (h : Fin 8) (x : Fin 124) :
    k0_pay6 (F := Ideal) q kn kt b k0_pay5 (ix2 (row i t h) ⟨2048 + (4 + x.val), by omega⟩)
      = 0 + b (ix2 (row i t h) ⟨2048 + (4 + x.val), by omega⟩) := by
  unfold k0_pay6
  generalize hv : concatenate S96x512 0 _ _ = v58
  have e : ∀ l, v58 (ix2 (row i t h) l) = Scalar.select (if h.val = l.val / 64 then 1#1 else 0#1) (q (ix2 t l)) 0 := by
    intro l
    rw [← hv]
    refine (cat12_at (fun t => match t with | 0 => _ | 1 => _ | 2 => _ | 3 => _) i t h l).trans ?_
    fin_cases t <;> (pointwise; simp only [head5])
  pointwise
  simp only [e, sum_masked, mul_zero, Finset.sum_const_zero]
  exact zero_add _

/-- The score of a key position: the head's product and the bias. -/
theorem pay6_at (i : Fin 3) (t : Fin 4) (h : Fin 8) (x : Fin 2176) :
    k0_pay6 (F := Ideal) q kn kt b k0_pay5 (ix2 (row i t h) x)
      = headDot (fun l => q (ix2 t l)) (keyRow (fun l x => kt (ix3 ⟨l.val / 64, by omega⟩ ⟨l.val % 64, by omega⟩ x))
          (fun x l => kn (ix2 x l)) x) h + b (ix2 (row i t h) x) := by
  by_cases h1 : x.val < 2048
  · have := pay6_old q kn kt b i t h ⟨x.val, h1⟩
    rw [this]
    unfold keyRow
    simp only [dif_pos h1]
  · by_cases h2 : x.val < 2052
    · have := pay6_new q kn kt b i t h ⟨x.val - 2048, by omega⟩
      simp only [show 2048 + (x.val - 2048) = x.val by omega] at this
      rw [this]
      unfold keyRow
      simp only [dif_neg h1, dif_pos h2]
    · have := pay6_pad q kn kt b i t h ⟨x.val - 2052, by omega⟩
      simp only [show 2048 + (4 + (x.val - 2052)) = x.val by omega] at this
      rw [this]
      unfold keyRow headDot
      simp only [dif_neg h1, dif_neg h2, mul_zero, Finset.sum_const_zero]

/-- The scores of the block's row. -/
abbrev scores (m : IVec S8x512 1) (r : Fin 96) (x : Fin 2176) : EReal := k0_pay6 (F := Ideal) q kn kt b m (ix2 r x)

theorem neg_inf : Ideal.ofBits .f32 0xFF800000#32 = (⊥ : EReal) := by
  simp [Ideal.ofBits, Ideal.ieee]

theorem pay7_at (m : IVec S8x512 1) (r : Fin 96) : k0_pay7 (F := Ideal) q kn kt b m (ix2 r 0) = top (scores q kn kt b m r) := by
  pointwise [k0_pay7]
  rw [neg_inf]
  rfl

theorem pay8_at (m : IVec S8x512 1) (r : Fin 96) (x : Fin 2176) :
    k0_pay8 (F := Ideal) q kn kt b m (ix2 r x) = num (scores q kn kt b m r) x := by
  pointwise [k0_pay8]
  rw [pay7_at]
  rfl

theorem pay9_at (m : IVec S8x512 1) (r : Fin 96) :
    k0_pay9 (F := Ideal) q kn kt b m (ix2 r 0) = den (scores q kn kt b m r) := by
  pointwise [k0_pay9]
  exact Finset.sum_congr rfl fun x _ => pay8_at q kn kt b m r x

theorem pay10_at (m : IVec S8x512 1) (r : Fin 96) :
    k0_pay10 (F := Ideal) q kn kt b m (ix2 r 0) = lse (scores q kn kt b m r) := by
  pointwise [k0_pay10]
  rw [pay7_at, pay9_at]
  rfl

/-- The three patterns' rows of one step and head. -/
abbrev rows (y : Fin 32) (i : Fin 3) : Fin 96 := ⟨32 * i.val + y.val, by omega⟩

theorem rows0 (y : Fin 32) : (⟨y.val, by omega⟩ : Fin 96) = rows y 0 := Fin.ext (Nat.zero_add _).symm

theorem rows1 (y : Fin 32) : (⟨32 + y.val, by omega⟩ : Fin 96) = rows y 1 := rfl

theorem rows2 (y : Fin 32) : (⟨64 + y.val, by omega⟩ : Fin 96) = rows y 2 := rfl

theorem pay11_at (m : IVec S8x512 1) (y : Fin 32) :
    k0_pay11 (F := Ideal) q kn kt b m (ix2 y 0) = lse (scores q kn kt b m (rows y 0)) := by
  rw [← rows0]
  pointwise [k0_pay11]
  exact pay10_at q kn kt b m _

theorem pay12_at (m : IVec S8x512 1) (y : Fin 32) :
    k0_pay12 (F := Ideal) q kn kt b m (ix2 y 0) = lse (scores q kn kt b m (rows y 1)) := by
  rw [← rows1]
  pointwise [k0_pay12]
  exact pay10_at q kn kt b m _

theorem pay13_at (m : IVec S8x512 1) (y : Fin 32) :
    k0_pay13 (F := Ideal) q kn kt b m (ix2 y 0) = lse (scores q kn kt b m (rows y 2)) := by
  rw [← rows2]
  pointwise [k0_pay13]
  exact pay10_at q kn kt b m _

theorem pay14_at (m : IVec S8x512 1) (y : Fin 32) :
    k0_pay14 (F := Ideal) q kn kt b m (ix2 y 0) = top3 (fun i => lse (scores q kn kt b m (rows y i))) := by
  pointwise [k0_pay14]
  rw [pay11_at, pay12_at, pay13_at]
  rfl

/-- The pattern's factor, as the three blocks of rows hold it. -/
theorem pay18_0 (p : FVec Ideal S96x2176 .f32) (d : FVec Ideal S96x1 .f32) (e₀ e₁ e₂ : FVec Ideal S32x1 .f32) (y : Fin 32)
    (x : Fin 2176) : k0_pay18 (F := Ideal) p d e₀ e₁ e₂ (ix2 ⟨y.val, by omega⟩ x)
      = p (ix2 ⟨y.val, by omega⟩ x) * Ideal.div (Ideal.div (e₀ (ix2 y 0)) (e₀ (ix2 y 0) + e₁ (ix2 y 0) + e₂ (ix2 y 0)))
          (d (ix2 ⟨y.val, by omega⟩ 0)) := by
  pointwise [k0_pay18]

theorem pay18_1 (p : FVec Ideal S96x2176 .f32) (d : FVec Ideal S96x1 .f32) (e₀ e₁ e₂ : FVec Ideal S32x1 .f32) (y : Fin 32)
    (x : Fin 2176) : k0_pay18 (F := Ideal) p d e₀ e₁ e₂ (ix2 ⟨32 + y.val, by omega⟩ x)
      = p (ix2 ⟨32 + y.val, by omega⟩ x) * Ideal.div (Ideal.div (e₁ (ix2 y 0)) (e₀ (ix2 y 0) + e₁ (ix2 y 0) + e₂ (ix2 y 0)))
          (d (ix2 ⟨32 + y.val, by omega⟩ 0)) := by
  pointwise [k0_pay18]

theorem pay18_2 (p : FVec Ideal S96x2176 .f32) (d : FVec Ideal S96x1 .f32) (e₀ e₁ e₂ : FVec Ideal S32x1 .f32) (y : Fin 32)
    (x : Fin 2176) : k0_pay18 (F := Ideal) p d e₀ e₁ e₂ (ix2 ⟨32 + (32 + y.val), by omega⟩ x)
      = p (ix2 ⟨32 + (32 + y.val), by omega⟩ x) * Ideal.div (Ideal.div (e₂ (ix2 y 0)) (e₀ (ix2 y 0) + e₁ (ix2 y 0) + e₂ (ix2 y 0)))
          (d (ix2 ⟨32 + (32 + y.val), by omega⟩ 0)) := by
  pointwise [k0_pay18]

theorem pay15_at (m : IVec S8x512 1) (y : Fin 32) : k0_pay15 (F := Ideal) q kn kt b m (ix2 y 0)
    = Ideal.exp (lse (scores q kn kt b m (rows y 0)) - top3 (fun i => lse (scores q kn kt b m (rows y i)))) := by
  pointwise [k0_pay15]
  rw [pay11_at, pay14_at]

theorem pay16_at (m : IVec S8x512 1) (y : Fin 32) : k0_pay16 (F := Ideal) q kn kt b m (ix2 y 0)
    = Ideal.exp (lse (scores q kn kt b m (rows y 1)) - top3 (fun i => lse (scores q kn kt b m (rows y i)))) := by
  pointwise [k0_pay16]
  rw [pay12_at, pay14_at]

theorem pay17_at (m : IVec S8x512 1) (y : Fin 32) : k0_pay17 (F := Ideal) q kn kt b m (ix2 y 0)
    = Ideal.exp (lse (scores q kn kt b m (rows y 2)) - top3 (fun i => lse (scores q kn kt b m (rows y i)))) := by
  pointwise [k0_pay17]
  rw [pay13_at, pay14_at]

/-- The weights of the block: row `32 i + y` holds pattern `i`. -/
theorem pay18_at (m : IVec S8x512 1) (y : Fin 32) (x : Fin 2176) : ∀ i : Fin 3,
    k0_pay18 (F := Ideal) (k0_pay8 q kn kt b m) (k0_pay9 q kn kt b m) (k0_pay15 q kn kt b m) (k0_pay16 q kn kt b m)
      (k0_pay17 q kn kt b m) (ix2 (rows y i) x) = weight (fun i => scores q kn kt b m (rows y i)) i x := by
  intro i
  fin_cases i
  · show k0_pay18 (F := Ideal) _ _ _ _ _ (ix2 (rows y 0) x) = weight _ 0 x
    rw [← rows0, pay18_0, rows0, pay8_at, pay9_at, pay15_at, pay16_at, pay17_at]
    rfl
  · show k0_pay18 (F := Ideal) _ _ _ _ _ (ix2 (rows y 1) x) = weight _ 1 x
    rw [← rows1, pay18_1, rows1, pay8_at, pay9_at, pay15_at, pay16_at, pay17_at]
    rfl
  · show k0_pay18 (F := Ideal) _ _ _ _ _ (ix2 (rows y 2) x) = weight _ 2 x
    rw [show rows y 2 = ⟨32 + (32 + y.val), by omega⟩ from Fin.ext (by show 64 + y.val = 32 + (32 + y.val); omega), pay18_2,
      show (⟨32 + (32 + y.val), by omega⟩ : Fin 96) = rows y 2 from Fin.ext (by show 32 + (32 + y.val) = 64 + y.val; omega),
      pay8_at, pay9_at, pay15_at, pay16_at, pay17_at]
    rfl

end Scores

end Cert.KernelIdeal.Sample

end
-- ==== Proof.SampleBlock.lean ====
/- What one grid point stores for its two sequences: the normalized attention of the first from its given weights, and
   of the second from the weights that the point computes. -/
module

public import proofs.«01_k».proof.Proof.Gen.KernelIdeal.Frame
public import proofs.«01_k».proof.Proof.SamplePay
public import proofs.«01_k».proof.Proof.WeightPay
public import Idealize.ShloMosaic.Lib.Pipeline.ValueKit

@[expose] public section

set_option maxRecDepth 16384

noncomputable section

namespace Cert.KernelIdeal.Sample

open Idealize.ShloMosaic Idealize.ShloMosaic.TcCoe Idealize.SL.Sem
open Cert.KernelIdeal Cert.KernelIdeal.Gen Cert.Layer

/-- The attention at one lane from the scores of the three patterns at every position. -/
def own3 (s : Fin 3 → Fin 2176 → EReal) (old : Fin 2048 → EReal) (new : Fin 4 → EReal) : EReal :=
  mixRow (weight s 0) old new + mixRow (weight s 1) old new + mixRow (weight s 2) old new

/-- The position of step `t` and head `h` among a pattern's rows. -/
abbrev place (t : Fin 4) (h : Fin 8) : Fin 32 := ⟨8 * t.val + h.val, by omega⟩

/-- The attention with the weights that the block computes. -/
theorem att_own (q kn vn : FVec Ideal S4x512 .f32) (kt vt : FVec Ideal S8x64x2048 .f32) (b : FVec Ideal S96x2176 .f32)
    (m : IVec S8x512 1) (t : Fin 4) (l : Fin 512) :
    att (k0_pay18 (F := Ideal) (k0_pay8 q kn kt b m) (k0_pay9 q kn kt b m) (k0_pay15 q kn kt b m) (k0_pay16 q kn kt b m)
      (k0_pay17 q kn kt b m)) vn vt t l
      = own3 (fun i => scores q kn kt b m (rows (place t ⟨l.val / 64, by omega⟩) i))
          (fun x => vt (ix3 ⟨l.val / 64, by omega⟩ ⟨l.val % 64, by omega⟩ x)) (fun x => vn (ix2 x l)) := by
  have e (i : Fin 3) := fun x => pay18_at q kn kt b m (place t ⟨l.val / 64, by omega⟩) x i
  unfold att mixed3 own3
  rw [← funext (e 0), ← funext (e 1), ← funext (e 2)]
  have r0 : (⟨8 * t.val + l.val / 64, by omega⟩ : Fin 96) = rows (place t ⟨l.val / 64, by omega⟩) 0 :=
    Fin.ext (by show 8 * t.val + l.val / 64 = 32 * 0 + (8 * t.val + l.val / 64); omega)
  have r1 : (⟨32 + 8 * t.val + l.val / 64, by omega⟩ : Fin 96) = rows (place t ⟨l.val / 64, by omega⟩) 1 :=
    Fin.ext (by show 32 + 8 * t.val + l.val / 64 = 32 * 1 + (8 * t.val + l.val / 64); omega)
  have r2 : (⟨64 + 8 * t.val + l.val / 64, by omega⟩ : Fin 96) = rows (place t ⟨l.val / 64, by omega⟩) 2 :=
    Fin.ext (by show 64 + 8 * t.val + l.val / 64 = 32 * 2 + (8 * t.val + l.val / 64); omega)
  rw [r0, r1, r2]

section Block

variable (x0 : Vec Ideal S512x1024 .f32) (x1 x2 : Vec Ideal S512x512 .bf16) (x3 : Vec Ideal S1024x1024 .bf16)
  (x4 x5 : Vec Ideal S1x1024 .f32) (x6 : Vec Ideal S1024x4096 .bf16) (x7 : Vec Ideal S4096x1024 .bf16)
  (x8 : Vec Ideal S1x1024 .f32) (x9 : FVec Ideal S1x96x2176 .bf16) (x10 : FVec Ideal S4x2x1x512 .f32)
  (x11 : FVec Ideal S2x8x64x2048 .f32) (x12 : FVec Ideal S1x512 .f32) (x13 x14 : FVec Ideal S4x1x1x512 .f32)
  (x15 : FVec Ideal S1x8x64x2048 .f32) (x16 : FVec Ideal S96x2176 .f32)

/-- A block's value rows. -/
abbrev oldVals (s : Fin 2) (l : Fin 512) (x : Fin 2048) : EReal := x11 (ix4 s ⟨l.val / 64, by omega⟩ ⟨l.val % 64, by omega⟩ x)

/-- A block's new value rows. -/
abbrev newVals (s : Fin 2) (x : Fin 4) (l : Fin 512) : EReal := x10 (ix4 x s 0 l)

/-- The attention of the block's first sequence. -/
def given (t : Fin 4) (l : Fin 512) : EReal :=
  mixed3 (fun r x => x9 (ix3 0 r x)) (oldVals x11 0) (newVals x10 0) t l

/-- A block's scores. -/
def blockScore (t : Fin 4) (h : Fin 8) (i : Fin 3) (x : Fin 2176) : EReal :=
  headDot (fun l => x13 (ix4 t 0 0 l)) (keyRow (fun l x => x15 (ix4 0 ⟨l.val / 64, by omega⟩ ⟨l.val % 64, by omega⟩ x))
    (fun x l => x14 (ix4 x 0 0 l)) x) h + x16 (ix2 (row i t h) x) * ⊥

/-- The attention of the block's second sequence. -/
def own (t : Fin 4) (l : Fin 512) : EReal :=
  own3 (blockScore x13 x14 x15 x16 t ⟨l.val / 64, by omega⟩) (oldVals x11 1 l) (fun x => newVals x10 1 x l)

/-- The attention of either. -/
def either (s : Fin 2) (t : Fin 4) (l : Fin 512) : EReal :=
  if s.val = 0 then given x9 x10 x11 t l else own x10 x11 x13 x14 x15 x16 t l

/-- What the point reads of its blocks. -/
theorem ld9 (r : Fin 96) (x : Fin 2176) : k0_pay19 (F := Ideal) (View.ld x9 r0_3) (ix2 r x) = x9 (ix3 0 r x) := by
  unfold k0_pay19
  pointwise
  try blk_ext

theorem ld10 (x : Fin 4) (l : Fin 512) : k0_pay20 (F := Ideal) (View.ld x10 r0_4) (ix2 x l) = x10 (ix4 x 0 0 l) := by
  unfold k0_pay20
  pointwise
  try blk_ext

theorem ld10' (x : Fin 4) (l : Fin 512) : k0_pay41 (F := Ideal) (View.ld x10 r0_15) (ix2 x l) = x10 (ix4 x 1 0 l) := by
  unfold k0_pay41
  pointwise
  try blk_ext

theorem ld11 (h : Fin 8) (d : Fin 64) (x : Fin 2048) :
    k0_pay21 (F := Ideal) (View.ld x11 r0_5) (ix3 h d x) = x11 (ix4 0 h d x) := by
  unfold k0_pay21
  pointwise
  try blk_ext

theorem ld11' (h : Fin 8) (d : Fin 64) (x : Fin 2048) :
    k0_pay42 (F := Ideal) (View.ld x11 r0_16) (ix3 h d x) = x11 (ix4 1 h d x) := by
  unfold k0_pay42
  pointwise
  try blk_ext

theorem ld12 (l : Fin 512) : k0_pay22 (F := Ideal) (View.ld x12 r0_6) (ix2 0 l) = x12 (ix2 0 l) := by
  unfold k0_pay22
  pointwise
  try blk_ext

theorem ld12' (l : Fin 512) : k0_pay43 (F := Ideal) (View.ld x12 r0_6) (ix2 0 l) = x12 (ix2 0 l) := by
  unfold k0_pay43
  pointwise
  try blk_ext

theorem ld13 (t : Fin 4) (l : Fin 512) : k0_pay1 (F := Ideal) (View.ld x13 r0_0) (ix2 t l) = x13 (ix4 t 0 0 l) := by
  unfold k0_pay1
  pointwise
  try blk_ext

theorem ld14 (t : Fin 4) (l : Fin 512) : k0_pay2 (F := Ideal) (View.ld x14 r0_0) (ix2 t l) = x14 (ix4 t 0 0 l) := by
  unfold k0_pay2
  pointwise
  try blk_ext

theorem ld15 (h : Fin 8) (d : Fin 64) (x : Fin 2048) :
    k0_pay3 (F := Ideal) (View.ld x15 r0_1) (ix3 h d x) = x15 (ix4 0 h d x) := by
  unfold k0_pay3
  pointwise
  try blk_ext

theorem ld16 (r : Fin 96) (x : Fin 2176) : k0_pay4 (F := Ideal) (View.ld x16 r0_2) (ix2 r x) = x16 (ix2 r x) * ⊥ := by
  rw [pay4_at]
  pointwise
  try blk_ext

/-- The row of the first sequence. -/
theorem given_row (t : Fin 4) (l : Fin 512) :
    rms len512 (att (k0_pay19 (F := Ideal) (View.ld x9 r0_3)) (k0_pay20 (F := Ideal) (View.ld x10 r0_4))
      (k0_pay21 (F := Ideal) (View.ld x11 r0_5)) t) (fun k => k0_pay22 (F := Ideal) (View.ld x12 r0_6) (ix2 0 k)) l
      = rms len512 (either x9 x10 x11 x13 x14 x15 x16 0 t) (fun k => x12 (ix2 0 k)) l := by
  refine congrArg₂ (fun a b => rms len512 a b l) (funext fun l => ?_) (funext fun k => ld12 x12 k)
  unfold either
  rw [if_pos (show (0 : Fin 2).val = 0 from rfl)]
  unfold att given
  simp only [ld9, ld10, ld11]

/-- The second sequence's scores. -/
theorem score_at (t : Fin 4) (h : Fin 8) (i : Fin 3) (x : Fin 2176) :
    scores (k0_pay1 (F := Ideal) (View.ld x13 r0_0)) (k0_pay2 (F := Ideal) (View.ld x14 r0_0))
      (k0_pay3 (F := Ideal) (View.ld x15 r0_1)) (k0_pay4 (F := Ideal) (View.ld x16 r0_2)) k0_pay5 (rows (place t h) i) x
      = blockScore x13 x14 x15 x16 t h i x := by
  have e : rows (place t h) i = row i t h :=
    Fin.ext (by show 32 * i.val + (8 * t.val + h.val) = 32 * i.val + 8 * t.val + h.val; omega)
  unfold blockScore
  show k0_pay6 (F := Ideal) _ _ _ _ _ (ix2 (rows (place t h) i) x) = _
  rw [e, pay6_at]
  simp only [ld13, ld14, ld15, ld16]

/-- The row of the second sequence. -/
theorem own_row (t : Fin 4) (l : Fin 512) :
    rms len512 (att (k0_pay18 (F := Ideal)
        (k0_pay8 (k0_pay1 (View.ld x13 r0_0)) (k0_pay2 (View.ld x14 r0_0)) (k0_pay3 (View.ld x15 r0_1)) (k0_pay4 (View.ld x16 r0_2)) k0_pay5)
        (k0_pay9 (k0_pay1 (View.ld x13 r0_0)) (k0_pay2 (View.ld x14 r0_0)) (k0_pay3 (View.ld x15 r0_1)) (k0_pay4 (View.ld x16 r0_2)) k0_pay5)
        (k0_pay15 (k0_pay1 (View.ld x13 r0_0)) (k0_pay2 (View.ld x14 r0_0)) (k0_pay3 (View.ld x15 r0_1)) (k0_pay4 (View.ld x16 r0_2)) k0_pay5)
        (k0_pay16 (k0_pay1 (View.ld x13 r0_0)) (k0_pay2 (View.ld x14 r0_0)) (k0_pay3 (View.ld x15 r0_1)) (k0_pay4 (View.ld x16 r0_2)) k0_pay5)
        (k0_pay17 (k0_pay1 (View.ld x13 r0_0)) (k0_pay2 (View.ld x14 r0_0)) (k0_pay3 (View.ld x15 r0_1)) (k0_pay4 (View.ld x16 r0_2)) k0_pay5))
        (k0_pay41 (F := Ideal) (View.ld x10 r0_15)) (k0_pay42 (F := Ideal) (View.ld x11 r0_16)) t)
        (fun k => k0_pay43 (F := Ideal) (View.ld x12 r0_6) (ix2 0 k)) l
      = rms len512 (either x9 x10 x11 x13 x14 x15 x16 1 t) (fun k => x12 (ix2 0 k)) l := by
  refine congrArg₂ (fun a b => rms len512 a b l) (funext fun l => ?_) (funext fun k => ld12' x12 k)
  unfold either
  rw [if_neg (show ¬ (1 : Fin 2).val = 0 from by decide), att_own]
  unfold own
  refine congr (congrArg₂ own3 (funext fun i => funext fun x => score_at x13 x14 x15 x16 t _ i x) (funext fun x => ?_)) (funext fun x => ?_)
  · exact ld11' x11 _ _ x
  · exact ld10' x10 x l

/-- The result's row at a place given by its coordinates. -/
theorem at_place (y : S4x2x1x512.Idx) (s : Fin 2) (t : Fin 4) (l : Fin 512) (h0 : (y 0).val = t.val) (h1 : (y 1).val = s.val)
    (h3 : (y 3).val = l.val) :
    rms len512 (either x9 x10 x11 x13 x14 x15 x16 s t) (fun k => x12 (ix2 0 k)) l
      = rms len512 (either x9 x10 x11 x13 x14 x15 x16 (y 1) (y 0)) (fun k => x12 (ix2 0 k)) (y 3) := by
  obtain rfl : y 0 = t := Fin.ext h0
  obtain rfl : y 1 = s := Fin.ext h1
  obtain rfl : y 3 = l := Fin.ext h3
  rfl

theorem pay34_at (v : FVec Ideal S1x512 .f32) (a b d : Fin 1) (l : Fin 512) : k0_pay34 (F := Ideal) v (ix4 a b d l) = v (ix2 0 l) := by
  pointwise [k0_pay34]

theorem block18_at (y : S4x2x1x512.Idx) :
    out0_18 x0 x1 x2 x3 x4 x5 x6 x7 x8 x9 x10 x11 x12 x13 x14 x15 x16 y
      = rms len512 (either x9 x10 x11 x13 x14 x15 x16 (y 1) (y 0)) (fun k => x12 (ix2 0 k)) (y 3) := by
  unfold_out out0_18
  canon_tiles z h
  case piece0 =>
    idx_vars z
    refine (pay34_at _ z0 z1 z2 z3).trans ((pay51_at _ _ _ _ z3).trans ((own_row x9 x10 x11 x12 x13 x14 x15 x16 3 z3).trans
      (at_place x9 x10 x11 x12 x13 x14 x15 x16 y 1 3 z3 ?_ ?_ h3)))
    · show (y 0).val = 3
      omega
    · show (y 1).val = 1
      omega
  case piece1 =>
    idx_vars z
    refine (pay34_at _ z0 z1 z2 z3).trans ((pay50_at _ _ _ _ z3).trans ((own_row x9 x10 x11 x12 x13 x14 x15 x16 2 z3).trans
      (at_place x9 x10 x11 x12 x13 x14 x15 x16 y 1 2 z3 ?_ ?_ h3)))
    · show (y 0).val = 2
      omega
    · show (y 1).val = 1
      omega
  case piece2 =>
    idx_vars z
    refine (pay34_at _ z0 z1 z2 z3).trans ((pay49_at _ _ _ _ z3).trans ((own_row x9 x10 x11 x12 x13 x14 x15 x16 1 z3).trans
      (at_place x9 x10 x11 x12 x13 x14 x15 x16 y 1 1 z3 ?_ ?_ h3)))
    · show (y 0).val = 1
      omega
    · show (y 1).val = 1
      omega
  case piece3 =>
    idx_vars z
    refine (pay34_at _ z0 z1 z2 z3).trans ((pay47_at _ _ _ _ z3).trans ((own_row x9 x10 x11 x12 x13 x14 x15 x16 0 z3).trans
      (at_place x9 x10 x11 x12 x13 x14 x15 x16 y 1 0 z3 ?_ ?_ h3)))
    · show (y 0).val = 0
      omega
    · show (y 1).val = 1
      omega
  case piece4 =>
    idx_vars z
    refine (pay34_at _ z0 z1 z2 z3).trans ((pay33_at _ _ _ _ z3).trans ((given_row x9 x10 x11 x12 x13 x14 x15 x16 3 z3).trans
      (at_place x9 x10 x11 x12 x13 x14 x15 x16 y 0 3 z3 ?_ ?_ h3)))
    · show (y 0).val = 3
      omega
    · show (y 1).val = 0
      omega
  case piece5 =>
    idx_vars z
    refine (pay34_at _ z0 z1 z2 z3).trans ((pay32_at _ _ _ _ z3).trans ((given_row x9 x10 x11 x12 x13 x14 x15 x16 2 z3).trans
      (at_place x9 x10 x11 x12 x13 x14 x15 x16 y 0 2 z3 ?_ ?_ h3)))
    · show (y 0).val = 2
      omega
    · show (y 1).val = 0
      omega
  case piece6 =>
    idx_vars z
    refine (pay34_at _ z0 z1 z2 z3).trans ((pay31_at _ _ _ _ z3).trans ((given_row x9 x10 x11 x12 x13 x14 x15 x16 1 z3).trans
      (at_place x9 x10 x11 x12 x13 x14 x15 x16 y 0 1 z3 ?_ ?_ h3)))
    · show (y 0).val = 1
      omega
    · show (y 1).val = 0
      omega
  case piece7 =>
    idx_vars z
    refine (pay34_at _ z0 z1 z2 z3).trans ((pay27_at _ _ _ _ z3).trans ((given_row x9 x10 x11 x12 x13 x14 x15 x16 0 z3).trans
      (at_place x9 x10 x11 x12 x13 x14 x15 x16 y 0 0 z3 ?_ ?_ h3)))
    · show (y 0).val = 0
      omega
    · show (y 1).val = 0
      omega

end Block

end Cert.KernelIdeal.Sample

end
-- ==== Proof.Keys.lean ====
/- The key positions that each pattern of the dilated attention reads: of the token at time `t`, the 129 positions at
   distances 0, d, …, 128 d before it, for d = 1, 4 and 16. No program is named here. -/
module

public import Idealize.ShloMosaic.Lib.Pointwise

@[expose] public section

namespace Cert.Layer

/-- The patterns' dilations. -/
def gap : Fin 3 → Nat
  | 0 => 1
  | 1 => 4
  | 2 => 16

theorem gap_le (i : Fin 3) : 1 ≤ gap i ∧ gap i ≤ 16 := by
  revert i; decide

theorem key_bound (i : Fin 3) (j : Fin 129) : gap i * j.val ≤ 2048 :=
  (Nat.mul_le_mul (gap_le i).2 (Nat.le_of_lt_succ j.isLt)).trans (by omega)

/-- The position of key `j` of pattern `i` for new token `t`: positions 0 … 2047 are the window buffer's rows. -/
def key (i : Fin 3) (t : Fin 4) (j : Fin 129) : Fin 2176 := ⟨2048 + t.val - gap i * j.val, by omega⟩

theorem key_lt (i : Fin 3) (t : Fin 4) (j : Fin 129) : (key i t j).val < 2052 := by
  show 2048 + t.val - gap i * j.val < 2052
  omega

theorem key_inj (i : Fin 3) (t : Fin 4) : Function.Injective (key i t) := by
  intro j j' h
  have h' : 2048 + t.val - gap i * j.val = 2048 + t.val - gap i * j'.val := congrArg Fin.val h
  have b := key_bound i j
  have b' := key_bound i j'
  exact Fin.ext (Nat.eq_of_mul_eq_mul_left (gap_le i).1 (by omega))

/-- Whether pattern `i` reads position `x` for new token `t`. -/
def readsKey (i : Fin 3) (t : Fin 4) (x : Fin 2176) : Bool :=
  decide (x.val ≤ 2048 + t.val) && decide ((2048 + t.val - x.val) % gap i = 0) && decide ((2048 + t.val - x.val) / gap i ≤ 128)

theorem readsKey_key (i : Fin 3) (t : Fin 4) (j : Fin 129) : readsKey i t (key i t j) = true := by
  have b := key_bound i j
  have e : 2048 + t.val - (2048 + t.val - gap i * j.val) = gap i * j.val := by omega
  unfold readsKey
  simp only [Bool.and_eq_true, decide_eq_true_eq]
  show (2048 + t.val - gap i * j.val ≤ 2048 + t.val ∧ (2048 + t.val - (2048 + t.val - gap i * j.val)) % gap i = 0) ∧
    (2048 + t.val - (2048 + t.val - gap i * j.val)) / gap i ≤ 128
  rw [e, Nat.mul_div_cancel_left _ (gap_le i).1]
  exact ⟨⟨Nat.sub_le _ _, Nat.mul_mod_right _ _⟩, by omega⟩

theorem readsKey_off (i : Fin 3) (t : Fin 4) (x : Fin 2176) (h : ∀ j, key i t j ≠ x) : readsKey i t x = false := by
  by_contra hc
  have hc' : readsKey i t x = true := by simpa using hc
  simp only [readsKey, Bool.and_eq_true, decide_eq_true_eq] at hc'
  obtain ⟨⟨h1, h2⟩, h3⟩ := hc'
  refine h ⟨(2048 + t.val - x.val) / gap i, by omega⟩ (Fin.ext ?_)
  show 2048 + t.val - gap i * ((2048 + t.val - x.val) / gap i) = x.val
  have := Nat.mul_div_cancel' (Nat.dvd_of_mod_eq_zero h2)
  omega

end Cert.Layer
-- ==== Proof.Bias.lean ====
/- The table that marks the key positions outside each pattern (1 at a masked position, 0 at a read one), as the host code
   builds it, read at an index. -/
module

public import proofs.«01_k».proof.Proof.Host
public import proofs.«01_k».proof.Proof.Keys

@[expose] public section

set_option maxRecDepth 16384

noncomputable section

namespace Cert.KernelIdeal.Host

open Idealize.ShloMosaic Idealize.ShloMosaic.TcCoe Idealize.SL.Sem
open Cert.KernelIdeal Cert.KernelIdeal.Gen Cert.Layer

/-- Each key position's time, counted from the first new token. -/
def rel : IVec S2176 32 :=
  concatenate S2176 0 [⟨S2048, subi (iotaInDim S2048 32 0) (broadcastInDim S2048 ![] bcast_S_S2048 (constantI S_ 32 2048#32))⟩,
    ⟨S4, iotaInDim S4 32 0⟩, ⟨S124, broadcastInDim S124 ![] bcast_S_S124 (constantI S_ 32 (-1073741824#32))⟩]
    concatenates_S2048_S4_S124_S2176_d0

/-- How far back each key position lies from each new token. -/
def dist : IVec S4x2176 32 :=
  subi (broadcastInDim S4x2176 ![0, 1] bcast_S4x1_S4x2176_0_1 (broadcastInDim S4x1 ![0] bcast_S4_S4x1_0 (iotaInDim S4 32 0)))
    (broadcastInDim S4x2176 ![0, 1] bcast_S1x2176_S4x2176_0_1 (broadcastInDim S1x2176 ![1] bcast_S2176_S1x2176_1 rel))

/-- One number at every place of the table. -/
abbrev allI (w : BitVec 32) : IVec S4x2176 32 := broadcastInDim S4x2176 ![] bcast_S_S4x2176 (constantI S_ 32 w)

/-- The divisor, zero read as one. -/
def divisor (d : BitVec 32) : IVec S_ 32 :=
  select (cmpi .eq (constantI S_ 32 d) (constantI S_ 32 0#32)) (constantI S_ 32 1#32) (constantI S_ 32 d)

/-- The remainder of the distance by `d`, rounded as the host's division rounds. -/
def remd (d : BitVec 32) : IVec S4x2176 32 :=
  Host.remsi dist (broadcastInDim S4x2176 ![] bcast_S_S4x2176 (divisor d))

/-- The remainder of the distance by `d`, of the divisor's sign. -/
def remdPos (d : BitVec 32) : IVec S4x2176 32 :=
  select (andi (cmpi .ne (cmpi .slt (remd d) (allI 0#32))
      (broadcastInDim S4x2176 ![] bcast_S_S4x2176 (cmpi .slt (divisor d) (constantI S_ 32 0#32))))
    (cmpi .ne (remd d) (allI 0#32)))
    (addi (remd d) (broadcastInDim S4x2176 ![] bcast_S_S4x2176 (divisor d))) (remd d)

/-- Whether a position is read. -/
def reads (w d : BitVec 32) : IVec S4x2176 1 :=
  andi (andi (andi (cmpi .sge dist (allI 0#32)) (cmpi .sle dist (allI w))) (cmpi .eq (remdPos d) (allI 0#32)))
    (broadcastInDim S4x2176 ![0, 1] bcast_S1x2176_S4x2176_0_1 (broadcastInDim S1x2176 ![1] bcast_S2176_S1x2176_1
      (cmpi .sge (addi (broadcastInDim S2176 ![] bcast_S_S2176 (constantI S_ 32 8192#32)) rel)
        (broadcastInDim S2176 ![] bcast_S_S2176 (constantI S_ 32 0#32)))))

/-- One pattern's table. -/
def table (w d : BitVec 32) : FVec Ideal S4x2176 .f32 :=
  select (reads w d) (broadcastInDim S4x2176 ![] bcast_S_S4x2176 (constant S_ .f32 0x00000000#32))
    (broadcastInDim S4x2176 ![] bcast_S_S4x2176 (constant S_ .f32 0x3F800000#32))

/-- The three patterns' tables. -/
def tables : FVec Ideal S3x4x2176 .f32 :=
  concatenate S3x4x2176 0 [⟨S1x4x2176, broadcastInDim S1x4x2176 ![1, 2] bcast_S4x2176_S1x4x2176_1_2 (table 128#32 1#32)⟩,
    ⟨S1x4x2176, broadcastInDim S1x4x2176 ![1, 2] bcast_S4x2176_S1x4x2176_1_2 (table 512#32 4#32)⟩,
    ⟨S1x4x2176, broadcastInDim S1x4x2176 ![1, 2] bcast_S4x2176_S1x4x2176_1_2 (table 2048#32 16#32)⟩]
    concatenates_S1x4x2176_S1x4x2176_S1x4x2176_S3x4x2176_d0

variable (m : (ℓ : Loc nD τ sig) → Buf (Elt Ideal) ℓ) (c : Dev nD)

theorem V_v95 : (V m c main_v95 : FVec Ideal S96x2176 .f32)
    = shapeCast S96x2176 (broadcastInDim S3x4x8x2176 ![0, 1, 2, 3] bcast_S3x4x1x2176_S3x4x8x2176_0_1_2_3
        (broadcastInDim S3x4x1x2176 ![0, 1, 3] bcast_S3x4x2176_S3x4x1x2176_0_1_3 tables)) shapeCasts_S3x4x8x2176_S96x2176 := by
  sl_kernel_rfl

/-- A position's time as a word. -/
def relWord (x : Fin 2176) : BitVec 32 :=
  if x.val < 2048 then BitVec.ofNat 32 x.val - 2048#32 else if x.val < 2052 then BitVec.ofNat 32 (x.val - 2048) else -1073741824#32

theorem rel_at (x : Fin 2176) : rel (ix1 x) = relWord x := by
  unfold relWord
  pointwise [rel]
  by_cases h : x.val < 2048
  · rw [dif_pos h, if_pos h]; rfl
  · rw [dif_neg h, if_neg h]
    by_cases h' : x.val < 2052
    · rw [dif_pos (by omega), if_pos h']
    · rw [dif_neg (by omega), if_neg h']

theorem dist_at (t : Fin 4) (x : Fin 2176) : dist (ix2 t x) = BitVec.ofNat 32 t.val - relWord x := by
  pointwise [dist]
  rw [rel_at]
  rfl

theorem reads0_at : ∀ (t : Fin 4) (x : Fin 2176), reads 128#32 1#32 (ix2 t x) = if readsKey 0 t x then 1#1 else 0#1 := by
  intro t x
  pointwise [reads, remdPos, remd, divisor]
  simp only [dist_at, rel_at]
  revert x t
  decide +kernel

theorem reads1_at : ∀ (t : Fin 4) (x : Fin 2176), reads 512#32 4#32 (ix2 t x) = if readsKey 1 t x then 1#1 else 0#1 := by
  intro t x
  pointwise [reads, remdPos, remd, divisor]
  simp only [dist_at, rel_at]
  revert x t
  decide +kernel

theorem reads2_at : ∀ (t : Fin 4) (x : Fin 2176), reads 2048#32 16#32 (ix2 t x) = if readsKey 2 t x then 1#1 else 0#1 := by
  intro t x
  pointwise [reads, remdPos, remd, divisor]
  simp only [dist_at, rel_at]
  revert x t
  decide +kernel

/-- The table's entry: 0 where the pattern reads the position, 1 where it does not. -/
theorem table_at (w d : BitVec 32) (t : Fin 4) (x : Fin 2176) (b : Bool) (h : reads w d (ix2 t x) = if b then 1#1 else 0#1) :
    table w d (ix2 t x) = if b then 0 else 1 := by
  pointwise [table]
  rw [h]
  cases b <;> rfl

theorem v95_at (i : Fin 3) (t : Fin 4) (h : Fin 8) (x : Fin 2176) :
    (V m c main_v95 : FVec Ideal S96x2176 .f32) (ix2 ⟨32 * i.val + 8 * t.val + h.val, by omega⟩ x)
      = if readsKey i t x then (0 : EReal) else 1 := by
  rw [V_v95]
  fin_cases i
  · pointwise [tables]
    rw [dif_pos (by omega)]
    exact table_at _ _ t x _ (reads0_at t x)
  · pointwise [tables]
    rw [dif_neg (by omega), dif_pos (by omega)]
    exact table_at _ _ t x _ (reads1_at t x)
  · pointwise [tables]
    rw [dif_neg (by omega), dif_neg (by omega)]
    exact table_at _ _ t x _ (reads2_at t x)

end Cert.KernelIdeal.Host

end
-- ==== Proof.Sample.lean ====
/- The new tokens' result array after the run: every row is the normalized attention of its sequence. -/
module

public import proofs.«01_k».proof.Proof.SampleBlock
public import proofs.«01_k».proof.Proof.Host
public import proofs.«01_k».proof.Proof.Bias

@[expose] public section

set_option maxRecDepth 16384

noncomputable section

namespace Cert.KernelIdeal.Sample

open Idealize.ShloMosaic Idealize.ShloMosaic.TcCoe Idealize.SL.Sem
open Idealize.ShloMosaic.Pipeline (Dat)
open Cert.KernelIdeal Cert.KernelIdeal.Gen Cert.KernelIdeal.Host Cert.Layer

variable (m : (ℓ : Loc nD τ sig) → Buf (Elt Ideal) ℓ) (c : Dev nD)

/-- Where each window stands at point `t`. -/
theorem idx : ∀ t : Fin cfg0.N, win0_9.index t = ![t.val, 0, 0] ∧ win0_10.index t = ![0, t.val, 0, 0]
    ∧ win0_11.index t = ![t.val, 0, 0, 0] ∧ win0_12.index t = ![0, 0] ∧ win0_13.index t = ![0, 2 * t.val + 1, 0, 0]
    ∧ win0_14.index t = ![0, 2 * t.val + 1, 0, 0] ∧ win0_15.index t = ![2 * t.val + 1, 0, 0, 0]
    ∧ win0_16.index t = ![0, 0] ∧ win0_18.index t = ![0, t.val, 0, 0] :=
  (by decide +kernel : ∀ t : Fin grid0.N, _)

theorem lt_N (t : Fin cfg0.N) : t.val < 64 := (by decide +kernel : ∀ t : Fin grid0.N, t.val < 64) t

/-- Point `t`'s sequence `s`. -/
abbrev seqNo (t : Fin cfg0.N) (s : Fin 2) : Fin 128 := ⟨t.val * 2 + s.val, by have := lt_N t; omega⟩

/-- Sequence `b`'s value rows, old and new. -/
def oldV (b : Fin 128) (l : Fin 512) (x : Fin 2048) : EReal := a14 m c (ix5 0 b x ⟨l.val / 64, by omega⟩ ⟨l.val % 64, by omega⟩)

/-- Sequence `b`'s new value rows. -/
def newV (b : Fin 128) (x : Fin 4) (l : Fin 512) : EReal := a12 m c (ix4 b x ⟨l.val / 64, by omega⟩ ⟨l.val % 64, by omega⟩)

/-- Sequence `b`'s old key rows. -/
def oldK (b : Fin 128) (l : Fin 512) (x : Fin 2048) : EReal := a13 m c (ix5 0 b x ⟨l.val / 64, by omega⟩ ⟨l.val % 64, by omega⟩)

/-- Sequence `b`'s new key rows. -/
def newK (b : Fin 128) (x : Fin 4) (l : Fin 512) : EReal := a11 m c (ix4 b x ⟨l.val / 64, by omega⟩ ⟨l.val % 64, by omega⟩)

/-- Sequence `b`'s scaled queries. -/
def query (b : Fin 128) (t : Fin 4) (l : Fin 512) : EReal :=
  a10 m c (ix4 b t ⟨l.val / 64, by omega⟩ ⟨l.val % 64, by omega⟩) * Ideal.ofBits .f32 0x3E000000#32

/-- The score of every position: minus infinity where the pattern does not read. -/
def fullScore (b : Fin 128) (t : Fin 4) (h : Fin 8) (i : Fin 3) (x : Fin 2176) : EReal :=
  headDot (query m c b t) (keyRow (oldK m c b) (newK m c b) x) h + (if readsKey i t x then (0 : EReal) else 1) * ⊥

/-- The attention of an even sequence. -/
def evenRow (n : Fin 64) (t : Fin 4) (l : Fin 512) : EReal :=
  mixed3 (fun r x => a9 m c (ix3 n r x)) (oldV m c ⟨n.val * 2, by omega⟩) (newV m c ⟨n.val * 2, by omega⟩) t l

/-- The attention of an odd sequence. -/
def oddRow (n : Fin 64) (t : Fin 4) (l : Fin 512) : EReal :=
  own3 (fullScore m c ⟨n.val * 2 + 1, by omega⟩ t ⟨l.val / 64, by omega⟩) (oldV m c ⟨n.val * 2 + 1, by omega⟩ l)
    (fun x => newV m c ⟨n.val * 2 + 1, by omega⟩ x l)

theorem blk9 (t : Fin cfg0.N) (r : Fin 96) (x : Fin 2176) : (iblk m c 9 t : FVec Ideal S1x96x2176 .bf16) (ix3 0 r x)
    = a9 m c (ix3 ⟨t.val, lt_N t⟩ r x) := by
  blk_ext [iblk, V, idx t]

theorem blk10 (t : Fin cfg0.N) (s : Fin 2) (x : Fin 4) (l : Fin 512) :
    (iblk m c 10 t : FVec Ideal S4x2x1x512 .f32) (ix4 x s 0 l) = newV m c (seqNo t s) x l := by
  refine Eq.trans ?_ (v20_at m c x (seqNo t s) l)
  blk_ext [iblk, idx t]

theorem blk11 (t : Fin cfg0.N) (s : Fin 2) (l : Fin 512) (x : Fin 2048) :
    (iblk m c 11 t : FVec Ideal S2x8x64x2048 .f32) (ix4 s ⟨l.val / 64, by omega⟩ ⟨l.val % 64, by omega⟩ x)
      = oldV m c (seqNo t s) l x := by
  refine Eq.trans ?_ (v97_at m c (seqNo t s) ⟨l.val / 64, by omega⟩ ⟨l.val % 64, by omega⟩ x)
  blk_ext [iblk, idx t]

theorem blk12 (t : Fin cfg0.N) (l : Fin 512) : (iblk m c 12 t : FVec Ideal S1x512 .f32) (ix2 0 l) = a15 m c (ix2 0 l) := by
  refine Eq.trans ?_ (v24_at m c l)
  blk_ext [iblk, idx t]

theorem blk13 (t : Fin cfg0.N) (x : Fin 4) (l : Fin 512) :
    (iblk m c 13 t : FVec Ideal S4x1x1x512 .f32) (ix4 x 0 0 l) = query m c (seqNo t 1) x l := by
  refine Eq.trans ?_ (v16_at m c x (seqNo t 1) l)
  blk_ext [iblk, idx t]

theorem blk14 (t : Fin cfg0.N) (x : Fin 4) (l : Fin 512) :
    (iblk m c 14 t : FVec Ideal S4x1x1x512 .f32) (ix4 x 0 0 l) = newK m c (seqNo t 1) x l := by
  refine Eq.trans ?_ (v18_at m c x (seqNo t 1) l)
  blk_ext [iblk, idx t]

theorem blk15 (t : Fin cfg0.N) (l : Fin 512) (x : Fin 2048) :
    (iblk m c 15 t : FVec Ideal S1x8x64x2048 .f32) (ix4 0 ⟨l.val / 64, by omega⟩ ⟨l.val % 64, by omega⟩ x)
      = oldK m c (seqNo t 1) l x := by
  refine Eq.trans ?_ (v96_at m c (seqNo t 1) ⟨l.val / 64, by omega⟩ ⟨l.val % 64, by omega⟩ x)
  blk_ext [iblk, idx t]

theorem blk16 (t : Fin cfg0.N) (i : Fin 3) (s : Fin 4) (h : Fin 8) (x : Fin 2176) :
    (iblk m c 16 t : FVec Ideal S96x2176 .f32) (ix2 (row i s h) x) = if readsKey i s x then (0 : EReal) else 1 := by
  refine Eq.trans ?_ (v95_at m c i s h x)
  blk_ext [iblk, idx t]

/-- The block's scores, from the arguments. -/
theorem score_eq (t : Fin cfg0.N) (s : Fin 4) (h : Fin 8) (i : Fin 3) (x : Fin 2176) :
    blockScore (iblk m c 13 t) (iblk m c 14 t) (iblk m c 15 t) (iblk m c 16 t) s h i x
      = fullScore m c (seqNo t 1) s h i x := by
  unfold blockScore fullScore
  refine congrArg₂ (· + ·) (congrArg₂ (fun f k => headDot f k h) (funext fun l => blk13 m c t s l) ?_)
    (congrArg (· * (⊥ : EReal)) (blk16 m c t i s h x))
  exact congrArg₂ (fun o n => keyRow o n x) (funext fun l => funext fun x => blk15 m c t l x)
    (funext fun x => funext fun l => blk14 m c t x l)

theorem even_eq (t : Fin cfg0.N) (s : Fin 4) (l : Fin 512) :
    given (iblk m c 9 t) (iblk m c 10 t) (iblk m c 11 t) s l = evenRow m c ⟨t.val, lt_N t⟩ s l := by
  unfold given evenRow
  refine congr (congrFun (congr (congrArg₂ mixed3 (funext fun r => funext fun x => blk9 m c t r x)
    (funext fun l => funext fun x => blk11 m c t 0 l x)) (funext fun x => funext fun l => blk10 m c t 0 x l)) s) rfl

theorem odd_eq (t : Fin cfg0.N) (s : Fin 4) (l : Fin 512) :
    own (iblk m c 10 t) (iblk m c 11 t) (iblk m c 13 t) (iblk m c 14 t) (iblk m c 15 t) (iblk m c 16 t) s l
      = oddRow m c ⟨t.val, lt_N t⟩ s l := by
  unfold own oddRow
  exact congr (congrArg₂ own3 (funext fun i => funext fun x => score_eq m c t s _ i x)
    (funext fun x => blk11 m c t 1 l x)) (funext fun x => blk10 m c t 1 x l)

/-- The new tokens' result array. -/
theorem final (G : FVec Ideal S4x128x1x512 .f32)
    (h0 : ∀ (t : Fin 4) (n : Fin 64) l, G (ix4 t ⟨n.val * 2, by omega⟩ 0 l) = rms len512 (evenRow m c n t) (fun k => a15 m c (ix2 0 k)) l)
    (h1 : ∀ (t : Fin 4) (n : Fin 64) l, G (ix4 t ⟨n.val * 2 + 1, by omega⟩ 0 l) = rms len512 (oddRow m c n t) (fun k => a15 m c (ix2 0 k)) l) :
    (dats m 0 c).arrAt 18 cfg0.N = G := by
  refine (dats m 0 c).arrAt_eq_of_covers 18 _ (by decide +kernel) fun t _ y => ?_
  blk_simp
  rw [after0_18, block18_at]
  idx_vars y
  have hg : (fun k => (iblk m c 12 t : FVec Ideal S1x512 .f32) (ix2 0 k)) = fun k => a15 m c (ix2 0 k) := funext fun k => blk12 m c t k
  rw [hg]
  fin_cases y1
  · refine Eq.trans ?_ ((h0 y0 ⟨t.val, lt_N t⟩ y3).symm.trans ?_)
    · exact congrArg (fun a => rms len512 a (fun k => a15 m c (ix2 0 k)) y3) (funext fun l => even_eq m c t y0 l)
    · blk_ext [idx t]
  · refine Eq.trans ?_ ((h1 y0 ⟨t.val, lt_N t⟩ y3).symm.trans ?_)
    · exact congrArg (fun a => rms len512 a (fun k => a15 m c (ix2 0 k)) y3) (funext fun l => odd_eq m c t y0 l)
    · blk_ext [idx t]

end Cert.KernelIdeal.Sample

end
-- ==== Proof.Masked.lean ====
/- Dilated attention two ways: over every position, with a score of minus infinity where a pattern does not read, and
   over the keys that each pattern reads. No program is named here. -/
module

public import proofs.«01_k».proof.Proof.Spec
public import proofs.«01_k».proof.Proof.Merge
public import proofs.«01_k».proof.Proof.Keys

@[expose] public section

noncomputable section

namespace Cert.Layer

open Idealize.ShloMosaic

/-- The sum of value rows, over all positions at once. -/
theorem mixRow_all (w : Fin 2176 → EReal) (old : Fin 512 → Fin 2048 → EReal) (new : Fin 4 → Fin 512 → EReal) (l : Fin 512) :
    (∑ x : Fin 2176, w x * keyRow old new x l) = mixRow w (old l) (fun x => new x l) := by
  unfold mixRow
  rw [show (∑ x : Fin 2176, w x * keyRow old new x l) = ∑ x : Fin (2048 + 4 + 124), w x * keyRow old new x l from rfl,
    Fin.sum_univ_add, Fin.sum_univ_add]
  have z : (∑ x : Fin 124, w (Fin.natAdd (2048 + 4) x) * keyRow old new (Fin.natAdd (2048 + 4) x) l) = 0 := by
    refine Finset.sum_eq_zero fun x _ => ?_
    unfold keyRow
    rw [dif_neg (show ¬ (Fin.natAdd (2048 + 4) x).val < 2048 from by show ¬ 2048 + 4 + x.val < 2048; omega),
      dif_neg (show ¬ (Fin.natAdd (2048 + 4) x).val < 2052 from by show ¬ 2048 + 4 + x.val < 2052; omega),
      mul_zero]
  rw [z, add_zero]
  refine congrArg₂ (· + ·) ?_ ?_
  · refine Finset.sum_congr rfl fun x _ => ?_
    unfold keyRow
    rw [dif_pos (show (Fin.castAdd 124 (Fin.castAdd 4 x)).val < 2048 from x.isLt)]
    rfl
  · refine Finset.sum_congr rfl fun x _ => ?_
    unfold keyRow
    rw [dif_neg (show ¬ (Fin.castAdd 124 (Fin.natAdd 2048 x)).val < 2048 from by show ¬ 2048 + x.val < 2048; omega),
      dif_pos (show (Fin.castAdd 124 (Fin.natAdd 2048 x)).val < 2052 from by show 2048 + x.val < 2052; omega)]
    have e : (⟨2048 + x.val - 2048, by omega⟩ : Fin 4) = x := Fin.ext (by show 2048 + x.val - 2048 = x.val; omega)
    exact congrArg₂ (· * ·) rfl (congrArg (fun y => new y l) e)

/-- The two attentions agree when every score of a key is a real number. -/
theorem masked_eq (q : Fin 512 → EReal) (oK oV : Fin 512 → Fin 2048 → EReal) (nK nV : Fin 4 → Fin 512 → EReal)
    (t : Fin 4) (h : Fin 8) (l : Fin 512)
    (real : ∀ x : Fin 2176, x.val < 2052 → ∃ r : ℝ, headDot q (keyRow oK nK x) h = r) (i : Fin 3) :
    mixRow (weight (fun i x => headDot q (keyRow oK nK x) h + (if readsKey i t x then (0 : EReal) else 1) * ⊥) i) (oV l) (fun x => nV x l)
      = part (fun i j => headDot q (keyRow oK nK (key i t j)) h) (fun i j => keyRow oV nV (key i t j) l) i := by
  have e (i : Fin 3) (j : Fin 129) : headDot q (keyRow oK nK (key i t j)) h + (if readsKey i t (key i t j) then (0 : EReal) else 1) * ⊥
      = headDot q (keyRow oK nK (key i t j)) h := by
    rw [readsKey_key, if_pos rfl, zero_mul, add_zero]
  rw [← mixRow_all]
  refine (weight_sum _ (fun x => keyRow oV nV x l) (fun i j => key i t j) (fun i => key_inj i t) ?_ ?_ i).trans ?_
  · intro i x hx
    rw [readsKey_off i t x hx, if_neg (by decide), one_mul, EReal.add_bot]
  · intro i j
    rw [e]
    exact real _ (key_lt i t j)
  · exact congrArg (fun s => part s (fun i j => keyRow oV nV (key i t j) l) i) (funext fun i => funext fun j => e i j)

/-- A product of rows of real numbers is a real number. -/
theorem headDot_real (f k : Fin 512 → EReal) (h : Fin 8) (hf : ∀ l, ∃ r : ℝ, f l = r) (hk : ∀ l, ∃ r : ℝ, k l = r) :
    ∃ r : ℝ, headDot f k h = r := by
  choose a ha using hf
  choose b hb using hk
  unfold headDot
  simp only [ha, hb, ← EReal.coe_mul]
  exact ⟨_, sum_coe _⟩

/-- A key row of real entries is real. -/
theorem keyRow_real (old : Fin 512 → Fin 2048 → EReal) (new : Fin 4 → Fin 512 → EReal) (ho : ∀ l x, ∃ r : ℝ, old l x = r)
    (hn : ∀ x l, ∃ r : ℝ, new x l = r) (x : Fin 2176) (l : Fin 512) : ∃ r : ℝ, keyRow old new x l = r := by
  unfold keyRow
  split
  · exact ho _ _
  · split
    · exact hn _ _
    · exact ⟨0, EReal.coe_zero.symm⟩

end Cert.Layer

end
-- ==== Proof.FfnRef.lean ====
/- What the reference computes for the prompt: row `i` is `Layer.layerRow` of row `i` of the arguments. -/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.ReferenceIdeal.Ffn

open Idealize.ShloMosaic Idealize.ShloMosaic.TcCoe Idealize.SL.Sem
open Cert.ReferenceIdeal Cert.ReferenceIdeal.Gen Cert.ReferenceIdeal.Value Cert.Layer

variable (V0 : Valuation τ sig (Elt Ideal))

/-- Argument 0. -/
abbrev b0 : FVec Ideal S16x2048x1024 .f32 := V0 (Proc.devRef .tc main_arg0)

/-- Argument 1. -/
abbrev b1 : FVec Ideal S32768x512 .bf16 := V0 (Proc.devRef .tc main_arg1)

/-- Argument 2. -/
abbrev b2 : FVec Ideal S32768x512 .bf16 := V0 (Proc.devRef .tc main_arg2)

/-- Argument 3. -/
abbrev b3 : FVec Ideal S1x1024x1024 .f32 := V0 (Proc.devRef .tc main_arg3)

/-- Argument 4. -/
abbrev b4 : FVec Ideal S1x1024 .f32 := V0 (Proc.devRef .tc main_arg4)

/-- Argument 5. -/
abbrev b5 : FVec Ideal S1x1024 .f32 := V0 (Proc.devRef .tc main_arg5)

/-- Argument 6. -/
abbrev b6 : FVec Ideal S1x1024x4096 .f32 := V0 (Proc.devRef .tc main_arg6)

/-- Argument 7. -/
abbrev b7 : FVec Ideal S1x4096x1024 .f32 := V0 (Proc.devRef .tc main_arg7)

/-- Argument 8. -/
abbrev b8 : FVec Ideal S1x1024 .f32 := V0 (Proc.devRef .tc main_arg8)

/-- The two mixers' outputs against the output matrix. -/
theorem v4_at (i : Fin 32768) (l : Fin 1024) : (res_main_v4 V0 : FVec Ideal S32768x1024 .f32) (ix2 i l)
    = mixed (fun k => b1 V0 (ix2 i k)) (fun k => b2 V0 (ix2 i k)) (fun k l => b3 V0 (ix3 0 k l)) l := by
  unfold res_main_v4
  clean_types
  pointwise [mixed]

/-- The row after the first residual connection. -/
theorem v20_at (i : Fin 32768) (l : Fin 1024) : (res_main_v20 V0 : FVec Ideal S32768x1024 .f32) (ix2 i l)
    = mid (fun k => b0 V0 (ix3 ⟨i.val / 2048, by omega⟩ ⟨i.val % 2048, by omega⟩ k)) (fun k => b1 V0 (ix2 i k)) (fun k => b2 V0 (ix2 i k)) (fun k l => b3 V0 (ix3 0 k l)) (fun k => b4 V0 (ix2 0 k)) l := by
  unfold mid
  rw [show mixed _ _ _ = fun l => _ from funext fun l => (v4_at V0 i l).symm]
  unfold res_main_v20
  clean_types
  pointwise [rms]

/-- The feed-forward. -/
theorem v40_at (i : Fin 32768) (l : Fin 1024) : (res_main_v40 V0 : FVec Ideal S32768x1024 .f32) (ix2 i l)
    = feed (rms len1024 (fun l => (res_main_v20 V0 : FVec Ideal S32768x1024 .f32) (ix2 i l)) (fun k => b5 V0 (ix2 0 k))) (fun k l => b6 V0 (ix3 0 k l)) (fun k l => b7 V0 (ix3 0 k l)) l := by
  unfold res_main_v40 res_main_v37
  clean_types
  pointwise [feed, act, rms]

/-- Row `i`, column `l` of the prompt's result, from the arguments. -/
def row (i : Fin 32768) (l : Fin 1024) : EReal :=
  layerRow (fun k => b0 V0 (ix3 ⟨i.val / 2048, by omega⟩ ⟨i.val % 2048, by omega⟩ k)) (fun k => b1 V0 (ix2 i k))
    (fun k => b2 V0 (ix2 i k)) (fun k l => b3 V0 (ix3 0 k l)) (fun k => b4 V0 (ix2 0 k)) (fun k => b5 V0 (ix2 0 k))
    (fun k l => b6 V0 (ix3 0 k l)) (fun k l => b7 V0 (ix3 0 k l)) (fun k => b8 V0 (ix2 0 k)) l

/-- The prompt's result. -/
theorem v55_at (i : Fin 32768) (l : Fin 1024) :
    (val5 V0 (Proc.devRef .tc main_v55) : FVec Ideal S32768x1024 .f32) (ix2 i l) = row V0 i l := by
  unfold row layerRow
  rw [show mid _ _ _ _ _ = fun l => _ from funext fun l => (v20_at V0 i l).symm]
  rw [show feed _ _ _ = fun l => _ from funext fun l => (v40_at V0 i l).symm]
  rw [val5_main_v55]
  clean_types
  pointwise [rms]

end Cert.ReferenceIdeal.Ffn

end
-- ==== Proof.RefKeys.lean ====
/- The rows that the reference gathers for its own dilated attention: for pattern `i`, token `t` and key `j` the row
   `key i t j`, always a row of the array, so neither of its two guards ever acts. -/
module

public import proofs.«01_k».proof.Proof.Gen.ReferenceIdeal.Run
public import proofs.«01_k».proof.Proof.Spec
public import proofs.«01_k».proof.Proof.Keys
public import Idealize.ShloMosaic.Lib.Tactic.CleanTypes

@[expose] public section

set_option maxRecDepth 16384

noncomputable section

namespace Cert.ReferenceIdeal.Sample

open Idealize.ShloMosaic Idealize.ShloMosaic.TcCoe Idealize.SL.Sem
open Cert.ReferenceIdeal Cert.ReferenceIdeal.Gen Cert.ReferenceIdeal.Value Cert.Layer

variable (V0 : Valuation τ sig (Elt Ideal))

/-- The gather at an index: the row that the start index names, read signed and clamped into the array. -/
theorem gather_at {α : Type} (x : S64x2052x8x64.Idx → α) (idx : IVec S4x129x1 32) (n : Fin 64) (t : Fin 4)
    (j : Fin 129) (h : Fin 8) (d : Fin 64) :
    Host.gather gather_S64x2052x8x64_S4x129x1_S64x4x129x8x64_034_1_n_n_1_2_641864 x idx (ix5 n t j h d)
      = x (ix4 n ⟨min (idx (ix3 t j 0)).toInt.toNat 2051, by omega⟩ h d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have hs : GatherDims.siIdx gather_S64x2052x8x64_S4x129x1_S64x4x129x8x64_034_1_n_n_1_2_641864 (ix5 n t j h d)
      ⟨0, Nat.one_pos⟩ = ix3 t j 0 := by
    funext b; refine Fin.ext ?_
    match b with
    | ⟨0, _⟩ => rfl
    | ⟨1, _⟩ => rfl
    | ⟨2, _⟩ => rfl
  match a with
  | ⟨0, _⟩ => exact (Nat.zero_add _)
  | ⟨1, _⟩ =>
    show min (idx (GatherDims.siIdx gather_S64x2052x8x64_S4x129x1_S64x4x129x8x64_034_1_n_n_1_2_641864
      (ix5 n t j h d) ⟨0, Nat.one_pos⟩)).toInt.toNat 2051 + 0 + 0 = _
    rw [hs]
    rfl
  | ⟨2, _⟩ => exact (Nat.zero_add _)
  | ⟨3, _⟩ => exact (Nat.zero_add _)

/-- The three dilations, as the program's words. -/
def gapWord : Fin 3 → BitVec 32
  | 0 => 1#32
  | 1 => 4#32
  | 2 => 16#32

/-- Key `j`'s time. -/
def time (i : Fin 3) (t : Fin 4) (j : Fin 129) : BitVec 32 :=
  IntOp.subi (IntOp.addi 8192#32 (BitVec.ofNat 32 t)) (IntOp.muli (BitVec.ofNat 32 j) (gapWord i))

/-- Its row, kept inside the array. -/
def clipped (i : Fin 3) (t : Fin 4) (j : Fin 129) : BitVec 32 :=
  IntOp.minsi 2051#32 (IntOp.maxsi 0#32 (IntOp.subi (time i t j) 6144#32))

/-- The gather's start index. -/
def start (i : Fin 3) (t : Fin 4) (j : Fin 129) : BitVec 32 :=
  Scalar.select (IntOp.cmpi .slt (clipped i t j) 0#32) (IntOp.addi (clipped i t j) 2052#32) (clipped i t j)

theorem time_ok : ∀ (i : Fin 3) (t : Fin 4) (j : Fin 129), IntOp.cmpi .sge (time i t j) 0#32 = 1#1 := by decide +kernel

theorem start_ok : ∀ (i : Fin 3) (t : Fin 4) (j : Fin 129),
    IntOp.andi 1#1 (IntOp.andi (IntOp.cmpi .sge (start i t j) 0#32) (IntOp.cmpi .sle (start i t j) 2051#32)) = 1#1 := by
  decide +kernel

theorem start_key : ∀ (i : Fin 3) (t : Fin 4) (j : Fin 129),
    min (start i t j).toInt.toNat 2051 = (key i t j).val := by decide +kernel

/-- The guard on a start index, as the reduction over its one coordinate leaves it. -/
theorem guard (i : Fin 3) (t : Fin 4) (j : Fin 129) :
    Finset.fold IntOp.andi (1#1) (fun _ : Fin 1 => IntOp.andi (IntOp.cmpi CmpIPredicate.sge (start i t j) 0#32)
      (IntOp.cmpi CmpIPredicate.sle (start i t j) 2051#32)) Finset.univ = 1#1 := by
  rw [show (Finset.univ : Finset (Fin 1)) = {0} from rfl, Finset.fold_singleton]
  exact (by
    have h := start_ok i t j
    revert h
    generalize IntOp.andi (IntOp.cmpi CmpIPredicate.sge (start i t j) 0#32) (IntOp.cmpi CmpIPredicate.sle (start i t j) 2051#32) = w
    revert w
    decide)

theorem pick {α : Type} (a b : α) : Scalar.select 1#1 a b = a := rfl

theorem v75_at (t : Fin 4) (j : Fin 129) : (res_main_v75 V0 : IVec S4x129 32) (ix2 t j) = time 0 t j := by
  unfold res_main_v75 res_main_v62
  clean_types
  pointwise [time, gapWord]

theorem v105_at (t : Fin 4) (j : Fin 129) : (res_main_v105 V0 : IVec S4x129 32) (ix2 t j) = time 1 t j := by
  unfold res_main_v105 res_main_v62
  clean_types
  pointwise [time, gapWord]

theorem v135_at (t : Fin 4) (j : Fin 129) : (res_main_v135 V0 : IVec S4x129 32) (ix2 t j) = time 2 t j := by
  unfold res_main_v135 res_main_v62
  clean_types
  pointwise [time, gapWord]

theorem call2_at (t : Fin 4) (j : Fin 129) (z : Fin 1) :
    (res_main_call2_v5 V0 : IVec S4x129x1 32) (ix3 t j z) = start 0 t j := by
  unfold res_main_call2_v5 res_main_v80
  clean_types
  pointwise [v75_at]
  rfl

theorem call3_at (t : Fin 4) (j : Fin 129) (z : Fin 1) :
    (res_main_call3_v5 V0 : IVec S4x129x1 32) (ix3 t j z) = start 0 t j := by
  unfold res_main_call3_v5 res_main_v80
  clean_types
  pointwise [v75_at]
  rfl

theorem call6_at (t : Fin 4) (j : Fin 129) (z : Fin 1) :
    (res_main_call6_v5 V0 : IVec S4x129x1 32) (ix3 t j z) = start 1 t j := by
  unfold res_main_call6_v5 res_main_v110
  clean_types
  pointwise [v105_at]
  rfl

theorem call7_at (t : Fin 4) (j : Fin 129) (z : Fin 1) :
    (res_main_call7_v5 V0 : IVec S4x129x1 32) (ix3 t j z) = start 1 t j := by
  unfold res_main_call7_v5 res_main_v110
  clean_types
  pointwise [v105_at]
  rfl

theorem call10_at (t : Fin 4) (j : Fin 129) (z : Fin 1) :
    (res_main_call10_v5 V0 : IVec S4x129x1 32) (ix3 t j z) = start 2 t j := by
  unfold res_main_call10_v5 res_main_v140
  clean_types
  pointwise [v135_at]
  rfl

theorem call11_at (t : Fin 4) (j : Fin 129) (z : Fin 1) :
    (res_main_call11_v5 V0 : IVec S4x129x1 32) (ix3 t j z) = start 2 t j := by
  unfold res_main_call11_v5 res_main_v140
  clean_types
  pointwise [v135_at]
  rfl

end Cert.ReferenceIdeal.Sample

end
-- ==== Proof.SampleRef.lean ====
/- What the reference computes for the new tokens: an even sequence's attention from its given weights, an odd
   sequence's own dilated attention, and the normalization of both. -/
module

public import proofs.«01_k».proof.Proof.RefKeys
public import proofs.«01_k».proof.Proof.Merge

@[expose] public section

set_option maxRecDepth 16384

noncomputable section

namespace Cert.ReferenceIdeal.Sample

open Idealize.ShloMosaic Idealize.ShloMosaic.TcCoe Idealize.SL.Sem
open Cert.ReferenceIdeal Cert.ReferenceIdeal.Gen Cert.ReferenceIdeal.Value Cert.Layer

variable (V0 : Valuation τ sig (Elt Ideal))

/-- Argument 9. -/
abbrev b9 : FVec Ideal S64x96x2176 .bf16 := V0 (Proc.devRef .tc main_arg9)

/-- Argument 10. -/
abbrev b10 : FVec Ideal S128x4x8x64 .f32 := V0 (Proc.devRef .tc main_arg10)

/-- Argument 11. -/
abbrev b11 : FVec Ideal S128x4x8x64 .f32 := V0 (Proc.devRef .tc main_arg11)

/-- Argument 12. -/
abbrev b12 : FVec Ideal S128x4x8x64 .f32 := V0 (Proc.devRef .tc main_arg12)

/-- Argument 13. -/
abbrev b13 : FVec Ideal S1x128x2048x8x64 .f32 := V0 (Proc.devRef .tc main_arg13)

/-- Argument 14. -/
abbrev b14 : FVec Ideal S1x128x2048x8x64 .f32 := V0 (Proc.devRef .tc main_arg14)

/-- Argument 15. -/
abbrev b15 : FVec Ideal S1x512 .f32 := V0 (Proc.devRef .tc main_arg15)

/-- Sequence `b`'s rows of a window buffer, heads side by side. -/
def oldRows (c : FVec Ideal S1x128x2048x8x64 .f32) (b : Fin 128) (l : Fin 512) (x : Fin 2048) : EReal :=
  c (ix5 0 b x ⟨l.val / 64, by omega⟩ ⟨l.val % 64, by omega⟩)

/-- Sequence `b`'s four new rows, heads side by side. -/
def newRows (c : FVec Ideal S128x4x8x64 .f32) (b : Fin 128) (x : Fin 4) (l : Fin 512) : EReal :=
  c (ix4 b x ⟨l.val / 64, by omega⟩ ⟨l.val % 64, by omega⟩)

/-- The `n`-th odd sequence. -/
abbrev odd (n : Fin 64) : Fin 128 := ⟨1 + 2 * n.val, by omega⟩

/-- The `n`-th even sequence. -/
abbrev even (n : Fin 64) : Fin 128 := ⟨2 * n.val, by omega⟩

/-- Head `h`'s lane `d`. -/
abbrev lane (h : Fin 8) (d : Fin 64) : Fin 512 := ⟨64 * h.val + d.val, by omega⟩

theorem lane_div (h : Fin 8) (d : Fin 64) : (⟨(lane h d).val / 64, by omega⟩ : Fin 8) = h :=
  Fin.ext (by show (64 * h.val + d.val) / 64 = h.val; omega)

theorem lane_mod (h : Fin 8) (d : Fin 64) : (⟨(lane h d).val % 64, by omega⟩ : Fin 64) = d :=
  Fin.ext (by show (64 * h.val + d.val) % 64 = d.val; omega)

theorem oldRows_lane (c : FVec Ideal S1x128x2048x8x64 .f32) (b : Fin 128) (h : Fin 8) (d : Fin 64) (x : Fin 2048) :
    oldRows c b (lane h d) x = c (ix5 0 b x h d) := by
  unfold oldRows
  rw [lane_div, lane_mod]

theorem newRows_lane (c : FVec Ideal S128x4x8x64 .f32) (b : Fin 128) (x : Fin 4) (h : Fin 8) (d : Fin 64) :
    newRows c b x (lane h d) = c (ix4 b x h d) := by
  unfold newRows
  rw [lane_div, lane_mod]

/-- An array of rows read at key position `x`. -/
theorem keyRow_lane (c : FVec Ideal S1x128x2048x8x64 .f32) (c' : FVec Ideal S128x4x8x64 .f32) (b : Fin 128) (x : Fin 2052)
    (h : Fin 8) (d : Fin 64) :
    keyRow (oldRows c b) (newRows c' b) ⟨x.val, by omega⟩ (lane h d)
      = if hx : x.val < 2048 then c (ix5 0 b ⟨x.val, hx⟩ h d) else c' (ix4 b ⟨x.val - 2048, by omega⟩ h d) := by
  unfold keyRow
  split
  · rw [oldRows_lane]
  · rw [dif_pos x.isLt, newRows_lane]

theorem v59_at (b : Fin 128) (x : Fin 2052) (h : Fin 8) (d : Fin 64) : (res_main_v59 V0 : FVec Ideal S128x2052x8x64 .f32) (ix4 b x h d)
    = keyRow (oldRows (b14 V0) b) (newRows (b12 V0) b) ⟨x.val, by omega⟩ (lane h d) := by
  rw [keyRow_lane]
  unfold res_main_v59
  clean_types
  pointwise

theorem v64_at (n : Fin 64) (x : Fin 2052) (h : Fin 8) (d : Fin 64) : (res_main_v64 V0 : FVec Ideal S64x2052x8x64 .f32) (ix4 n x h d)
    = keyRow (oldRows (b13 V0) (odd n)) (newRows (b11 V0) (odd n)) ⟨x.val, by omega⟩ (lane h d) := by
  rw [keyRow_lane]
  unfold res_main_v64
  clean_types
  pointwise

theorem v65_at (n : Fin 64) (x : Fin 2052) (h : Fin 8) (d : Fin 64) : (res_main_v65 V0 : FVec Ideal S64x2052x8x64 .f32) (ix4 n x h d)
    = keyRow (oldRows (b14 V0) (odd n)) (newRows (b12 V0) (odd n)) ⟨x.val, by omega⟩ (lane h d) := by
  rw [← v59_at]
  unfold res_main_v65
  clean_types
  pointwise

theorem v67_at (n : Fin 64) (t : Fin 4) (h : Fin 8) (d : Fin 64) : (res_main_v67 V0 : FVec Ideal S64x4x8x64 .f32) (ix4 n t h d)
    = newRows (b10 V0) (odd n) t (lane h d) * Ideal.ofBits .f32 0x3E000000#32 := by
  rw [newRows_lane]
  unfold res_main_v67
  clean_types
  pointwise

theorem neg_inf_word : Ideal.ofBits .f32 0xFF800000#32 = (⊥ : EReal) := by simp [Ideal.ofBits, Ideal.ieee]

/-- The score of the key row at position `x`. -/
def score (n : Fin 64) (t : Fin 4) (h : Fin 8) (x : Fin 2176) : EReal :=
  headDot (fun l => newRows (b10 V0) (odd n) t l * Ideal.ofBits .f32 0x3E000000#32)
    (keyRow (oldRows (b13 V0) (odd n)) (newRows (b11 V0) (odd n)) x) h

/-- The scores of pattern `i`'s 129 keys. -/
abbrev patScores (n : Fin 64) (t : Fin 4) (h : Fin 8) (i : Fin 3) (j : Fin 129) : EReal := score V0 n t h (key i t j)

/-- The value rows of pattern `i`'s 129 keys, at lane `d` of head `h`. -/
abbrev patValues (n : Fin 64) (t : Fin 4) (h : Fin 8) (d : Fin 64) (i : Fin 3) (j : Fin 129) : EReal :=
  keyRow (oldRows (b14 V0) (odd n)) (newRows (b12 V0) (odd n)) (key i t j) (lane h d)

theorem v85_at (n : Fin 64) (t : Fin 4) (h : Fin 8) (j : Fin 129) :
    (res_main_v85 V0 : FVec Ideal S64x4x8x129 .f32) (ix4 n t h j) = patScores V0 n t h 0 j := by
  unfold res_main_v85
  clean_types
  pointwise [gather_at]
  simp only [v75_at, call2_at, guard, time_ok, pick, start_key, v64_at, v67_at]
  rfl

theorem v87_at (n : Fin 64) (t : Fin 4) (h : Fin 8) (z : Fin 1) :
    (res_main_v87 V0 : FVec Ideal S64x4x8x1 .f32) (ix4 n t h z) = top (patScores V0 n t h 0) := by
  unfold res_main_v87
  clean_types
  pointwise [v85_at]
  rw [neg_inf_word]
  rfl

theorem v90_at (n : Fin 64) (t : Fin 4) (h : Fin 8) (j : Fin 129) :
    (res_main_v90 V0 : FVec Ideal S64x4x8x129 .f32) (ix4 n t h j) = num (patScores V0 n t h 0) j := by
  unfold res_main_v90
  clean_types
  pointwise [v85_at, v87_at, num]

theorem v92_at (n : Fin 64) (t : Fin 4) (h : Fin 8) (z : Fin 1) :
    (res_main_v92 V0 : FVec Ideal S64x4x8x1 .f32) (ix4 n t h z) = den (patScores V0 n t h 0) := by
  unfold res_main_v92
  clean_types
  pointwise [v90_at, den]

theorem v115_at (n : Fin 64) (t : Fin 4) (h : Fin 8) (j : Fin 129) :
    (res_main_v115 V0 : FVec Ideal S64x4x8x129 .f32) (ix4 n t h j) = patScores V0 n t h 1 j := by
  unfold res_main_v115
  clean_types
  pointwise [gather_at]
  simp only [v105_at, call6_at, guard, time_ok, pick, start_key, v64_at, v67_at]
  rfl

theorem v117_at (n : Fin 64) (t : Fin 4) (h : Fin 8) (z : Fin 1) :
    (res_main_v117 V0 : FVec Ideal S64x4x8x1 .f32) (ix4 n t h z) = top (patScores V0 n t h 1) := by
  unfold res_main_v117
  clean_types
  pointwise [v115_at]
  rw [neg_inf_word]
  rfl

theorem v120_at (n : Fin 64) (t : Fin 4) (h : Fin 8) (j : Fin 129) :
    (res_main_v120 V0 : FVec Ideal S64x4x8x129 .f32) (ix4 n t h j) = num (patScores V0 n t h 1) j := by
  unfold res_main_v120
  clean_types
  pointwise [v115_at, v117_at, num]

theorem v122_at (n : Fin 64) (t : Fin 4) (h : Fin 8) (z : Fin 1) :
    (res_main_v122 V0 : FVec Ideal S64x4x8x1 .f32) (ix4 n t h z) = den (patScores V0 n t h 1) := by
  unfold res_main_v122
  clean_types
  pointwise [v120_at, den]

theorem v145_at (n : Fin 64) (t : Fin 4) (h : Fin 8) (j : Fin 129) :
    (res_main_v145 V0 : FVec Ideal S64x4x8x129 .f32) (ix4 n t h j) = patScores V0 n t h 2 j := by
  unfold res_main_v145
  clean_types
  pointwise [gather_at]
  simp only [v135_at, call10_at, guard, time_ok, pick, start_key, v64_at, v67_at]
  rfl

theorem v147_at (n : Fin 64) (t : Fin 4) (h : Fin 8) (z : Fin 1) :
    (res_main_v147 V0 : FVec Ideal S64x4x8x1 .f32) (ix4 n t h z) = top (patScores V0 n t h 2) := by
  unfold res_main_v147
  clean_types
  pointwise [v145_at]
  rw [neg_inf_word]
  rfl

theorem v150_at (n : Fin 64) (t : Fin 4) (h : Fin 8) (j : Fin 129) :
    (res_main_v150 V0 : FVec Ideal S64x4x8x129 .f32) (ix4 n t h j) = num (patScores V0 n t h 2) j := by
  unfold res_main_v150
  clean_types
  pointwise [v145_at, v147_at, num]

theorem v152_at (n : Fin 64) (t : Fin 4) (h : Fin 8) (z : Fin 1) :
    (res_main_v152 V0 : FVec Ideal S64x4x8x1 .f32) (ix4 n t h z) = den (patScores V0 n t h 2) := by
  unfold res_main_v152
  clean_types
  pointwise [v150_at, den]

/-- The logarithms of the three patterns' sums. -/
abbrev lses (n : Fin 64) (t : Fin 4) (h : Fin 8) (i : Fin 3) : EReal := lse (patScores V0 n t h i)

theorem v158_at (n : Fin 64) (t : Fin 4) (h : Fin 8) (i : Fin 3) :
    (res_main_v158 V0 : FVec Ideal S64x4x8x3 .f32) (ix4 n t h i) = lses V0 n t h i := by
  unfold res_main_v158
  clean_types
  fin_cases i
  · pointwise [v87_at, v92_at, lse]
  · pointwise [v117_at, v122_at, lse]
  · pointwise [v147_at, v152_at, lse]

theorem v165_at (n : Fin 64) (t : Fin 4) (h : Fin 8) (i : Fin 3) :
    (res_main_v165 V0 : FVec Ideal S64x4x8x3 .f32) (ix4 n t h i)
      = Ideal.exp (lses V0 n t h i - top3 (lses V0 n t h)) := by
  unfold res_main_v165
  clean_types
  pointwise [v158_at]
  rw [neg_inf_word, show Finset.fold max (⊥ : EReal) (fun x => lses V0 n t h x) Finset.univ = top3 (lses V0 n t h) from ?_,
    max_eq_right bot_le]
  rw [show (Finset.univ : Finset (Fin 3)) = {0, 1, 2} from rfl, Finset.fold_insert (by decide), Finset.fold_insert (by decide),
    Finset.fold_singleton, max_bot_right, ← max_assoc]
  rfl

theorem v169_at (n : Fin 64) (t : Fin 4) (h : Fin 8) (i : Fin 3) :
    (res_main_v169 V0 : FVec Ideal S64x4x8x3 .f32) (ix4 n t h i) = share (lses V0 n t h) i := by
  unfold res_main_v169
  clean_types
  pointwise [v165_at, share, Fin.sum_univ_three]

theorem own_at (n : Fin 64) (t : Fin 4) (h : Fin 8) (d : Fin 64) :
    (res_main_v190 V0 : FVec Ideal S64x2x4x8x64 .f32) (ix5 n 1 t h d)
      = part (patScores V0 n t h) (patValues V0 n t h d) 0 + part (patScores V0 n t h) (patValues V0 n t h d) 1
        + part (patScores V0 n t h) (patValues V0 n t h d) 2 := by
  unfold res_main_v190
  clean_types
  pointwise [gather_at]
  simp only [call3_at, call7_at, call11_at, guard, pick, start_key, v65_at, v169_at, v90_at, v120_at, v150_at, v92_at, v122_at, v152_at]
  rfl

/-- The sum over the rows that exist, old and new. -/
theorem mixRow_rows (w : Fin 2176 → EReal) (old : Fin 512 → Fin 2048 → EReal) (new : Fin 4 → Fin 512 → EReal) (l : Fin 512) :
    (∑ x : Fin 2052, keyRow old new ⟨x.val, by omega⟩ l * w ⟨x.val, by omega⟩) = mixRow w (old l) (fun x => new x l) := by
  unfold mixRow
  rw [show (∑ x : Fin 2052, keyRow old new ⟨x.val, by omega⟩ l * w ⟨x.val, by omega⟩)
    = ∑ x : Fin (2048 + 4), keyRow old new ⟨x.val, by omega⟩ l * w ⟨x.val, by omega⟩ from rfl, Fin.sum_univ_add]
  congr 1
  · refine Finset.sum_congr rfl fun x _ => ?_
    unfold keyRow
    rw [dif_pos (show (⟨(Fin.castAdd 4 x).val, by omega⟩ : Fin 2176).val < 2048 from x.isLt), mul_comm]
    rfl
  · refine Finset.sum_congr rfl fun x _ => ?_
    unfold keyRow
    rw [dif_neg (show ¬ (⟨(Fin.natAdd 2048 x).val, by omega⟩ : Fin 2176).val < 2048 from by show ¬ 2048 + x.val < 2048; omega),
      dif_pos (show (⟨(Fin.natAdd 2048 x).val, by omega⟩ : Fin 2176).val < 2052 from by show 2048 + x.val < 2052; omega), mul_comm]
    congr 2
    exact Fin.ext (by show 2048 + x.val - 2048 = x.val; omega)

theorem given_at (n : Fin 64) (t : Fin 4) (h : Fin 8) (d : Fin 64) :
    (res_main_v190 V0 : FVec Ideal S64x2x4x8x64 .f32) (ix5 n 0 t h d)
      = mixed3 (fun r x => b9 V0 (ix3 n r x)) (oldRows (b14 V0) (even n)) (newRows (b12 V0) (even n)) t (lane h d) := by
  unfold res_main_v190
  clean_types
  pointwise [v59_at]
  rw [Fin.sum_univ_three]
  unfold mixed3
  rw [← mixRow_rows, ← mixRow_rows, ← mixRow_rows]
  have e (i : Nat) (hi : i < 3) : (⟨i * 32 + t.val * 8 + h.val, by omega⟩ : Fin 96) = ⟨32 * i + 8 * t.val + (lane h d).val / 64, by omega⟩ :=
    Fin.ext (by show i * 32 + t.val * 8 + h.val = 32 * i + 8 * t.val + (64 * h.val + d.val) / 64; omega)
  have e0 : (⟨32 * 0 + 8 * t.val + (lane h d).val / 64, by omega⟩ : Fin 96) = ⟨8 * t.val + (lane h d).val / 64, by omega⟩ :=
    Fin.ext (by show 32 * 0 + 8 * t.val + (64 * h.val + d.val) / 64 = 8 * t.val + (64 * h.val + d.val) / 64; omega)
  refine congrArg₂ (· + ·) (congrArg₂ (· + ·) ?_ ?_) ?_ <;> refine Finset.sum_congr rfl fun x _ => congrArg (fun r => _ * b9 V0 (ix3 n r ⟨x.val, by omega⟩)) ?_
  · exact (e 0 (by decide)).trans e0
  · exact e 1 (by decide)
  · exact e 2 (by decide)

/-- The attention's output before it is normalized. -/
def attended (b : Fin 128) (t : Fin 4) (l : Fin 512) : EReal :=
  (res_main_v190 V0 : FVec Ideal S64x2x4x8x64 .f32) (ix5 ⟨b.val / 2, by omega⟩ ⟨b.val % 2, by omega⟩ t ⟨l.val / 64, by omega⟩ ⟨l.val % 64, by omega⟩)

theorem v191_at (b : Fin 128) (t : Fin 4) (l : Fin 512) :
    (res_main_v191 V0 : FVec Ideal S128x4x512 .f32) (ix3 b t l) = attended V0 b t l := by
  unfold res_main_v191 attended
  clean_types
  pointwise

/-- The reference's second result. -/
theorem v207_at (t : Fin 4) (b : Fin 128) (l : Fin 512) :
    (val5 V0 (Proc.devRef .tc main_v207) : FVec Ideal S4x128x1x512 .f32) (ix4 t b 0 l)
      = rms len512 (attended V0 b t) (fun k => b15 V0 (ix2 0 k)) l := by
  rw [val5_main_v207]
  clean_types
  pointwise [v191_at, rms]

end Cert.ReferenceIdeal.Sample

end
-- ==== Proof.RefRows.lean ====
/- The reference's attention of each sequence, read at a lane. -/
module

public import proofs.«01_k».proof.Proof.SampleRef

@[expose] public section

set_option maxRecDepth 16384

noncomputable section

namespace Cert.ReferenceIdeal.Sample

open Idealize.ShloMosaic Idealize.ShloMosaic.TcCoe Idealize.SL.Sem
open Cert.ReferenceIdeal Cert.ReferenceIdeal.Gen Cert.ReferenceIdeal.Value Cert.Layer

variable (V0 : Valuation τ sig (Elt Ideal))

theorem lane_eq (l : Fin 512) : lane ⟨l.val / 64, by omega⟩ ⟨l.val % 64, by omega⟩ = l :=
  Fin.ext (by show 64 * (l.val / 64) + l.val % 64 = l.val; omega)

/-- The `n`-th even sequence, counted from its pair. -/
theorem even_eq (n : Fin 64) : even n = ⟨n.val * 2, by omega⟩ := Fin.ext (Nat.mul_comm 2 n.val)

/-- The `n`-th odd sequence, counted from its pair. -/
theorem odd_eq (n : Fin 64) : odd n = ⟨n.val * 2 + 1, by omega⟩ :=
  Fin.ext (by show 1 + 2 * n.val = n.val * 2 + 1; omega)

theorem attended_even (n : Fin 64) (t : Fin 4) (l : Fin 512) : attended V0 ⟨n.val * 2, by omega⟩ t l
    = mixed3 (fun r x => b9 V0 (ix3 n r x)) (oldRows (b14 V0) ⟨n.val * 2, by omega⟩) (newRows (b12 V0) ⟨n.val * 2, by omega⟩) t l := by
  have e := given_at V0 n t ⟨l.val / 64, by omega⟩ ⟨l.val % 64, by omega⟩
  rw [lane_eq, even_eq] at e
  rw [← e]
  unfold attended
  rw [show (⟨n.val * 2 / 2, by omega⟩ : Fin 64) = n from Fin.ext (by show n.val * 2 / 2 = n.val; omega),
    show (⟨n.val * 2 % 2, by omega⟩ : Fin 2) = 0 from Fin.ext (by show n.val * 2 % 2 = 0; omega)]

/-- The scores of sequence `b`'s keys. -/
abbrev keyScores (b : Fin 128) (t : Fin 4) (h : Fin 8) (i : Fin 3) (j : Fin 129) : EReal :=
  headDot (fun l => newRows (b10 V0) b t l * Ideal.ofBits .f32 0x3E000000#32)
    (keyRow (oldRows (b13 V0) b) (newRows (b11 V0) b) (key i t j)) h

/-- The value rows of sequence `b`'s keys. -/
abbrev keyValues (b : Fin 128) (t : Fin 4) (l : Fin 512) (i : Fin 3) (j : Fin 129) : EReal :=
  keyRow (oldRows (b14 V0) b) (newRows (b12 V0) b) (key i t j) l

theorem attended_odd (n : Fin 64) (t : Fin 4) (l : Fin 512) : attended V0 ⟨n.val * 2 + 1, by omega⟩ t l
    = part (keyScores V0 ⟨n.val * 2 + 1, by omega⟩ t ⟨l.val / 64, by omega⟩) (keyValues V0 ⟨n.val * 2 + 1, by omega⟩ t l) 0
      + part (keyScores V0 ⟨n.val * 2 + 1, by omega⟩ t ⟨l.val / 64, by omega⟩) (keyValues V0 ⟨n.val * 2 + 1, by omega⟩ t l) 1
      + part (keyScores V0 ⟨n.val * 2 + 1, by omega⟩ t ⟨l.val / 64, by omega⟩) (keyValues V0 ⟨n.val * 2 + 1, by omega⟩ t l) 2 := by
  have e := own_at V0 n t ⟨l.val / 64, by omega⟩ ⟨l.val % 64, by omega⟩
  unfold patScores patValues score at e
  rw [lane_eq, odd_eq] at e
  unfold attended
  rw [show (⟨(n.val * 2 + 1) / 2, by omega⟩ : Fin 64) = n from Fin.ext (by show (n.val * 2 + 1) / 2 = n.val; omega),
    show (⟨(n.val * 2 + 1) % 2, by omega⟩ : Fin 2) = 1 from Fin.ext (by show (n.val * 2 + 1) % 2 = 1; omega)]
  exact e

end Cert.ReferenceIdeal.Sample

end
-- ==== Proof.Finite.lean ====
/- What the precondition says: every query, key and old key is a real number. -/
module

public import proofs.«01_k».proof.Pre_finite
public import Idealize.ShloMosaic.Lib.Pointwise
public import Idealize.ShloMosaic.Lib.Tactic.CleanTypes

@[expose] public section

set_option maxRecDepth 16384

noncomputable section

namespace Cert.Pre_finite

open Idealize.ShloMosaic

/-- The precondition's shape relations. -/
theorem facts : Facts where
  shapeCasts_S1x128x2048x8x64_S128x2048x8x64 := by decide +kernel
  concatenates_S128x2048x8x64_S128x4x8x64_S128x4x8x64_S128x2056x8x64_d1 := by decide +kernel
  bcast_S_S128x2056x8x64 := by decide +kernel

/-- A number whose absolute value is below infinity is real. -/
theorem real_of_lt (x : EReal)
    (h : BitVec.ofBool (decide (FloatOps.absf (F := Ideal) (φ := .f32) x < Ideal.ofBits .f32 0x7F800000#32)) = 1#1) :
    ∃ r : ℝ, x = r := by
  have ht : Ideal.ofBits .f32 0x7F800000#32 = (⊤ : EReal) := by simp [Ideal.ofBits, Ideal.ieee]
  rw [ht] at h
  have hd : (FloatOps.absf (F := Ideal) (φ := .f32) x : EReal) < ⊤ := by
    by_contra hc
    rw [decide_eq_false hc] at h
    exact absurd h (by decide)
  induction x using EReal.rec with
  | bot => exact absurd hd (by show ¬ (max (⊥ : EReal) (-⊥) < ⊤); simp)
  | coe r => exact ⟨r, rfl⟩
  | top => exact absurd hd (by show ¬ (max (⊤ : EReal) (-⊤) < ⊤); simp)

/-- The scale 1/8 is real. -/
theorem scale_real : ∃ r : ℝ, Ideal.ofBits .f32 0x3E000000#32 = (r : EReal) := by
  refine ⟨(1 / 8 : ℝ), ?_⟩
  simp [Ideal.ofBits, Ideal.ieee]
  rw [← EReal.coe_mul]
  norm_num

section

variable [Facts] (x0 : FVec Ideal S16x2048x1024 .f32) (x1 x2 : FVec Ideal S32768x512 .bf16) (x3 : FVec Ideal S1x1024x1024 .f32)
  (x4 x5 : FVec Ideal S1x1024 .f32) (x6 : FVec Ideal S1x1024x4096 .f32) (x7 : FVec Ideal S1x4096x1024 .f32)
  (x8 : FVec Ideal S1x1024 .f32) (x9 : FVec Ideal S64x96x2176 .bf16) (x10 x11 x12 : FVec Ideal S128x4x8x64 .f32)
  (x13 x14 : FVec Ideal S1x128x2048x8x64 .f32) (x15 : FVec Ideal S1x512 .f32)
  (H : ∀ y, fn (F := Ideal) x0 x1 x2 x3 x4 x5 x6 x7 x8 x9 x10 x11 x12 x13 x14 x15 y = 1#1)

include H

theorem old_real (b : Fin 128) (k : Fin 2048) (h : Fin 8) (d : Fin 64) : ∃ r : ℝ, x13 (ix5 0 b k h d) = r := by
  have e := H (ix4 b ⟨k.val, by omega⟩ h d)
  revert e
  unfold fn
  pointwise
  exact real_of_lt _

theorem query_real (b : Fin 128) (t : Fin 4) (h : Fin 8) (d : Fin 64) : ∃ r : ℝ, x10 (ix4 b t h d) = r := by
  have e := H (ix4 b ⟨2048 + t.val, by omega⟩ h d)
  revert e
  unfold fn
  pointwise
  exact real_of_lt _

theorem new_real (b : Fin 128) (t : Fin 4) (h : Fin 8) (d : Fin 64) : ∃ r : ℝ, x11 (ix4 b t h d) = r := by
  have e := H (ix4 b ⟨2052 + t.val, by omega⟩ h d)
  revert e
  unfold fn
  pointwise
  rw [dif_neg (by omega), dif_neg (by omega),
    show (⟨2052 + t.val - 2048 - 4, by omega⟩ : Fin 4) = t from Fin.ext (by show 2052 + t.val - 2048 - 4 = t.val; omega)]
  exact real_of_lt _

end

end Cert.Pre_finite

end
-- ==== Proof.Results.lean ====
/- Both results of the kernel are the reference's, on arguments that agree and satisfy the precondition. -/
module

public import proofs.«01_k».proof.Defs
public import proofs.«01_k».proof.Proof.Prompt
public import proofs.«01_k».proof.Proof.Sample
public import proofs.«01_k».proof.Proof.Masked
public import proofs.«01_k».proof.Proof.FfnRef
public import proofs.«01_k».proof.Proof.RefRows
public import proofs.«01_k».proof.Proof.Finite

@[expose] public section

set_option maxRecDepth 16384

noncomputable section

namespace Cert.Results

open Idealize.ShloMosaic Idealize.ShloMosaic.TcCoe Idealize.SL.Sem
open Cert.KernelIdeal Cert.KernelIdeal.Gen Cert.KernelIdeal.Host Cert.Layer

variable (m : (ℓ : Loc nD τ sig) → Buf (Elt Ideal) ℓ) (c : Dev nD)
  (V0 : Valuation Cert.ReferenceIdeal.τ Cert.ReferenceIdeal.sig (Elt Ideal))

/-- The prompt's result. -/
theorem prompt (e0 : Cert.ReferenceIdeal.Ffn.b0 V0 = a0 m c) (e1 : Cert.ReferenceIdeal.Ffn.b1 V0 = a1 m c)
    (e2 : Cert.ReferenceIdeal.Ffn.b2 V0 = a2 m c) (e3 : Cert.ReferenceIdeal.Ffn.b3 V0 = a3 m c)
    (e4 : Cert.ReferenceIdeal.Ffn.b4 V0 = a4 m c) (e5 : Cert.ReferenceIdeal.Ffn.b5 V0 = a5 m c)
    (e6 : Cert.ReferenceIdeal.Ffn.b6 V0 = a6 m c) (e7 : Cert.ReferenceIdeal.Ffn.b7 V0 = a7 m c)
    (e8 : Cert.ReferenceIdeal.Ffn.b8 V0 = a8 m c) (G : FVec Ideal S32768x1024 .f32)
    (hG : G = Cert.ReferenceIdeal.Value.val5 V0 (Proc.devRef .tc Cert.ReferenceIdeal.main_v55)) :
    (dats m 0 c).arrAt 17 cfg0.N = G := by
  refine Cert.KernelIdeal.Ffn.final m c G fun i l => ?_
  rw [hG, Cert.ReferenceIdeal.Ffn.v55_at]
  unfold Cert.ReferenceIdeal.Ffn.row Cert.KernelIdeal.Ffn.row
  rw [e0, e1, e2, e3, e4, e5, e6, e7, e8]

/-- The new tokens' result. -/
theorem sample (e9 : Cert.ReferenceIdeal.Sample.b9 V0 = a9 m c) (e10 : Cert.ReferenceIdeal.Sample.b10 V0 = a10 m c)
    (e11 : Cert.ReferenceIdeal.Sample.b11 V0 = a11 m c) (e12 : Cert.ReferenceIdeal.Sample.b12 V0 = a12 m c)
    (e13 : Cert.ReferenceIdeal.Sample.b13 V0 = a13 m c) (e14 : Cert.ReferenceIdeal.Sample.b14 V0 = a14 m c)
    (e15 : Cert.ReferenceIdeal.Sample.b15 V0 = a15 m c)
    (r10 : ∀ b t h d, ∃ r : ℝ, a10 m c (ix4 b t h d) = (r : EReal)) (r11 : ∀ b t h d, ∃ r : ℝ, a11 m c (ix4 b t h d) = (r : EReal))
    (r13 : ∀ b k h d, ∃ r : ℝ, a13 m c (ix5 0 b k h d) = (r : EReal)) (G : FVec Ideal S4x128x1x512 .f32)
    (hG : G = Cert.ReferenceIdeal.Value.val5 V0 (Proc.devRef .tc Cert.ReferenceIdeal.main_v207)) :
    (dats m 0 c).arrAt 18 cfg0.N = G := by
  refine Cert.KernelIdeal.Sample.final m c G (fun t n l => ?_) (fun t n l => ?_)
  · rw [hG, Cert.ReferenceIdeal.Sample.v207_at, e15]
    refine congrArg (fun a => rms len512 a (fun k => a15 m c (ix2 0 k)) l) (funext fun l => ?_)
    rw [Cert.ReferenceIdeal.Sample.attended_even, e9, e12, e14]
    rfl
  · rw [hG, Cert.ReferenceIdeal.Sample.v207_at, e15]
    refine congrArg (fun a => rms len512 a (fun k => a15 m c (ix2 0 k)) l) (funext fun l => ?_)
    rw [Cert.ReferenceIdeal.Sample.attended_odd]
    unfold Cert.ReferenceIdeal.Sample.keyScores Cert.ReferenceIdeal.Sample.keyValues
    rw [e10, e11, e12, e13, e14]
    have real (x : Fin 2176) (hx : x.val < 2052) := headDot_real (Cert.KernelIdeal.Sample.query m c ⟨n.val * 2 + 1, by omega⟩ t)
      (keyRow (Cert.KernelIdeal.Sample.oldK m c ⟨n.val * 2 + 1, by omega⟩) (Cert.KernelIdeal.Sample.newK m c ⟨n.val * 2 + 1, by omega⟩) x)
      ⟨l.val / 64, by omega⟩ (fun l => by
        obtain ⟨r, hr⟩ := r10 ⟨n.val * 2 + 1, by omega⟩ t ⟨l.val / 64, by omega⟩ ⟨l.val % 64, by omega⟩
        obtain ⟨s, hs⟩ := Cert.Pre_finite.scale_real
        refine ⟨r * s, ?_⟩
        unfold Cert.KernelIdeal.Sample.query
        rw [hr, hs, EReal.coe_mul])
      (keyRow_real _ _ (fun l x => r13 _ _ _ _) (fun x l => r11 _ _ _ _) x)
    have e := masked_eq (Cert.KernelIdeal.Sample.query m c ⟨n.val * 2 + 1, by omega⟩ t)
      (Cert.KernelIdeal.Sample.oldK m c ⟨n.val * 2 + 1, by omega⟩) (Cert.KernelIdeal.Sample.oldV m c ⟨n.val * 2 + 1, by omega⟩)
      (Cert.KernelIdeal.Sample.newK m c ⟨n.val * 2 + 1, by omega⟩) (Cert.KernelIdeal.Sample.newV m c ⟨n.val * 2 + 1, by omega⟩)
      t ⟨l.val / 64, by omega⟩ l real
    unfold Cert.KernelIdeal.Sample.oddRow Cert.KernelIdeal.Sample.own3
    exact (congrArg₂ (· + ·) (congrArg₂ (· + ·) (e 0) (e 1)) (e 2)).symm

end Cert.Results

end
-- ==== Proof.Algebra.lean ====
/- The two programs' runs, side by side, with the results named. -/
module

public import proofs.«01_k».proof.Proof.Results
public import proofs.«01_k».proof.Proof.Gen.KernelIdeal.Value
public import proofs.«01_k».proof.Proof.Gen.ReferenceIdeal.Run

@[expose] public section

set_option maxRecDepth 16384

noncomputable section

namespace Cert.Results

open Idealize.ShloMosaic Idealize.ShloMosaic.TcCoe Idealize.SL.Sem
open Cert.KernelIdeal Cert.KernelIdeal.Gen Cert.KernelIdeal.Host Cert.Layer

/-- The precondition makes the queries, the new keys and the old keys real. -/
theorem reals (m : (ℓ : Loc nD τ sig) → Buf (Elt Ideal) ℓ) (c : Dev nD)
    (pre : Cert.Pre_KernelIdeal_finite (hPre_finite := Cert.Pre_finite.facts) m) :
    (∀ b t h d, ∃ r : ℝ, a10 m c (ix4 b t h d) = (r : EReal)) ∧ (∀ b t h d, ∃ r : ℝ, a11 m c (ix4 b t h d) = (r : EReal))
      ∧ (∀ b k h d, ∃ r : ℝ, a13 m c (ix5 0 b k h d) = (r : EReal)) := by
  have := Cert.Pre_finite.facts
  have H := congrFun (pre c)
  exact ⟨Cert.Pre_finite.query_real (a0 m c) (a1 m c) (a2 m c) (a3 m c) (a4 m c) (a5 m c) (a6 m c) (a7 m c) (a8 m c) (a9 m c)
      (a10 m c) (a11 m c) (a12 m c) (a13 m c) (a14 m c) (a15 m c) H,
    Cert.Pre_finite.new_real (a0 m c) (a1 m c) (a2 m c) (a3 m c) (a4 m c) (a5 m c) (a6 m c) (a7 m c) (a8 m c) (a9 m c)
      (a10 m c) (a11 m c) (a12 m c) (a13 m c) (a14 m c) (a15 m c) H,
    Cert.Pre_finite.old_real (a0 m c) (a1 m c) (a2 m c) (a3 m c) (a4 m c) (a5 m c) (a6 m c) (a7 m c) (a8 m c) (a9 m c)
      (a10 m c) (a11 m c) (a12 m c) (a13 m c) (a14 m c) (a15 m c) H⟩

/-- Under the precondition the idealized kernel's two results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' pre agree
  refine ⟨fun c => (dats m 0 c).arrAt 17 cfg0.N, fun c => (dats m 0 c).arrAt 18 cfg0.N,
    Cert.KernelIdeal.Value.run_blocks (F := Ideal) m g, ?_⟩
  refine (θ_run _ _ _).mono (fun r h c => ?_) (Cert.ReferenceIdeal.Value.run (F := Ideal) m' g')
  obtain ⟨h0, h1, h2, h3, h4, h5, h6, h7, h8, h9, h10, h11, h12, h13, h14, h15⟩ := agree c
  obtain ⟨r10, r11, r13⟩ := reals m c pre
  obtain ⟨hy, ha, kept⟩ := h c
  have ey := prompt m c (Idealize.ShloMosaic.StableHlo.launchContents m' c) h0 h1 h2 h3 h4 h5 h6 h7 h8 _ rfl
  have ea := sample m c (Idealize.ShloMosaic.StableHlo.launchContents m' c) h9 h10 h11 h12 h13 h14 h15 r10 r11 r13 _ rfl
  exact ⟨hy.trans ((Cert.ReferenceIdeal.Value.val5_main_v55 _).symm.trans ey.symm),
    ha.trans ((Cert.ReferenceIdeal.Value.val5_main_v207 _).symm.trans ea.symm), kept⟩

/-- The idealized reference runs, and leaves its arguments. -/
theorem reference_frame : Cert.quiescent_ReferenceIdeal (hReferenceIdeal := Cert.ReferenceIdeal.Gen.facts) :=
  fun m ρ _ => (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m ρ)

end Cert.Results

end
-- ==== Proof.PromptRun.lean ====
/- One run of the prompt's projection body: from its twelve input blocks at their contents and everything else at anything, it
   ends with the inputs as they were, the transposed keys and values and the convolution's last rows written, and the
   other outputs and the history at something. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.PromptProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

set_option maxHeartbeats 20000000 in
/-- What the run writes into the three outputs, as pieces, and that it runs to them. -/
noncomputable def run (c : Dev nD) (i : grid0.Coords)
    (arg1 : Memref sig .tc .vmem S512x1024 .f32) (harg1 : arg1.IsWhole)
    (arg2 : Memref sig .tc .vmem S1x1024 .f32) (harg2 : arg2.IsWhole)
    (arg3 : Memref sig .tc .vmem S1024x3072 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2048x128 .f32) (harg6 : arg6.IsWhole)
    (arg7 : Memref sig .tc .vmem S3x512 .f32) (harg7 : arg7.IsWhole)
    (arg8 : Memref sig .tc .vmem S1x512 .f32) (harg8 : arg8.IsWhole)
    (arg9 : Memref sig .tc .vmem S4x1x1x512 .f32) (harg9 : arg9.IsWhole)
    (arg10 : Memref sig .tc .vmem S4x1x1x512 .f32) (harg10 : arg10.IsWhole)
    (arg11 : Memref sig .tc .vmem S1x8x64x2048 .f32) (harg11 : arg11.IsWhole)
    (arg12 : Memref sig .tc .vmem S96x2176 .f32) (harg12 : arg12.IsWhole)
    (arg13 : Memref sig .tc .vmem S1x4x512x128 .f32) (harg13 : arg13.IsWhole)
    (arg14 : Memref sig .tc .vmem S1x4x512x128 .f32) (harg14 : arg14.IsWhole)
    (arg15 : Memref sig .tc .vmem S1x4x512x128 .f32) (harg15 : arg15.IsWhole)
    (arg16 : Memref sig .tc .vmem S1x512x512 .f32) (harg16 : arg16.IsWhole)
    (arg17 : Memref sig .tc .vmem S1x512x512 .f32) (harg17 : arg17.IsWhole)
    (arg18 : Memref sig .tc .vmem S512x512 .bf16) (harg18 : arg18.IsWhole)
    (arg19 : Memref sig .tc .vmem S1x2x512 .f32) (harg19 : arg19.IsWhole)
    (arg20 : Memref sig .tc .vmem S1x96x2176 .bf16) (harg20 : arg20.IsWhole)
    (arg21 : Memref sig .tc .vmem S520x512 .f32) (harg21 : arg21.IsWhole)
    (x0 : Vec F S512x1024 .f32) (x1 : Vec F S1x1024 .f32) (x2 : Vec F S1024x3072 .bf16) (x3 : Vec F S2048x128 .f32)
    (x4 : Vec F S2048x128 .f32) (x5 : Vec F S2048x128 .f32) (x6 : Vec F S3x512 .f32) (x7 : Vec F S1x512 .f32)
    (x8 : Vec F S4x1x1x512 .f32) (x9 : Vec F S4x1x1x512 .f32) (x10 : Vec F S1x8x64x2048 .f32)
    (x11 : Vec F S96x2176 .f32) :
    Σ' (L15 : List (View.Piece (Elt F) S1x512x512 .f32)), Σ' (L16 : List (View.Piece (Elt F) S1x512x512 .f32)),
      { L18 : List (View.Piece (Elt F) S1x2x512 .f32) //
      ∀ (E : Set ℕ) (K : PUnit → sProp 𝕄),
        iprop(
          owns (c : Thread nD τ) arg1 fullShare x0 ∗ owns (c : Thread nD τ) arg2 fullShare x1 ∗
          owns (c : Thread nD τ) arg3 fullShare x2 ∗ owns (c : Thread nD τ) arg4 fullShare x3 ∗
          owns (c : Thread nD τ) arg5 fullShare x4 ∗ owns (c : Thread nD τ) arg6 fullShare x5 ∗
          owns (c : Thread nD τ) arg7 fullShare x6 ∗ owns (c : Thread nD τ) arg8 fullShare x7 ∗
          owns (c : Thread nD τ) arg9 fullShare x8 ∗ owns (c : Thread nD τ) arg10 fullShare x9 ∗
          owns (c : Thread nD τ) arg11 fullShare x10 ∗ owns (c : Thread nD τ) arg12 fullShare x11 ∗
          (∃ d, owns (c : Thread nD τ) arg13 fullShare d) ∗ (∃ d, owns (c : Thread nD τ) arg14 fullShare d) ∗
          (∃ d, owns (c : Thread nD τ) arg15 fullShare d) ∗ (∃ d, owns (c : Thread nD τ) arg16 fullShare d) ∗
          (∃ d, owns (c : Thread nD τ) arg17 fullShare d) ∗ (∃ d, owns (c : Thread nD τ) arg18 fullShare d) ∗
          (∃ d, owns (c : Thread nD τ) arg19 fullShare d) ∗ (∃ d, owns (c : Thread nD τ) arg20 fullShare d) ∗
          (∃ d, owns (c : Thread nD τ) arg21 fullShare d)
          ∗ (iprop(
            owns (c : Thread nD τ) arg1 fullShare x0 ∗ owns (c : Thread nD τ) arg2 fullShare x1 ∗
            owns (c : Thread nD τ) arg3 fullShare x2 ∗ owns (c : Thread nD τ) arg4 fullShare x3 ∗
            owns (c : Thread nD τ) arg5 fullShare x4 ∗ owns (c : Thread nD τ) arg6 fullShare x5 ∗
            owns (c : Thread nD τ) arg7 fullShare x6 ∗ owns (c : Thread nD τ) arg8 fullShare x7 ∗
            owns (c : Thread nD τ) arg9 fullShare x8 ∗ owns (c : Thread nD τ) arg10 fullShare x9 ∗
            owns (c : Thread nD τ) arg11 fullShare x10 ∗ owns (c : Thread nD τ) arg12 fullShare x11 ∗
            (∃ d, owns (c : Thread nD τ) arg13 fullShare d) ∗ (∃ d, owns (c : Thread nD τ) arg14 fullShare d) ∗
            (∃ d, owns (c : Thread nD τ) arg15 fullShare d) ∗
            (∃ f, arg16.view.loc (c : Thread nD τ) ↦[arg16.view.set]{fullShare} arg16.view.writes (Elt F) f L15) ∗
            (∃ f, arg17.view.loc (c : Thread nD τ) ↦[arg17.view.set]{fullShare} arg17.view.writes (Elt F) f L16) ∗
            (∃ d, owns (c : Thread nD τ) arg18 fullShare d) ∗
            (∃ f, arg19.view.loc (c : Thread nD τ) ↦[arg19.view.set]{fullShare} arg19.view.writes (Elt F) f L18) ∗
            (∃ d, owns (c : Thread nD τ) arg20 fullShare d) ∗ (∃ d, owns (c : Thread nD τ) arg21 fullShare d)) -∗ K ⟨⟩))
        ⊢ wp frame (wpE (defs₀ (F := F)) Variants.none c none) E (cc0_proj_prompt i
            arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16 arg17 harg17
            arg18 harg18 arg19 harg19 arg20 harg20 arg21 harg21) K } := by
  refine ⟨?_, ?_, ?_, fun E K => ?run⟩
  case run =>
    simp only [cc0_proj_prompt_eq_skeleton]
    unfold cc0_proj_prompt_skel
    simp only [
      k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%d12, %f12, -, H12⟩, ⟨%d13, %f13, -, H13⟩, ⟨%d14, %f14, -, H14⟩, ⟨%d15, %f15, -, H15⟩, ⟨%d16, %f16, -, H16⟩,
      ⟨%d17, %f17, -, H17⟩, ⟨%d18, %f18, -, H18⟩, ⟨%d19, %f19, -, H19⟩, ⟨%d20, %f20, -, H20⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]; · iexists _; iexact H15
    isplitl [H16]; · iexists _; iexact H16
    isplitl [H17]
    · iexists _; iexists _; isplitr
      swap; · iexact H17
      ipureintro; rfl
    isplitl [H18]; · iexists _; iexact H18
    isplitl [H19]
    · iexists _; iexists _; isplitr
      swap; · iexact H19
      ipureintro; rfl
    iexists _; iexists _; isplitr
    swap; · iexact H20
    ipureintro; rfl

end Cert.Kernel2Ideal.PromptProj

end
-- ==== Proof.PromptFrame.lean ====
/- The run of the prompt's projection call: at every grid point the body leaves the transposed keys, the transposed values and
   the last gated rows as `run` says, and something in its other outputs; so the call ends with those three arrays named
   and its arguments as they were. -/
module

public import proofs.«01_k».proof.Proof.PromptRun

@[expose] public section

set_option maxRecDepth 16384

noncomputable section

namespace Cert.Kernel2Ideal.PromptProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev buf0 (t : Fin cfg0.N) : Memref sig .tc .vmem S512x1024 .f32 := win0_0.stage (cfg0.slots t 0)
abbrev buf1 (t : Fin cfg0.N) : Memref sig .tc .vmem S1x1024 .f32 := win0_1.stage (cfg0.slots t 1)
abbrev buf2 (t : Fin cfg0.N) : Memref sig .tc .vmem S1024x3072 .bf16 := win0_2.stage (cfg0.slots t 2)
abbrev buf3 (t : Fin cfg0.N) : Memref sig .tc .vmem S2048x128 .f32 := win0_3.stage (cfg0.slots t 3)
abbrev buf4 (t : Fin cfg0.N) : Memref sig .tc .vmem S2048x128 .f32 := win0_4.stage (cfg0.slots t 4)
abbrev buf5 (t : Fin cfg0.N) : Memref sig .tc .vmem S2048x128 .f32 := win0_5.stage (cfg0.slots t 5)
abbrev buf6 (t : Fin cfg0.N) : Memref sig .tc .vmem S3x512 .f32 := win0_6.stage (cfg0.slots t 6)
abbrev buf7 (t : Fin cfg0.N) : Memref sig .tc .vmem S1x512 .f32 := win0_7.stage (cfg0.slots t 7)
abbrev buf8 (t : Fin cfg0.N) : Memref sig .tc .vmem S4x1x1x512 .f32 := win0_8.stage (cfg0.slots t 8)
abbrev buf9 (t : Fin cfg0.N) : Memref sig .tc .vmem S4x1x1x512 .f32 := win0_9.stage (cfg0.slots t 9)
abbrev buf10 (t : Fin cfg0.N) : Memref sig .tc .vmem S1x8x64x2048 .f32 := win0_10.stage (cfg0.slots t 10)
abbrev buf11 (t : Fin cfg0.N) : Memref sig .tc .vmem S96x2176 .f32 := win0_11.stage (cfg0.slots t 11)
abbrev buf12 (t : Fin cfg0.N) : Memref sig .tc .vmem S1x4x512x128 .f32 := win0_12.stage (cfg0.slots t 12)
abbrev buf13 (t : Fin cfg0.N) : Memref sig .tc .vmem S1x4x512x128 .f32 := win0_13.stage (cfg0.slots t 13)
abbrev buf14 (t : Fin cfg0.N) : Memref sig .tc .vmem S1x4x512x128 .f32 := win0_14.stage (cfg0.slots t 14)
abbrev buf15 (t : Fin cfg0.N) : Memref sig .tc .vmem S1x512x512 .f32 := win0_15.stage (cfg0.slots t 15)
abbrev buf16 (t : Fin cfg0.N) : Memref sig .tc .vmem S1x512x512 .f32 := win0_16.stage (cfg0.slots t 16)
abbrev buf17 (t : Fin cfg0.N) : Memref sig .tc .vmem S512x512 .bf16 := win0_17.stage (cfg0.slots t 17)
abbrev buf18 (t : Fin cfg0.N) : Memref sig .tc .vmem S1x2x512 .f32 := win0_18.stage (cfg0.slots t 18)
abbrev buf19 (t : Fin cfg0.N) : Memref sig .tc .vmem S1x96x2176 .bf16 := win0_19.stage (cfg0.slots t 19)

/-- The buffer that carries the gated rows from one block to the next. -/
abbrev past : Memref sig .tc .vmem S520x512 .f32 := Memref.whole cc0_scratch0

/-- The invariant between points: the carried buffer at some contents. -/
theorem inv_eq (c : Dev nD) : (Pipeline.ΦA spec0 c : sProp 𝕄)
    = iprop(iprop((∃ d, owns (c : Thread nD τ) past fullShare d)) ∗ (∃ r, prngReg c r)) := by
  unfold Pipeline.ΦA; rw [scopedRest0_eq]; simp only [past, owns_whole]; try rfl

/-- The run at point `t`, from the staged blocks. -/
def runAt (c : Dev nD) (t : Fin cfg0.N) := run (F := F) c (grid0.coords t)
    (buf0 t) (hstage0_0 ((cfg0.slots t 0).cast nbuf0_0)) (buf1 t) (hstage0_1 ((cfg0.slots t 1).cast nbuf0_1)) (buf2 t) (hstage0_2 ((cfg0.slots t 2).cast nbuf0_2)) (buf3 t) (hstage0_3 ((cfg0.slots t 3).cast nbuf0_3)) (buf4 t) (hstage0_4 ((cfg0.slots t 4).cast nbuf0_4)) (buf5 t) (hstage0_5 ((cfg0.slots t 5).cast nbuf0_5)) (buf6 t) (hstage0_6 ((cfg0.slots t 6).cast nbuf0_6)) (buf7 t) (hstage0_7 ((cfg0.slots t 7).cast nbuf0_7)) (buf8 t) (hstage0_8 ((cfg0.slots t 8).cast nbuf0_8)) (buf9 t) (hstage0_9 ((cfg0.slots t 9).cast nbuf0_9)) (buf10 t) (hstage0_10 ((cfg0.slots t 10).cast nbuf0_10)) (buf11 t) (hstage0_11 ((cfg0.slots t 11).cast nbuf0_11)) (buf12 t) (hstage0_12 ((cfg0.slots t 12).cast nbuf0_12)) (buf13 t) (hstage0_13 ((cfg0.slots t 13).cast nbuf0_13)) (buf14 t) (hstage0_14 ((cfg0.slots t 14).cast nbuf0_14)) (buf15 t) (hstage0_15 ((cfg0.slots t 15).cast nbuf0_15)) (buf16 t) (hstage0_16 ((cfg0.slots t 16).cast nbuf0_16)) (buf17 t) (hstage0_17 ((cfg0.slots t 17).cast nbuf0_17)) (buf18 t) (hstage0_18 ((cfg0.slots t 18).cast nbuf0_18)) (buf19 t) (hstage0_19 ((cfg0.slots t 19).cast nbuf0_19)) past (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

abbrev ref15 : View sig .tc .vmem S1x512x512 .f32 := (Memref.whole cc0_stg15_0 : Memref sig .tc .vmem S1x512x512 .f32).view

/-- The run writes all of window 15. -/
theorem cover15 (c : Dev nD) (t : Fin cfg0.N) (y : S1x512x512.Idx) : ∃ pc ∈ (runAt m c t).1, y ∈ pc.1.set :=
  View.cover_of_tiledL (runAt m c t).1 S1x512x256.size (by sl_kernel_rfl) y

/-- What the run leaves in window 15. -/
def left15 (c : Dev nD) (t : Fin cfg0.N) : Vec F S1x512x512 .f32 :=
  ref15.read (Elt F) (ref15.writes (Elt F) ref15.junk (runAt m c t).1)

abbrev ref16 : View sig .tc .vmem S1x512x512 .f32 := (Memref.whole cc0_stg16_0 : Memref sig .tc .vmem S1x512x512 .f32).view

/-- The run writes all of window 16. -/
theorem cover16 (c : Dev nD) (t : Fin cfg0.N) (y : S1x512x512.Idx) : ∃ pc ∈ (runAt m c t).2.1, y ∈ pc.1.set :=
  View.cover_of_tiledL (runAt m c t).2.1 S1x512x256.size (by sl_kernel_rfl) y

/-- What the run leaves in window 16. -/
def left16 (c : Dev nD) (t : Fin cfg0.N) : Vec F S1x512x512 .f32 :=
  ref16.read (Elt F) (ref16.writes (Elt F) ref16.junk (runAt m c t).2.1)

abbrev ref18 : View sig .tc .vmem S1x2x512 .f32 := (Memref.whole cc0_stg18_0 : Memref sig .tc .vmem S1x2x512 .f32).view

/-- The run writes all of window 18. -/
theorem cover18 (c : Dev nD) (t : Fin cfg0.N) (y : S1x2x512.Idx) : ∃ pc ∈ (runAt m c t).2.2.val, y ∈ pc.1.set :=
  View.cover_of_tiledL (runAt m c t).2.2.val S1x2x512.size (by sl_kernel_rfl) y

/-- What the run leaves in window 18. -/
def left18 (c : Dev nD) (t : Fin cfg0.N) : Vec F S1x2x512 .f32 :=
  ref18.read (Elt F) (ref18.writes (Elt F) ref18.junk (runAt m c t).2.2.val)

/-- The outputs of which nothing is said. -/
def forgets : Fin 20 → Bool := fun w => w.val == 12 || w.val == 13 || w.val == 14 || w.val == 17 || w.val == 19

/-- The proof data: the inputs stay at their blocks, three outputs are named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, _⟩ => left15 m c t
    | ⟨16, _⟩ => left16 m c t
    | ⟨17, h⟩ => Pipeline.Dat.unnamed (cfg := cfg0) ⟨17, h⟩ t
    | ⟨18, _⟩ => left18 m c t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after15 (c : Dev nD) (t : Fin cfg0.N) : (dats m 0 c).after 15 t = left15 m c t := by dsimp only [dats]
theorem after16 (c : Dev nD) (t : Fin cfg0.N) : (dats m 0 c).after 16 t = left16 m c t := by dsimp only [dats]
theorem after18 (c : Dev nD) (t : Fin cfg0.N) : (dats m 0 c).after 18 t = left18 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-- What the body starts from at point `t`. -/
def pre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare d)
    ∗ (∃ d, owns (c : Thread nD τ) (buf13 t) fullShare d)
    ∗ (∃ d, owns (c : Thread nD τ) (buf14 t) fullShare d)
    ∗ (∃ d, owns (c : Thread nD τ) (buf15 t) fullShare ((dats m 0 c).before 15 t d))
    ∗ (∃ d, owns (c : Thread nD τ) (buf16 t) fullShare ((dats m 0 c).before 16 t d))
    ∗ (∃ d, owns (c : Thread nD τ) (buf17 t) fullShare d)
    ∗ (∃ d, owns (c : Thread nD τ) (buf18 t) fullShare ((dats m 0 c).before 18 t d))
    ∗ (∃ d, owns (c : Thread nD τ) (buf19 t) fullShare d))

/-- What it ends with. -/
def post (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t)
    ∗ (∃ d, owns (c : Thread nD τ) (buf12 t) fullShare d)
    ∗ (∃ d, owns (c : Thread nD τ) (buf13 t) fullShare d)
    ∗ (∃ d, owns (c : Thread nD τ) (buf14 t) fullShare d)
    ∗ owns (c : Thread nD τ) (buf15 t) fullShare ((dats m 0 c).after 15 t)
    ∗ owns (c : Thread nD τ) (buf16 t) fullShare ((dats m 0 c).after 16 t)
    ∗ (∃ d, owns (c : Thread nD τ) (buf17 t) fullShare d)
    ∗ owns (c : Thread nD τ) (buf18 t) fullShare ((dats m 0 c).after 18 t)
    ∗ (∃ d, owns (c : Thread nD τ) (buf19 t) fullShare d))

set_option maxHeartbeats 4000000 in
/-- The body does that, by its run. -/
theorem body_sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after15, after16, after18]
  rw [show (dats m 0 c).Φ t.castSucc = Pipeline.ΦA spec0 c from rfl, inv_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runAt m c t).2.2.property Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  iintro ⟨H0, H1, H2, H3, H4, H5, H6, H7, H8, H9, H10, H11, H12, H13, H14, ⟨%e15, H15⟩, ⟨%e16, H16⟩, H17, ⟨%e18, H18⟩, H19, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns left15
    iexists _
    isplitr
    swap; · iexact H15
    ipureintro; exact View.read_writes_of_cover _ _ _ _ _ (cover15 m c t)
  isplitl [H16]
  · unfold owns left16
    iexists _
    isplitr
    swap; · iexact H16
    ipureintro; exact View.read_writes_of_cover _ _ _ _ _ (cover16 m c t)
  isplitl [H17]; · iexact H17
  isplitl [H18]
  · unfold owns left18
    iexists _
    isplitr
    swap; · iexact H18
    ipureintro; exact View.read_writes_of_cover _ _ _ _ _ (cover18 m c t)
  iexact H19

theorem row_eq (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, row_eq]
  exact triple_restated (body_sound m c t) rfl .rfl fun _ => .rfl

set_option backward.isDefEq.respectTransparency.types false in
/-- The call's run: the pipeline's arrays as the proof data says, and the machine at rest. -/
theorem run_call : θ_run defs (onTc (τ := τ) (main (F := F))) (s₀ m ρ) (fun r =>
    (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call ends with the three arrays named, its arguments as they were, and the machine at rest. -/
theorem run_main : θ_run defs (onTc (τ := τ) (main (F := F))) ⟨m, fun _ => 0, ρ⟩ (fun r => (∀ c : Dev nD,
      (r.2.mem ((c.tc : Thread nD τ).loc (Pipeline.arrRef spec0 15)) = (dats m 0 c).arrAt 15 cfg0.N
      ∧ r.2.mem ((c.tc : Thread nD τ).loc (Pipeline.arrRef spec0 16)) = (dats m 0 c).arrAt 16 cfg0.N
      ∧ r.2.mem ((c.tc : Thread nD τ).loc (Pipeline.arrRef spec0 18)) = (dats m 0 c).arrAt 18 cfg0.N)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)))
      ∧ r.2.sem = fun _ => 0) :=
  (θ_run defs _ _).mono (fun r h => ⟨fun c => ⟨⟨
      ((dats m 0 c).toRForget_arrAt_iff (fgt := forgets) (w := 15) rfl _ _).1 ((h.1 c).1 15),
      ((dats m 0 c).toRForget_arrAt_iff (fgt := forgets) (w := 16) rfl _ _).1 ((h.1 c).1 16),
      ((dats m 0 c).toRForget_arrAt_iff (fgt := forgets) (w := 18) rfl _ _).1 ((h.1 c).1 18)⟩,
    ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩⟩, h.2⟩) (run_call m ρ)

end Cert.Kernel2Ideal.PromptProj

end
-- ==== Proof.ProjSpec.lean ====
/- The projection of one row and the rotation of the keys, on extended reals, and what the kernels' rotation of four
   tiles of 128 lanes computes at a row and a column. No program is named here. -/
module

public import proofs.«01_k».proof.Proof.Spec
public import Idealize.ShloMosaic.Lib.Pipeline.ValueKit
public import Idealize.ShloMosaic.Lib.KernelVsHost

@[expose] public section

set_option maxRecDepth 16384

noncomputable section

namespace Cert.Layer

open Idealize.ShloMosaic

/-- Column `j` of the normalized row `x` against the matrix `w`. -/
def proj (x g : Fin 1024 → EReal) (w : Fin 1024 → Fin 3072 → EReal) (j : Fin 3072) : EReal :=
  ∑ i, rms len1024 x g i * w i j

/-- The rotated row `v` of eight heads of 64: within a head, lane `d < 32` and lane `d + 32` turn by the angle whose cosine
    and sine are given at `d`. -/
def turn (v : Fin 512 → EReal) (co si : Fin 32 → EReal) (l : Fin 512) : EReal :=
  if h : l.val % 64 < 32 then
    v l * co ⟨l.val % 64, h⟩ - v ⟨l.val + 32, by omega⟩ * si ⟨l.val % 64, h⟩
  else v l * co ⟨l.val % 64 - 32, by omega⟩ + v ⟨l.val - 32, by omega⟩ * si ⟨l.val % 64 - 32, by omega⟩

/-- The cosines of 32 lanes, four times over. -/
def lanes (co : Fin 32 → EReal) (d : Fin 128) : EReal := co ⟨d.val % 32, by omega⟩

/-- The negated sines for the lower half of each head, zero for the upper one. -/
def lower (si : Fin 32 → EReal) (d : Fin 128) : EReal :=
  if d.val % 64 < 32 then -(si ⟨d.val % 32, by omega⟩) else 0

/-- The sines for the upper half of each head, zero for the lower one. -/
def upper (si : Fin 32 → EReal) (d : Fin 128) : EReal :=
  if d.val % 64 < 32 then 0 else si ⟨d.val % 32, by omega⟩

/-- A rotation of each tile of 128 lanes by 32 lanes each way, with tables that are zero in the other half, is the
    rotation. -/
theorem turn_eq (v : Fin 512 → EReal) (co si : Fin 32 → EReal) (l : Fin 512) :
    v l * lanes co ⟨l.val % 128, by omega⟩
        + v ⟨128 * (l.val / 128) + (l.val % 128 + 32) % 128, by omega⟩ * lower si ⟨l.val % 128, by omega⟩
        + v ⟨128 * (l.val / 128) + (l.val % 128 + 96) % 128, by omega⟩ * upper si ⟨l.val % 128, by omega⟩
      = turn v co si l := by
  unfold turn lanes lower upper
  have h64 : l.val % 128 % 64 = l.val % 64 := by omega
  by_cases h : l.val % 64 < 32
  · simp only [h64, h, if_true, dif_pos, mul_zero, add_zero, mul_neg]
    rw [sub_eq_add_neg]
    congr 3
    · exact Fin.ext (by show l.val % 128 % 32 = l.val % 64; omega)
    · exact congrArg v (Fin.ext (by first | omega | (simp only; omega)))
    · exact congrArg si (Fin.ext (by first | omega | (simp only; omega)))
  · simp only [h64, h, if_false, dif_neg, not_false_eq_true, mul_zero, add_zero]
    congr 2
    · exact congrArg co (Fin.ext (by first | omega | (simp only; omega)))
    · exact congrArg v (Fin.ext (by first | omega | (simp only; omega)))
    · exact congrArg si (Fin.ext (by first | omega | (simp only; omega)))

section Tiles

variable {R : Nat} (v : FVec Ideal (⟨2, ![R, 512]⟩ : Shape) .f32) (co lo hi : FVec Ideal (⟨2, ![R, 128]⟩ : Shape) .f32)
  (hr : (⟨2, ![R, 128]⟩ : Shape).Rotates 1 none)

/-- One tile, rotated. -/
def tile (x : FVec Ideal (⟨2, ![R, 128]⟩ : Shape) .f32) : FVec Ideal (⟨2, ![R, 128]⟩ : Shape) .f32 :=
  addf (addf (mulf x co) (mulf (dynamicRotate 1 96#32 none x hr) lo)) (mulf (dynamicRotate 1 32#32 none x hr) hi)

theorem tile_at (x : FVec Ideal (⟨2, ![R, 128]⟩ : Shape) .f32) (r : Fin R) (d : Fin 128) :
    tile co lo hi hr x (ix2 r d)
      = x (ix2 r d) * co (ix2 r d) + x (ix2 r ⟨(d.val + 32) % 128, by omega⟩) * lo (ix2 r d)
        + x (ix2 r ⟨(d.val + 96) % 128, by omega⟩) * hi (ix2 r d) := by
  have e : ∀ (n : BitVec 32) (k : Nat) (hk : (d.val + 128 - n.toNat % 128) % 128 = (d.val + k) % 128),
      dynamicRotate 1 n none x hr (ix2 r d) = x (ix2 r ⟨(d.val + k) % 128, by omega⟩) := fun n k hk =>
    dynamicRotate_apply (1 : Fin 2) n x hr (ix2 r d) (ix2 r ⟨(d.val + k) % 128, by omega⟩) (by
      intro b; fin_cases b
      · rfl
      · exact hk.symm)
  have e1 := e 96#32 32 (by show (d.val + 128 - 96 % 128) % 128 = _; omega)
  have e2 := e 32#32 96 (by show (d.val + 128 - 32 % 128) % 128 = _; omega)
  show (show EReal from x (ix2 r d)) * _ + (show EReal from dynamicRotate 1 96#32 none x hr (ix2 r d)) * _
    + (show EReal from dynamicRotate 1 32#32 none x hr (ix2 r d)) * _ = _
  rw [e1, e2]

/-- Four tiles side by side, each cut from `v` and rotated. -/
theorem tiles_at (h0 : (⟨2, ![R, 512]⟩ : Shape).Slices ![0, 0] ⟨2, ![R, 128]⟩)
    (h1 : (⟨2, ![R, 512]⟩ : Shape).Slices ![0, 128] ⟨2, ![R, 128]⟩)
    (h2 : (⟨2, ![R, 512]⟩ : Shape).Slices ![0, 256] ⟨2, ![R, 128]⟩)
    (h3 : (⟨2, ![R, 512]⟩ : Shape).Slices ![0, 384] ⟨2, ![R, 128]⟩)
    (hc : Shape.Concatenates [(⟨2, ![R, 128]⟩ : Shape), ⟨2, ![R, 128]⟩, ⟨2, ![R, 128]⟩, ⟨2, ![R, 128]⟩] ⟨2, ![R, 512]⟩ 1)
    (r : Fin R) (l : Fin 512) :
    concatenate (⟨2, ![R, 512]⟩ : Shape) 1
        [⟨⟨2, ![R, 128]⟩, tile co lo hi hr (extractStridedSlice ⟨2, ![R, 128]⟩ ![0, 0] v h0)⟩,
          ⟨⟨2, ![R, 128]⟩, tile co lo hi hr (extractStridedSlice ⟨2, ![R, 128]⟩ ![0, 128] v h1)⟩,
          ⟨⟨2, ![R, 128]⟩, tile co lo hi hr (extractStridedSlice ⟨2, ![R, 128]⟩ ![0, 256] v h2)⟩,
          ⟨⟨2, ![R, 128]⟩, tile co lo hi hr (extractStridedSlice ⟨2, ![R, 128]⟩ ![0, 384] v h3)⟩] hc (ix2 r l)
      = v (ix2 r l) * co (ix2 r ⟨l.val % 128, by omega⟩)
        + v (ix2 r ⟨128 * (l.val / 128) + (l.val % 128 + 32) % 128, by omega⟩) * lo (ix2 r ⟨l.val % 128, by omega⟩)
        + v (ix2 r ⟨128 * (l.val / 128) + (l.val % 128 + 96) % 128, by omega⟩) * hi (ix2 r ⟨l.val % 128, by omega⟩) := by
  have hs : ∀ n : Fin 4, (⟨2, ![R, 512]⟩ : Shape).Slices ![0, 128 * n.val] ⟨2, ![R, 128]⟩ := fun n => by
    fin_cases n
    exacts [h0, h1, h2, h3]
  refine (concatenate_ofFn_apply (t := ⟨2, ![R, 512]⟩) (s₁ := ⟨2, ![R, 128]⟩) 1
    (fun n : Fin 4 => tile co lo hi hr (extractStridedSlice ⟨2, ![R, 128]⟩ ![0, 128 * n.val] v (hs n))) hc rfl 128 rfl
    (ix2 r l) ⟨l.val / 128, by omega⟩ rfl (ix2 r ⟨l.val % 128, by omega⟩) rfl
    (fun b hb => by
      fin_cases b
      · rfl
      · exact absurd rfl hb)).trans ?_
  rw [tile_at]
  have cut : ∀ d : Fin 128, extractStridedSlice ⟨2, ![R, 128]⟩ ![0, 128 * (l.val / 128)] v (hs ⟨l.val / 128, by omega⟩) (ix2 r d)
      = v (ix2 r ⟨128 * (l.val / 128) + d.val, by omega⟩) := fun d => by
    refine congrArg v (funext fun a => ?_)
    fin_cases a
    · exact Fin.ext (Nat.zero_add _)
    · exact Fin.ext rfl
  rw [cut, cut, cut]
  congr 4
  exact congrArg (ix2 r) (Fin.ext (by show 128 * (l.val / 128) + l.val % 128 = l.val; omega))

end Tiles

end Cert.Layer

end
-- ==== Proof.PromptPay.lean ====
/- What the prompt's projection body computes for the keys, the values and the gated rows, in each of its two groups of 256
   rows: read at a row and a column, `Layer.turn`, `Layer.proj` and products of them, of that row of the staged blocks. -/
module

public import proofs.«01_k».proof.Proof.Gen.Kernel2Ideal.Skeleton
public import proofs.«01_k».proof.Proof.ProjSpec

@[expose] public section

set_option maxRecDepth 16384

noncomputable section

namespace Cert.Kernel2Ideal.PromptProj

open Idealize.ShloMosaic Idealize.ShloMosaic.TcCoe Idealize.SL.Sem
open Cert.Kernel2Ideal Cert.Kernel2Ideal.Gen Cert.Layer

/-- The normalized rows of the first group. -/
theorem pay21_at (x : Vec Ideal S256x1024 .f32) (g : Vec Ideal S1x1024 .f32) (r : Fin 256) (l : Fin 1024) :
    k0_pay21 (F := Ideal) x g (ix2 r l) = rms len1024 (fun k => x (ix2 r k)) (fun k => g (ix2 0 k)) l := by
  pointwise [k0_pay21, rms]

/-- The normalized rows of the second group. -/
theorem pay28_at (x : Vec Ideal S256x1024 .f32) (g : Vec Ideal S1x1024 .f32) (r : Fin 256) (l : Fin 1024) :
    k0_pay28 (F := Ideal) x g (ix2 r l) = rms len1024 (fun k => x (ix2 r k)) (fun k => g (ix2 0 k)) l := by
  pointwise [k0_pay28, rms]

section Columns

variable (h : FVec Ideal S256x1024 .bf16) (w : Vec Ideal S1024x512 .bf16) (r : Fin 256) (l : Fin 512)

theorem pay23_at : k0_pay23 (F := Ideal) h w (ix2 r l) = ∑ i : Fin 1024, h (ix2 r i) * (show EReal from w (ix2 i l)) := by
  pointwise [k0_pay23]

theorem pay24_at : k0_pay24 (F := Ideal) h w (ix2 r l) = ∑ i : Fin 1024, h (ix2 r i) * (show EReal from w (ix2 i l)) := by
  pointwise [k0_pay24]

theorem pay26_at : k0_pay26 (F := Ideal) h w (ix2 r l) = ∑ i : Fin 1024, h (ix2 r i) * (show EReal from w (ix2 i l)) := by
  pointwise [k0_pay26]

theorem pay27_at : k0_pay27 (F := Ideal) h w (ix2 r l) = ∑ i : Fin 1024, h (ix2 r i) * (show EReal from w (ix2 i l)) := by
  pointwise [k0_pay27]

theorem pay30_at : k0_pay30 (F := Ideal) h w (ix2 r l) = ∑ i : Fin 1024, h (ix2 r i) * (show EReal from w (ix2 i l)) := by
  pointwise [k0_pay30]

theorem pay31_at : k0_pay31 (F := Ideal) h w (ix2 r l) = ∑ i : Fin 1024, h (ix2 r i) * (show EReal from w (ix2 i l)) := by
  pointwise [k0_pay31]

theorem pay33_at : k0_pay33 (F := Ideal) h w (ix2 r l) = ∑ i : Fin 1024, h (ix2 r i) * (show EReal from w (ix2 i l)) := by
  pointwise [k0_pay33]

theorem pay34_at : k0_pay34 (F := Ideal) h w (ix2 r l) = ∑ i : Fin 1024, h (ix2 r i) * (show EReal from w (ix2 i l)) := by
  pointwise [k0_pay34]

end Columns

section Keys

variable (v : FVec Ideal S256x512 .f32) (co lo hi : Vec Ideal S256x128 .f32) (r : Fin 256) (l : Fin 512)

/-- What both groups' rotations are, entry by entry. -/
def mixedKeys (v : FVec Ideal S256x512 .f32) (co lo hi : Vec Ideal S256x128 .f32) (r : Fin 256) (l : Fin 512) : EReal :=
  v (ix2 r l) * (show EReal from co (ix2 r ⟨l.val % 128, by omega⟩))
    + v (ix2 r ⟨128 * (l.val / 128) + (l.val % 128 + 32) % 128, by omega⟩) * (show EReal from lo (ix2 r ⟨l.val % 128, by omega⟩))
    + v (ix2 r ⟨128 * (l.val / 128) + (l.val % 128 + 96) % 128, by omega⟩) * (show EReal from hi (ix2 r ⟨l.val % 128, by omega⟩))

/-- The rotation with tables that hold a row's cosines and sines is `Layer.turn`. -/
theorem mixedKeys_eq (a b : Fin 32 → EReal) (hco : ∀ d, (show EReal from co (ix2 r d)) = lanes a d)
    (hlo : ∀ d, (show EReal from lo (ix2 r d)) = lower b d) (hhi : ∀ d, (show EReal from hi (ix2 r d)) = upper b d) :
    mixedKeys v co lo hi r l = turn (fun k => v (ix2 r k)) a b l := by
  unfold mixedKeys
  rw [hco, hlo, hhi]
  exact turn_eq (fun k => v (ix2 r k)) a b l

theorem cast_id (x : Vec Ideal S256x128 .f32) : shapeCast S256x128 x shapeCasts_S256x128_S256x128 = x := by
  funext y; idx_vars y; pointwise

/-- The first group's keys. -/
theorem keys0_at : k0_pay43 (F := Ideal) v (k0_pay36 co) (k0_pay37 lo) (k0_pay38 hi)
      (k0_pay40 v (k0_pay36 co) (k0_pay37 lo) hi) (k0_pay41 v) (k0_pay42 v (k0_pay36 co)) (ix2 r l)
    = mixedKeys v co lo hi r l := by
  have h1 : k0_pay36 (F := Ideal) co = co := cast_id co
  have h2 : k0_pay37 (F := Ideal) lo = lo := cast_id lo
  have h3 : k0_pay38 (F := Ideal) hi = hi := cast_id hi
  unfold k0_pay40
  rw [h1, h2, h3]
  exact tiles_at (R := 256) v co lo hi rotates_S256x128_d1 slices_S256x512_o0_0_S256x128 slices_S256x512_o0_128_S256x128
    slices_S256x512_o0_256_S256x128 slices_S256x512_o0_384_S256x128
    concatenates_S256x128_S256x128_S256x128_S256x128_S256x512_d1 r l

/-- The second group's keys. -/
theorem keys1_at : k0_pay75 (F := Ideal) v (k0_pay63 co) (k0_pay64 lo) (k0_pay65 hi)
      (k0_pay70 v (k0_pay63 co) (k0_pay64 lo) (k0_pay65 hi)) (k0_pay71 v (k0_pay63 co) (k0_pay64 lo) (k0_pay65 hi))
      (k0_pay73 v (k0_pay63 co) (k0_pay64 lo)) (k0_pay74 v) (ix2 r l)
    = mixedKeys v co lo hi r l := by
  have h1 : k0_pay63 (F := Ideal) co = co := cast_id co
  have h2 : k0_pay64 (F := Ideal) lo = lo := cast_id lo
  have h3 : k0_pay65 (F := Ideal) hi = hi := cast_id hi
  rw [h1, h2, h3]
  exact tiles_at (R := 256) v co lo hi rotates_S256x128_d1 slices_S256x512_o0_0_S256x128 slices_S256x512_o0_128_S256x128
    slices_S256x512_o0_256_S256x128 slices_S256x512_o0_384_S256x128
    concatenates_S256x128_S256x128_S256x128_S256x128_S256x512_d1 r l

end Keys

section Stored

variable (v : FVec Ideal S256x512 .f32) (l : Fin 512) (r : Fin 256)

theorem pay58_at : k0_pay58 (F := Ideal) v (ix3 0 l r) = v (ix2 r l) := by pointwise [k0_pay58]

theorem pay59_at : k0_pay59 (F := Ideal) v (ix3 0 l r) = v (ix2 r l) := by pointwise [k0_pay59]

theorem pay91_at : k0_pay91 (F := Ideal) v (ix3 0 l r) = v (ix2 r l) := by pointwise [k0_pay91]

theorem pay92_at : k0_pay92 (F := Ideal) v (ix3 0 l r) = v (ix2 r l) := by pointwise [k0_pay92]

/-- The gated rows. -/
theorem pay76_at (a b : FVec Ideal S256x512 .f32) : k0_pay76 (F := Ideal) a b (ix2 r l) = a (ix2 r l) * b (ix2 r l) := by
  pointwise [k0_pay76]

/-- The last two rows of the second group. -/
theorem pay2_at (s : Fin 2) : k0_pay2 (F := Ideal) v (ix3 0 s l) = v (ix2 ⟨254 + s.val, by omega⟩ l) := by
  pointwise [k0_pay2]

end Stored

end Cert.Kernel2Ideal.PromptProj

end
-- ==== Proof.PromptBlock.lean ====
/- What the projection call leaves at a grid point: the transposed keys, the transposed values and the last gated rows, read
   at an entry, are `Layer.turn` and `Layer.proj` of a row of the staged blocks. -/
module

public import proofs.«01_k».proof.Proof.PromptFrame
public import proofs.«01_k».proof.Proof.PromptPay
public import Idealize.ShloMosaic.Lib.Pipeline.ValueKit
public import Idealize.ShloMosaic.Lib.WholeRead

@[expose] public section

set_option maxRecDepth 16384

noncomputable section

namespace Cert.Kernel2Ideal.PromptProj

open Idealize.ShloMosaic Idealize.ShloMosaic.TcCoe Idealize.SL.Sem
open Cert.Kernel2Ideal Cert.Kernel2Ideal.Gen Cert.Layer

/-- A load of a rectangle out of a two-dimensional buffer that holds `X`. -/
theorem load_at {a b a' b' : Nat} {e : EltTy} {M : Memref sig .tc .vmem (⟨2, ![a, b]⟩ : Shape) e} (h : M.IsWhole)
    (X : Vec Ideal (⟨2, ![a, b]⟩ : Shape) e) (off : Fin 2 → Nat)
    (hin : ∀ i, off i + (![a', b'] : Fin 2 → Nat) i ≤ (⟨2, ![a, b]⟩ : Shape).size i) (r : Fin a') (l : Fin b') (r' : Fin a)
    (l' : Fin b) (hr : off 0 + r.val = r'.val) (hl : off 1 + l.val = l'.val) :
    View.readAt (Elt Ideal) M.view (Rect.unit (s := (⟨2, ![a, b]⟩ : Shape)) off (![a', b'] : Fin 2 → Nat) hin).toLoadRect
      (h.unread X) (ix2 r l) = X (ix2 r' l') := by
  refine (h.readAt_unread X _ _).trans (congrArg X (funext fun i => ?_))
  fin_cases i
  · apply Fin.ext
    refine Eq.trans ?_ hr
    show off 0 + 1 * r.val = off 0 + r.val
    omega
  · apply Fin.ext
    refine Eq.trans ?_ hl
    show off 1 + 1 * l.val = off 1 + l.val
    omega

section Loads

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1024x3072 .bf16) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S2048x128 .f32) (harg6 : arg6.IsWhole)
  (x0 : Vec Ideal S512x1024 .f32) (x1 : Vec Ideal S1x1024 .f32) (x2 : Vec Ideal S1024x3072 .bf16)
  (x3 x4 x5 : Vec Ideal S2048x128 .f32)

/-- Column `j` of staged row `s`'s projection. -/
def staged (s : Fin 512) (j : Fin 3072) : EReal :=
  proj (fun k => x0 (ix2 s k)) (fun k => x1 (ix2 0 k)) (fun k j => x2 (ix2 k j)) j

theorem rows0 (r : Fin 256) (l : Fin 1024) : run.sl.r_9 (F := Ideal) c arg1 harg1 arg2 harg2 x0 x1 (ix2 r l)
    = rms len1024 (fun k => x0 (ix2 ⟨r.val, by omega⟩ k)) (fun k => x1 (ix2 0 k)) l := by
  unfold run.sl.r_9
  refine (pay21_at _ _ r l).trans ?_
  have h0 : ∀ k : Fin 1024, _ = x0 (ix2 ⟨r.val, by omega⟩ k) := fun k =>
    load_at harg1 x0 ![0, 0] inb_S512x1024_S256x1024_0_0 r k ⟨r.val, by omega⟩ k (Nat.zero_add _) (Nat.zero_add _)
  have h1 : ∀ k : Fin 1024, _ = x1 (ix2 0 k) := fun k =>
    load_at harg2 x1 ![0, 0] inb_S1x1024_S1x1024_0_0 0 k 0 k rfl (Nat.zero_add _)
  exact congrArg₂ (fun f g => rms len1024 f g l) (funext h0) (funext h1)

theorem rows1 (r : Fin 256) (l : Fin 1024) : run.sl.r_17 (F := Ideal) c arg1 harg1 arg2 harg2 x0 x1 (ix2 r l)
    = rms len1024 (fun k => x0 (ix2 ⟨256 + r.val, by omega⟩ k)) (fun k => x1 (ix2 0 k)) l := by
  unfold run.sl.r_17
  refine (pay28_at _ _ r l).trans ?_
  have h0 : ∀ k : Fin 1024, _ = x0 (ix2 ⟨256 + r.val, by omega⟩ k) := fun k =>
    load_at harg1 x0 ![256, 0] inb_S512x1024_S256x1024_256_0 r k ⟨256 + r.val, by omega⟩ k (rfl) (Nat.zero_add _)
  have h1 : ∀ k : Fin 1024, _ = x1 (ix2 0 k) := fun k =>
    load_at harg2 x1 ![0, 0] inb_S1x1024_S1x1024_0_0 0 k 0 k rfl (Nat.zero_add _)
  exact congrArg₂ (fun f g => rms len1024 f g l) (funext h0) (funext h1)

/-- The first group's key columns. -/
theorem keyCols0 (r : Fin 256) (l : Fin 512) : run.sl.r_12 (F := Ideal) c arg1 harg1 arg2 harg2 arg3 harg3 x0 x1 x2 (ix2 r l)
    = staged x0 x1 x2 ⟨r.val, by omega⟩ ⟨512 + l.val, by omega⟩ := by
  unfold run.sl.r_12
  refine (pay23_at _ _ r l).trans ?_
  unfold staged proj
  refine Finset.sum_congr rfl fun k _ => ?_
  exact congrArg₂ (· * ·) (rows0 c arg1 harg1 arg2 harg2 x0 x1 r k)
    (load_at harg3 x2 ![0, 512] _ k l k ⟨512 + l.val, by omega⟩ (Nat.zero_add _) rfl)

/-- The second group's key columns. -/
theorem keyCols1 (r : Fin 256) (l : Fin 512) : run.sl.r_19 (F := Ideal) c arg1 harg1 arg2 harg2 arg3 harg3 x0 x1 x2 (ix2 r l)
    = staged x0 x1 x2 ⟨256 + r.val, by omega⟩ ⟨512 + l.val, by omega⟩ := by
  unfold run.sl.r_19
  refine (pay30_at _ _ r l).trans ?_
  unfold staged proj
  refine Finset.sum_congr rfl fun k _ => ?_
  exact congrArg₂ (· * ·) (rows1 c arg1 harg1 arg2 harg2 x0 x1 r k)
    (load_at harg3 x2 ![0, 512] _ k l k ⟨512 + l.val, by omega⟩ (Nat.zero_add _) rfl)

/-- The first group's values. -/
theorem valCols0 (r : Fin 256) (l : Fin 512) : run.sl.r_13 (F := Ideal) c arg1 harg1 arg2 harg2 arg3 harg3 x0 x1 x2 (ix2 r l)
    = staged x0 x1 x2 ⟨r.val, by omega⟩ ⟨1024 + l.val, by omega⟩ := by
  unfold run.sl.r_13
  refine (pay24_at _ _ r l).trans ?_
  unfold staged proj
  refine Finset.sum_congr rfl fun k _ => ?_
  exact congrArg₂ (· * ·) (rows0 c arg1 harg1 arg2 harg2 x0 x1 r k)
    (load_at harg3 x2 ![0, 1024] _ k l k ⟨1024 + l.val, by omega⟩ (Nat.zero_add _) rfl)

/-- The second group's values. -/
theorem valCols1 (r : Fin 256) (l : Fin 512) : run.sl.r_20 (F := Ideal) c arg1 harg1 arg2 harg2 arg3 harg3 x0 x1 x2 (ix2 r l)
    = staged x0 x1 x2 ⟨256 + r.val, by omega⟩ ⟨1024 + l.val, by omega⟩ := by
  unfold run.sl.r_20
  refine (pay31_at _ _ r l).trans ?_
  unfold staged proj
  refine Finset.sum_congr rfl fun k _ => ?_
  exact congrArg₂ (· * ·) (rows1 c arg1 harg1 arg2 harg2 x0 x1 r k)
    (load_at harg3 x2 ![0, 1024] _ k l k ⟨1024 + l.val, by omega⟩ (Nat.zero_add _) rfl)

/-- The second group's gate. -/
theorem gateCols1 (r : Fin 256) (l : Fin 512) : run.sl.r_22 (F := Ideal) c arg1 harg1 arg2 harg2 arg3 harg3 x0 x1 x2 (ix2 r l)
    = staged x0 x1 x2 ⟨256 + r.val, by omega⟩ ⟨2048 + l.val, by omega⟩ := by
  unfold run.sl.r_22
  refine (pay33_at _ _ r l).trans ?_
  unfold staged proj
  refine Finset.sum_congr rfl fun k _ => ?_
  exact congrArg₂ (· * ·) (rows1 c arg1 harg1 arg2 harg2 x0 x1 r k)
    (load_at harg3 x2 ![0, 2048] _ k l k ⟨2048 + l.val, by omega⟩ (Nat.zero_add _) rfl)

/-- The second group's gated columns. -/
theorem inCols1 (r : Fin 256) (l : Fin 512) : run.sl.r_23 (F := Ideal) c arg1 harg1 arg2 harg2 arg3 harg3 x0 x1 x2 (ix2 r l)
    = staged x0 x1 x2 ⟨256 + r.val, by omega⟩ ⟨2560 + l.val, by omega⟩ := by
  unfold run.sl.r_23
  refine (pay34_at _ _ r l).trans ?_
  unfold staged proj
  refine Finset.sum_congr rfl fun k _ => ?_
  exact congrArg₂ (· * ·) (rows1 c arg1 harg1 arg2 harg2 x0 x1 r k)
    (load_at harg3 x2 ![0, 2560] _ k l k ⟨2560 + l.val, by omega⟩ (Nat.zero_add _) rfl)

set_option maxHeartbeats 1000000 in
/-- The first group's keys, rotated by the angles of the block's first rows. -/
theorem turned0 (r : Fin 256) (l : Fin 512) (p : Fin 2048) (hp : k0_off1 i 0#32 = ![p.val - r.val, 0]) (hpr : r.val ≤ p.val)
    (a b : Fin 32 → EReal) (hco : ∀ d, (show EReal from x3 (ix2 p d)) = lanes a d)
    (hlo : ∀ d, (show EReal from x4 (ix2 p d)) = lower b d) (hhi : ∀ d, (show EReal from x5 (ix2 p d)) = upper b d) :
    run.sl.r_31 (F := Ideal) c i arg1 harg1 arg2 harg2 arg3 harg3 arg4 harg4 arg5 harg5 arg6 harg6 x0 x1 x2 x3 x4 x5 (ix2 r l)
      = turn (fun k => staged x0 x1 x2 ⟨r.val, by omega⟩ ⟨512 + k.val, by omega⟩) a b l := by
  have h0 : k0_off1 i 0#32 0 + r.val = p.val := by rw [hp]; show p.val - r.val + r.val = _; omega
  have h1 : k0_off1 i 0#32 1 = 0 := by rw [hp]; rfl
  refine (keys0_at (run.sl.r_12 (F := Ideal) c arg1 harg1 arg2 harg2 arg3 harg3 x0 x1 x2)
    (View.readAt (Elt Ideal) arg4.view (Rect.unit (s := S2048x128) (k0_off1 i 0#32) S256x128.size _).toLoadRect (harg4.unread x3))
    (View.readAt (Elt Ideal) arg5.view (Rect.unit (s := S2048x128) (k0_off1 i 0#32) S256x128.size _).toLoadRect (harg5.unread x4))
    (View.readAt (Elt Ideal) arg6.view (Rect.unit (s := S2048x128) (k0_off1 i 0#32) S256x128.size _).toLoadRect (harg6.unread x5)) r l).trans ?_
  refine (mixedKeys_eq _ _ _ _ r l a b ?_ ?_ ?_).trans ?_
  · exact fun d => (load_at harg4 x3 _ _ r d p d h0 (by rw [h1]; exact Nat.zero_add _)).trans (hco d)
  · exact fun d => (load_at harg5 x4 _ _ r d p d h0 (by rw [h1]; exact Nat.zero_add _)).trans (hlo d)
  · exact fun d => (load_at harg6 x5 _ _ r d p d h0 (by rw [h1]; exact Nat.zero_add _)).trans (hhi d)
  · exact congrArg (fun f => turn f a b l) (funext fun k => keyCols0 c arg1 harg1 arg2 harg2 arg3 harg3 x0 x1 x2 r k)

set_option maxHeartbeats 1000000 in
/-- The second group's keys. -/
theorem turned1 (r : Fin 256) (l : Fin 512) (p : Fin 2048) (hp : k0_off1 i 256#32 = ![p.val - r.val, 0]) (hpr : r.val ≤ p.val)
    (a b : Fin 32 → EReal) (hco : ∀ d, (show EReal from x3 (ix2 p d)) = lanes a d)
    (hlo : ∀ d, (show EReal from x4 (ix2 p d)) = lower b d) (hhi : ∀ d, (show EReal from x5 (ix2 p d)) = upper b d) :
    run.sl.r_46 (F := Ideal) c i arg1 harg1 arg2 harg2 arg3 harg3 arg4 harg4 arg5 harg5 arg6 harg6 x0 x1 x2 x3 x4 x5 (ix2 r l)
      = turn (fun k => staged x0 x1 x2 ⟨256 + r.val, by omega⟩ ⟨512 + k.val, by omega⟩) a b l := by
  have h0 : k0_off1 i 256#32 0 + r.val = p.val := by rw [hp]; show p.val - r.val + r.val = _; omega
  have h1 : k0_off1 i 256#32 1 = 0 := by rw [hp]; rfl
  refine (keys1_at (run.sl.r_19 (F := Ideal) c arg1 harg1 arg2 harg2 arg3 harg3 x0 x1 x2)
    (View.readAt (Elt Ideal) arg4.view (Rect.unit (s := S2048x128) (k0_off1 i 256#32) S256x128.size _).toLoadRect (harg4.unread x3))
    (View.readAt (Elt Ideal) arg5.view (Rect.unit (s := S2048x128) (k0_off1 i 256#32) S256x128.size _).toLoadRect (harg5.unread x4))
    (View.readAt (Elt Ideal) arg6.view (Rect.unit (s := S2048x128) (k0_off1 i 256#32) S256x128.size _).toLoadRect (harg6.unread x5)) r l).trans ?_
  refine (mixedKeys_eq _ _ _ _ r l a b ?_ ?_ ?_).trans ?_
  · exact fun d => (load_at harg4 x3 _ _ r d p d h0 (by rw [h1]; exact Nat.zero_add _)).trans (hco d)
  · exact fun d => (load_at harg5 x4 _ _ r d p d h0 (by rw [h1]; exact Nat.zero_add _)).trans (hlo d)
  · exact fun d => (load_at harg6 x5 _ _ r d p d h0 (by rw [h1]; exact Nat.zero_add _)).trans (hhi d)
  · exact congrArg (fun f => turn f a b l) (funext fun k => keyCols1 c arg1 harg1 arg2 harg2 arg3 harg3 x0 x1 x2 r k)

end Loads

/-- The rows of the tables that a point's two groups load. -/
theorem off_at : ∀ t : Fin cfg0.N, k0_off1 (grid0.coords t) 0#32 = ![t.val % 4 * 512, 0]
    ∧ k0_off1 (grid0.coords t) 256#32 = ![t.val % 4 * 512 + 256, 0] :=
  (by decide +kernel : ∀ t : Fin grid0.N, _)

variable (m : (ℓ : Loc nD τ sig) → Buf (Elt Ideal) ℓ) (c : Dev nD) (t : Fin cfg0.N)

/-- The transposed keys at a point. -/
theorem left15_at (l s : Fin 512) (a b : Fin 32 → EReal)
    (hco : ∀ d, (iblk m c 3 t : FVec Ideal S2048x128 .f32) (ix2 ⟨t.val % 4 * 512 + s.val, by omega⟩ d) = lanes a d)
    (hlo : ∀ d, (iblk m c 4 t : FVec Ideal S2048x128 .f32) (ix2 ⟨t.val % 4 * 512 + s.val, by omega⟩ d) = lower b d)
    (hhi : ∀ d, (iblk m c 5 t : FVec Ideal S2048x128 .f32) (ix2 ⟨t.val % 4 * 512 + s.val, by omega⟩ d) = upper b d) :
    left15 m c t (ix3 0 l s)
      = turn (fun k => staged (iblk m c 0 t) (iblk m c 1 t) (iblk m c 2 t) s ⟨512 + k.val, by omega⟩) a b l := by
  refine (congrFun (View.read_writes_junk_eq_canon ref15 (runAt m c t).1) _).trans ?_
  generalize hy : (ix3 0 l s : S1x512x512.Idx) = y
  unfold runAt run
  dsimp only
  canon_tiles x h
  case piece0 =>
    idx_vars x
    subst hy
    obtain rfl : x0 = 0 := Subsingleton.elim _ _
    obtain rfl : x1 = l := Fin.ext h1.symm
    obtain ⟨s, hsl⟩ := s
    obtain rfl : s = 256 + x2.val := h2
    refine (pay91_at _ x1 x2).trans ?_
    exact turned1 c (grid0.coords t) (buf0 t) (hstage0_0 ((cfg0.slots t 0).cast nbuf0_0)) (buf1 t) (hstage0_1 ((cfg0.slots t 1).cast nbuf0_1)) (buf2 t)
      (hstage0_2 ((cfg0.slots t 2).cast nbuf0_2)) (buf3 t) (hstage0_3 ((cfg0.slots t 3).cast nbuf0_3)) (buf4 t)
      (hstage0_4 ((cfg0.slots t 4).cast nbuf0_4)) (buf5 t) (hstage0_5 ((cfg0.slots t 5).cast nbuf0_5)) (iblk m c 0 t) (iblk m c 1 t) (iblk m c 2 t)
      (iblk m c 3 t) (iblk m c 4 t) (iblk m c 5 t) x2 x1
      ⟨t.val % 4 * 512 + (256 + x2.val), by omega⟩
      ((off_at t).2.trans (congrArg (fun n => ![n, 0]) (by show _ = t.val % 4 * 512 + (256 + x2.val) - x2.val; omega)))
      (by show x2.val ≤ t.val % 4 * 512 + (256 + x2.val); omega) a b hco hlo hhi
  case piece1 =>
    idx_vars x
    subst hy
    obtain rfl : x0 = 0 := Subsingleton.elim _ _
    obtain rfl : x1 = l := Fin.ext h1.symm
    obtain ⟨s, hsl⟩ := s
    obtain rfl : s = x2.val := h2
    refine (pay58_at _ x1 x2).trans ?_
    exact turned0 c (grid0.coords t) (buf0 t) (hstage0_0 ((cfg0.slots t 0).cast nbuf0_0)) (buf1 t) (hstage0_1 ((cfg0.slots t 1).cast nbuf0_1)) (buf2 t)
      (hstage0_2 ((cfg0.slots t 2).cast nbuf0_2)) (buf3 t) (hstage0_3 ((cfg0.slots t 3).cast nbuf0_3)) (buf4 t)
      (hstage0_4 ((cfg0.slots t 4).cast nbuf0_4)) (buf5 t) (hstage0_5 ((cfg0.slots t 5).cast nbuf0_5)) (iblk m c 0 t) (iblk m c 1 t) (iblk m c 2 t)
      (iblk m c 3 t) (iblk m c 4 t) (iblk m c 5 t) x2 x1
      ⟨t.val % 4 * 512 + x2.val, by omega⟩
      ((off_at t).1.trans (congrArg (fun n => ![n, 0]) (by show _ = t.val % 4 * 512 + x2.val - x2.val; omega)))
      (by show x2.val ≤ t.val % 4 * 512 + x2.val; omega) a b hco hlo hhi

/-- The transposed values at a point. -/
theorem left16_at (l s : Fin 512) : left16 m c t (ix3 0 l s)
    = staged (iblk m c 0 t) (iblk m c 1 t) (iblk m c 2 t) s ⟨1024 + l.val, by omega⟩ := by
  refine (congrFun (View.read_writes_junk_eq_canon ref16 (runAt m c t).2.1) _).trans ?_
  generalize hy : (ix3 0 l s : S1x512x512.Idx) = y
  unfold runAt run
  dsimp only
  canon_tiles x h
  case piece0 =>
    idx_vars x
    subst hy
    obtain rfl : x0 = 0 := Subsingleton.elim _ _
    obtain rfl : x1 = l := Fin.ext h1.symm
    obtain ⟨s, hsl⟩ := s
    obtain rfl : s = 256 + x2.val := h2
    refine (pay92_at _ x1 x2).trans ?_
    exact valCols1 c (buf0 t) (hstage0_0 ((cfg0.slots t 0).cast nbuf0_0)) (buf1 t) (hstage0_1 ((cfg0.slots t 1).cast nbuf0_1)) (buf2 t)
      (hstage0_2 ((cfg0.slots t 2).cast nbuf0_2)) (iblk m c 0 t) (iblk m c 1 t) (iblk m c 2 t) x2 x1
  case piece1 =>
    idx_vars x
    subst hy
    obtain rfl : x0 = 0 := Subsingleton.elim _ _
    obtain rfl : x1 = l := Fin.ext h1.symm
    obtain ⟨s, hsl⟩ := s
    obtain rfl : s = x2.val := h2
    refine (pay59_at _ x1 x2).trans ?_
    exact valCols0 c (buf0 t) (hstage0_0 ((cfg0.slots t 0).cast nbuf0_0)) (buf1 t) (hstage0_1 ((cfg0.slots t 1).cast nbuf0_1)) (buf2 t)
      (hstage0_2 ((cfg0.slots t 2).cast nbuf0_2)) (iblk m c 0 t) (iblk m c 1 t) (iblk m c 2 t) x2 x1

/-- The last gated rows at a point. -/
theorem left18_at (s : Fin 2) (l : Fin 512) : left18 m c t (ix3 0 s l)
    = staged (iblk m c 0 t) (iblk m c 1 t) (iblk m c 2 t) ⟨510 + s.val, by omega⟩ ⟨2048 + l.val, by omega⟩
      * staged (iblk m c 0 t) (iblk m c 1 t) (iblk m c 2 t) ⟨510 + s.val, by omega⟩ ⟨2560 + l.val, by omega⟩ := by
  refine (congrFun (View.read_writes_junk_eq_canon ref18 (runAt m c t).2.2.val) _).trans ?_
  generalize hy : (ix3 0 s l : S1x2x512.Idx) = y
  unfold runAt run
  dsimp only
  canon_tiles x h
  idx_vars x
  subst hy
  obtain rfl : x0 = 0 := Subsingleton.elim _ _
  obtain rfl : x1 = s := Fin.ext h1.symm
  obtain rfl : x2 = l := Fin.ext h2.symm
  refine (pay2_at _ x2 x1).trans ?_
  refine (pay76_at x2 ⟨254 + x1.val, by omega⟩ _ _).trans ?_
  have e : (⟨256 + (254 + x1.val), by omega⟩ : Fin 512) = ⟨510 + x1.val, by omega⟩ :=
    Fin.ext (by show 256 + (254 + x1.val) = 510 + x1.val; omega)
  exact (congrArg₂ (· * ·) (gateCols1 c (buf0 t) (hstage0_0 ((cfg0.slots t 0).cast nbuf0_0)) (buf1 t) (hstage0_1 ((cfg0.slots t 1).cast nbuf0_1)) (buf2 t)
      (hstage0_2 ((cfg0.slots t 2).cast nbuf0_2)) (iblk m c 0 t) (iblk m c 1 t) (iblk m c 2 t)
      ⟨254 + x1.val, by omega⟩ x2) (inCols1 c (buf0 t) (hstage0_0 ((cfg0.slots t 0).cast nbuf0_0)) (buf1 t) (hstage0_1 ((cfg0.slots t 1).cast nbuf0_1)) (buf2 t)
      (hstage0_2 ((cfg0.slots t 2).cast nbuf0_2)) (iblk m c 0 t) (iblk m c 1 t) (iblk m c 2 t)
      ⟨254 + x1.val, by omega⟩ x2)).trans (congrArg (fun r => staged (iblk m c 0 t) (iblk m c 1 t) (iblk m c 2 t) r ⟨2048 + x2.val, by omega⟩
        * staged (iblk m c 0 t) (iblk m c 1 t) (iblk m c 2 t) r ⟨2560 + x2.val, by omega⟩) e)

end Cert.Kernel2Ideal.PromptProj

end
-- ==== Proof.PromptTables.lean ====
/- The projection call's tables: at position `p`, the cosines, the negated sines of the lower halves and the sines of the
   upper halves, of the 32 angles of that position. -/
module

public import proofs.«01_k».proof.Proof.PromptFrame
public import proofs.«01_k».proof.Proof.ProjSpec
public import Idealize.ShloMosaic.Lib.Claim

@[expose] public section

set_option maxRecDepth 16384

noncomputable section

namespace Cert.Kernel2Ideal.PromptProj

open Idealize.ShloMosaic Idealize.ShloMosaic.TcCoe Idealize.SL.Sem
open Cert.Kernel2Ideal Cert.Kernel2Ideal.Gen Cert.Layer

variable (m : (ℓ : Loc nD τ sig) → Buf (Elt Ideal) ℓ) (c : Dev nD)

/-- The angles: position times frequency. -/
def angles : FVec Ideal S2048x32 .f32 :=
  mulf (broadcastInDim S2048x32 ![0, 1] bcast_S2048x1_S2048x32_0_1
      (broadcastInDim S2048x1 ![0] bcast_S2048_S2048x1_0 (sitofp .f32 (iotaInDim S2048 32 0) : FVec Ideal S2048 .f32)))
    (broadcastInDim S2048x32 ![0, 1] bcast_S1x32_S2048x32_0_1
      (broadcastInDim S1x32 ![1] bcast_S32_S1x32_1
        (Host.powf (broadcastInDim S32 ![] bcast_S_S32 (constant S_ .f32 0x461C4000#32) : FVec Ideal S32 .f32)
          (Host.divf (mulf (Host.negf (sitofp .f32 (iotaInDim S32 32 0) : FVec Ideal S32 .f32))
              (broadcastInDim S32 ![] bcast_S_S32 (constant S_ .f32 0x40000000#32)))
            (broadcastInDim S32 ![] bcast_S_S32 (constant S_ .f32 0x42800000#32))))))

/-- Two tables side by side, twice over. -/
def twice (a b : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x2x64_S2048x128

theorem twice_at (a b : FVec Ideal S2048x32 .f32) (p : Fin 2048) (d : Fin 128) :
    twice a b (ix2 p d) = if d.val % 64 < 32 then a (ix2 p ⟨d.val % 32, by omega⟩) else b (ix2 p ⟨d.val % 32, by omega⟩) := by
  pointwise [twice]
  by_cases h : d.val % 64 < 32
  · rw [dif_pos h, if_pos h]
    exact congrArg a (congrArg (ix2 p) (Fin.ext (by show d.val % 64 = d.val % 32; omega)))
  · rw [dif_neg h, if_neg h]
    exact congrArg b (congrArg (ix2 p) (Fin.ext (by show d.val % 64 - 32 = d.val % 32; omega)))

theorem V_tables : (V m c main_v36 : FVec Ideal S2048x128 .f32) = twice (Host.cos angles) (Host.cos angles)
    ∧ (V m c main_v41 : FVec Ideal S2048x128 .f32) = twice (Host.negf (Host.sin angles))
        (broadcastInDim S2048x32 ![] bcast_S_S2048x32 (constant S_ .f32 0x00000000#32))
    ∧ (V m c main_v45 : FVec Ideal S2048x128 .f32) = twice
        (broadcastInDim S2048x32 ![] bcast_S_S2048x32 (constant S_ .f32 0x00000000#32)) (Host.sin angles) := by
  refine ⟨?_, ?_, ?_⟩
  all_goals
    show StableHlo.after _ _ _ = _
    unfold hostOps0
    after_results
    rfl

/-- The cosine and the sine of angle `d` of position `p`. -/
def cosAt (p : Fin 2048) (d : Fin 32) : EReal := (Host.cos angles : FVec Ideal S2048x32 .f32) (ix2 p d)
def sinAt (p : Fin 2048) (d : Fin 32) : EReal := (Host.sin angles : FVec Ideal S2048x32 .f32) (ix2 p d)

theorem co_at (p : Fin 2048) (d : Fin 128) : (V m c main_v36 : FVec Ideal S2048x128 .f32) (ix2 p d) = lanes (cosAt p) d := by
  rw [(V_tables m c).1, twice_at]
  exact ite_self _

theorem lo_at (p : Fin 2048) (d : Fin 128) : (V m c main_v41 : FVec Ideal S2048x128 .f32) (ix2 p d) = lower (sinAt p) d := by
  rw [(V_tables m c).2.1, twice_at]
  unfold lower
  congr 1
  pointwise

theorem hi_at (p : Fin 2048) (d : Fin 128) : (V m c main_v45 : FVec Ideal S2048x128 .f32) (ix2 p d) = upper (sinAt p) d := by
  rw [(V_tables m c).2.2, twice_at]
  unfold upper
  congr 1
  pointwise

theorem V_rest : (V m c main_v0 : FVec Ideal S32768x1024 .f32)
      = shapeCast S32768x1024 (m ((c : Thread nD τ).loc main_arg0) : FVec Ideal S16x2048x1024 .f32) shapeCasts_S16x2048x1024_S32768x1024
    ∧ (V m c main_v2 : FVec Ideal S1x1024 .f32) = broadcastInDim S1x1024 ![1] bcast_S1024_S1x1024_1
      (shapeCast S1024 (m ((c : Thread nD τ).loc main_arg1) : FVec Ideal S1x1024 .f32) shapeCasts_S1x1024_S1024)
    ∧ (V m c main_v4 : FVec Ideal S1024x3072 .bf16) = truncf .bf16 (show FVec Ideal S1024x3072 .f32 from
      shapeCast S1024x3072 (m ((c : Thread nD τ).loc main_arg2) : FVec Ideal S1x1024x3072 .f32) shapeCasts_S1x1024x3072_S1024x3072)
        bitsLt_bf16_f32 := by
  refine ⟨?_, ?_, ?_⟩
  all_goals
    show StableHlo.after _ _ _ = _
    unfold hostOps0
    after_results
    rfl

end Cert.Kernel2Ideal.PromptProj

end
-- ==== Proof.PromptArray.lean ====
/- The prompt's keys, values and last gated rows after the projection call, as arrays: `Layer.turn` and `Layer.proj` of the
   rows of the arguments. -/
module

public import proofs.«01_k».proof.Proof.PromptBlock
public import proofs.«01_k».proof.Proof.PromptTables
public import Idealize.ShloMosaic.Lib.Claim

@[expose] public section

set_option maxRecDepth 16384

noncomputable section

namespace Cert.Kernel2Ideal.PromptProj

open Idealize.ShloMosaic Idealize.ShloMosaic.TcCoe Idealize.SL.Sem
open Idealize.ShloMosaic.Pipeline (Dat)
open Cert.Kernel2Ideal Cert.Kernel2Ideal.Gen Cert.Layer

variable (m : (ℓ : Loc nD τ sig) → Buf (Elt Ideal) ℓ) (c : Dev nD)

abbrev a0 : FVec Ideal S16x2048x1024 .f32 := m ((c : Thread nD τ).loc main_arg0)
abbrev a1 : FVec Ideal S1x1024 .f32 := m ((c : Thread nD τ).loc main_arg1)
abbrev a2 : FVec Ideal S1x1024x3072 .f32 := m ((c : Thread nD τ).loc main_arg2)

/-- Column `j` of row `p` of sequence `i`. -/
def entry (i : Fin 16) (p : Fin 2048) (j : Fin 3072) : EReal :=
  proj (fun k => a0 m c (ix3 i p k)) (fun k => a1 m c (ix2 0 k)) (fun k j => a2 m c (ix3 0 k j)) j

/-- Where the windows stand at each point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_15.index t = ![t.val / 4, 0, t.val % 4] ∧ win0_16.index t = ![t.val / 4, 0, t.val % 4]
    ∧ win0_18.index t = ![t.val / 4, 0, 0] :=
  (by decide +kernel : ∀ t : Fin grid0.N, _)

theorem point_lt (t : Fin cfg0.N) : t.val < 64 := t.isLt

theorem rows_at (x : FVec Ideal S16x2048x1024 .f32) (q : Fin 32768) (l : Fin 1024) :
    shapeCast S32768x1024 x shapeCasts_S16x2048x1024_S32768x1024 (ix2 q l)
      = x (ix3 ⟨q.val / 2048, by omega⟩ ⟨q.val % 2048, by omega⟩ l) := by
  pointwise

theorem gain_at (x : FVec Ideal S1x1024 .f32) (l : Fin 1024) :
    broadcastInDim S1x1024 ![1] bcast_S1024_S1x1024_1 (shapeCast S1024 x shapeCasts_S1x1024_S1024) (ix2 0 l) = x (ix2 0 l) := by
  pointwise

theorem matrix_at (x : FVec Ideal S1x1024x3072 .f32) (k : Fin 1024) (l : Fin 3072) :
    (truncf .bf16 (show FVec Ideal S1024x3072 .f32 from shapeCast S1024x3072 x shapeCasts_S1x1024x3072_S1024x3072)
      bitsLt_bf16_f32 : FVec Ideal S1024x3072 .bf16) (ix2 k l) = x (ix3 0 k l) := by
  pointwise

theorem blk0 (t : Fin cfg0.N) (s : Fin 512) (l : Fin 1024) : (iblk m c 0 t : FVec Ideal S512x1024 .f32) (ix2 s l)
    = a0 m c (ix3 ⟨t.val / 4, by have := point_lt t; omega⟩ ⟨t.val % 4 * 512 + s.val, by omega⟩ l) := by
  have ht := point_lt t
  refine Eq.trans (b := (V m c (Pipeline.arrRef spec0 0) : FVec Ideal S32768x1024 .f32) (ix2 ⟨t.val * 512 + s.val, by omega⟩ l)) ?_ ?_
  · unfold iblk
    generalize V m c (Pipeline.arrRef spec0 0) = W
    blk_ext [idx t]
  · refine (congrFun (V_rest m c).1 _).trans ?_
    refine (rows_at (a0 m c) _ l).trans ?_
    refine congrArg₂ (fun i p => a0 m c (ix3 i p l)) (Fin.ext ?_) (Fin.ext ?_)
    · show (t.val * 512 + s.val) / 2048 = t.val / 4; omega
    · show (t.val * 512 + s.val) % 2048 = t.val % 4 * 512 + s.val; omega

theorem blk1 (t : Fin cfg0.N) (l : Fin 1024) : (iblk m c 1 t : FVec Ideal S1x1024 .f32) (ix2 0 l) = a1 m c (ix2 0 l) := by
  refine Eq.trans (b := (V m c (Pipeline.arrRef spec0 1) : FVec Ideal S1x1024 .f32) (ix2 0 l)) ?_ ?_
  · unfold iblk
    generalize V m c (Pipeline.arrRef spec0 1) = W
    blk_ext [idx t]
  · refine (congrFun (V_rest m c).2.1 _).trans ?_; exact gain_at (a1 m c) l

theorem blk2 (t : Fin cfg0.N) (k : Fin 1024) (l : Fin 3072) :
    (iblk m c 2 t : FVec Ideal S1024x3072 .bf16) (ix2 k l) = a2 m c (ix3 0 k l) := by
  refine Eq.trans (b := (V m c (Pipeline.arrRef spec0 2) : FVec Ideal S1024x3072 .bf16) (ix2 k l)) ?_ ?_
  · unfold iblk
    generalize V m c (Pipeline.arrRef spec0 2) = W
    blk_ext [idx t]
  · refine (congrFun (V_rest m c).2.2 _).trans ?_; exact matrix_at (a2 m c) k l

theorem blk3 (t : Fin cfg0.N) (p : Fin 2048) (d : Fin 128) :
    (iblk m c 3 t : FVec Ideal S2048x128 .f32) (ix2 p d) = lanes (cosAt p) d :=
  Eq.trans (b := (V m c (Pipeline.arrRef spec0 3) : FVec Ideal S2048x128 .f32) (ix2 p d)) (by
    unfold iblk
    generalize V m c (Pipeline.arrRef spec0 3) = W
    blk_ext [idx t]) (co_at m c p d)

theorem blk4 (t : Fin cfg0.N) (p : Fin 2048) (d : Fin 128) :
    (iblk m c 4 t : FVec Ideal S2048x128 .f32) (ix2 p d) = lower (sinAt p) d :=
  Eq.trans (b := (V m c (Pipeline.arrRef spec0 4) : FVec Ideal S2048x128 .f32) (ix2 p d)) (by
    unfold iblk
    generalize V m c (Pipeline.arrRef spec0 4) = W
    blk_ext [idx t]) (lo_at m c p d)

theorem blk5 (t : Fin cfg0.N) (p : Fin 2048) (d : Fin 128) :
    (iblk m c 5 t : FVec Ideal S2048x128 .f32) (ix2 p d) = upper (sinAt p) d :=
  Eq.trans (b := (V m c (Pipeline.arrRef spec0 5) : FVec Ideal S2048x128 .f32) (ix2 p d)) (by
    unfold iblk
    generalize V m c (Pipeline.arrRef spec0 5) = W
    blk_ext [idx t]) (hi_at m c p d)

/-- A staged row's projection is the row's. -/
theorem staged_eq (t : Fin cfg0.N) (s : Fin 512) (j : Fin 3072) :
    staged (iblk m c 0 t) (iblk m c 1 t) (iblk m c 2 t) s j
      = entry m c ⟨t.val / 4, by have := point_lt t; omega⟩ ⟨t.val % 4 * 512 + s.val, by omega⟩ j := by
  unfold staged entry
  congr 1
  · exact funext fun k => blk0 m c t s k
  · exact funext fun k => blk1 m c t k
  · exact funext fun k => funext fun j => blk2 m c t k j

/-- The keys' array. -/
theorem final15 (G : FVec Ideal S16x512x2048 .f32) (hG : ∀ i l p, G (ix3 i l p)
      = turn (fun k => entry m c i p ⟨512 + k.val, by omega⟩) (cosAt p) (sinAt p) l) :
    (dats m 0 c).arrAt 15 cfg0.N = G := by
  refine (dats m 0 c).arrAt_eq_of_covers 15 _ (by decide +kernel) fun t _ y => ?_
  blk_simp
  rw [after15]
  idx_vars y
  obtain rfl : y0 = 0 := Subsingleton.elim _ _
  have ht := point_lt t
  refine (left15_at m c t y1 y2 _ _ (fun d => blk3 m c t _ d) (fun d => blk4 m c t _ d) (fun d => blk5 m c t _ d)).trans ?_
  refine Eq.trans ?_ ((hG ⟨t.val / 4, by omega⟩ y1 ⟨t.val % 4 * 512 + y2.val, by omega⟩).symm.trans ?_)
  · exact congrArg (fun f => turn f _ _ y1) (funext fun k => staged_eq m c t y2 _)
  · blk_ext [idx t]

/-- The values' array. -/
theorem final16 (G : FVec Ideal S16x512x2048 .f32) (hG : ∀ i l p, G (ix3 i l p) = entry m c i p ⟨1024 + l.val, by omega⟩) :
    (dats m 0 c).arrAt 16 cfg0.N = G := by
  refine (dats m 0 c).arrAt_eq_of_covers 16 _ (by decide +kernel) fun t _ y => ?_
  blk_simp
  rw [after16]
  idx_vars y
  obtain rfl : y0 = 0 := Subsingleton.elim _ _
  have ht := point_lt t
  refine (left16_at m c t y1 y2).trans ?_
  refine Eq.trans ?_ ((hG ⟨t.val / 4, by omega⟩ y1 ⟨t.val % 4 * 512 + y2.val, by omega⟩).symm.trans ?_)
  · exact staged_eq m c t y2 _
  · blk_ext [idx t]

/-- The last gated rows' array: a sequence's last point writes it back. -/
theorem final18 (G : FVec Ideal S16x2x512 .f32) (hG : ∀ i s l, G (ix3 i s l)
      = entry m c i ⟨2046 + s.val, by omega⟩ ⟨2048 + l.val, by omega⟩ * entry m c i ⟨2046 + s.val, by omega⟩ ⟨2560 + l.val, by omega⟩) :
    (dats m 0 c).arrAt 18 cfg0.N = G := by
  refine (dats m 0 c).arrAt_eq_of_covers 18 _ (by decide +kernel) fun t hf y => ?_
  have hlast : t.val % 4 = 3 := (flush0_18 t).1 hf
  blk_simp
  rw [after18]
  idx_vars y
  obtain rfl : y0 = 0 := Subsingleton.elim _ _
  have ht := point_lt t
  refine (left18_at m c t y1 y2).trans ?_
  refine Eq.trans ?_ ((hG ⟨t.val / 4, by omega⟩ y1 y2).symm.trans ?_)
  · rw [staged_eq, staged_eq]
    have e : (⟨t.val % 4 * 512 + (510 + y1.val), by omega⟩ : Fin 2048) = ⟨2046 + y1.val, by omega⟩ :=
      Fin.ext (by show t.val % 4 * 512 + (510 + y1.val) = 2046 + y1.val; omega)
    exact congrArg (fun p => entry m c ⟨t.val / 4, by omega⟩ p ⟨2048 + y2.val, by omega⟩
      * entry m c ⟨t.val / 4, by omega⟩ p ⟨2560 + y2.val, by omega⟩) e
  · blk_ext [idx t]

end Cert.Kernel2Ideal.PromptProj

end
-- ==== Proof.PromptRef.lean ====
/- What the reference computes of the prompt: the rotated keys and the values, positions last, and the last gated rows, from
   `Layer.proj` and `Layer.turn` of the rows of its arguments. -/
module

public import proofs.«01_k».proof.Proof.Gen.Reference2Ideal.Run
public import proofs.«01_k».proof.Proof.ProjSpec
public import Idealize.ShloMosaic.Lib.Tactic.CleanTypes

@[expose] public section

set_option maxRecDepth 16384

noncomputable section

namespace Cert.Reference2Ideal.Proj

open Idealize.ShloMosaic Idealize.ShloMosaic.TcCoe Idealize.SL.Sem
open Cert.Reference2Ideal Cert.Reference2Ideal.Gen Cert.Reference2Ideal.Value Cert.Layer

variable (m : (ℓ : Loc nD τ sig) → Buf (Elt Ideal) ℓ) (c : Dev nD)

abbrev b0 : FVec Ideal S16x2048x1024 .f32 := m ((c : Thread nD τ).loc main_arg0)
abbrev b1 : FVec Ideal S1x1024 .f32 := m ((c : Thread nD τ).loc main_arg1)
abbrev b2 : FVec Ideal S1x1024x3072 .f32 := m ((c : Thread nD τ).loc main_arg2)

/-- The angles: position times frequency. -/
def angles : FVec Ideal S2048x32 .f32 :=
  mulf (broadcastInDim S2048x32 ![0, 1] bcast_S2048x1_S2048x32_0_1
      (broadcastInDim S2048x1 ![0] bcast_S2048_S2048x1_0 (sitofp .f32 (iotaInDim S2048 32 0) : FVec Ideal S2048 .f32)))
    (broadcastInDim S2048x32 ![0, 1] bcast_S1x32_S2048x32_0_1
      (broadcastInDim S1x32 ![1] bcast_S32_S1x32_1
        (Host.powf (broadcastInDim S32 ![] bcast_S_S32 (constant S_ .f32 0x461C4000#32) : FVec Ideal S32 .f32)
          (Host.divf (mulf (Host.negf (sitofp .f32 (iotaInDim S32 32 0) : FVec Ideal S32 .f32))
              (broadcastInDim S32 ![] bcast_S_S32 (constant S_ .f32 0x40000000#32)))
            (broadcastInDim S32 ![] bcast_S_S32 (constant S_ .f32 0x42800000#32))))))

/-- The cosine and the sine of angle `d` of position `p`. -/
def cosAt (p : Fin 2048) (d : Fin 32) : EReal := (Host.cos angles : FVec Ideal S2048x32 .f32) (ix2 p d)
def sinAt (p : Fin 2048) (d : Fin 32) : EReal := (Host.sin angles : FVec Ideal S2048x32 .f32) (ix2 p d)

/-- The normalized rows. -/
def normed : FVec Ideal S16x2048x1024 .f32 :=
  mulf (mulf (b0 m c) (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf (b0 m c) (b0 m c))
      (constant S_ .f32 0x00000000#32) reducesTo_S16x2048x1024_S16x2048_d2 h_S_))
    (broadcastInDim S16x2048x1 ![] bcast_S_S16x2048x1 (constant S_ .f32 0x44800000#32)))
    (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2]
      bcast_S1024_S1x1x1024_2 (shapeCast S1024 (b1 m c) shapeCasts_S1x1024_S1024)))

theorem normed_at (i : Fin 16) (p : Fin 2048) (l : Fin 1024) :
    normed m c (ix3 i p l) = rms len1024 (fun k => b0 m c (ix3 i p k)) (fun k => b1 m c (ix2 0 k)) l := by
  pointwise [normed, rms]

/-- The projection. -/
def columns : FVec Ideal S16x2048x3072 .f32 :=
  Host.dotGeneral dot_S16x2048x1024_S1024x3072_S16x2048x3072_2_0_01_1_n_n none (normed m c)
    (shapeCast S1024x3072 (b2 m c) shapeCasts_S1x1024x3072_S1024x3072)

/-- Column `j` of row `p` of sequence `i`. -/
def entry (i : Fin 16) (p : Fin 2048) (j : Fin 3072) : EReal :=
  proj (fun k => b0 m c (ix3 i p k)) (fun k => b1 m c (ix2 0 k)) (fun k j => b2 m c (ix3 0 k j)) j

theorem columns_at (i : Fin 16) (p : Fin 2048) (j : Fin 3072) : columns m c (ix3 i p j) = entry m c i p j := by
  unfold entry proj
  rw [show rms len1024 _ _ = fun l => _ from funext fun l => (normed_at m c i p l).symm]
  pointwise [columns]

/-- The rotated rows. -/
def turned (v : FVec Ideal S16x2048x8x64 .f32) (co si : FVec Ideal S2048x32 .f32) : FVec Ideal S16x2048x512 .f32 :=
  let x := extractStridedSlice S16x2048x8x32 ![0, 0, 0, 0] v slices_S16x2048x8x64_S16x2048x8x32_0_0_0_0
  let y := extractStridedSlice S16x2048x8x32 ![0, 0, 0, 32] v slices_S16x2048x8x64_S16x2048x8x32_0_0_0_32
  let co' := broadcastInDim S16x2048x8x32 ![0, 1, 2, 3] bcast_S1x2048x1x32_S16x2048x8x32_0_1_2_3
    (broadcastInDim S1x2048x1x32 ![1, 3] bcast_S2048x32_S1x2048x1x32_1_3 co)
  let si' := broadcastInDim S16x2048x8x32 ![0, 1, 2, 3] bcast_S1x2048x1x32_S16x2048x8x32_0_1_2_3
    (broadcastInDim S1x2048x1x32 ![1, 3] bcast_S2048x32_S1x2048x1x32_1_3 si)
  shapeCast S16x2048x512 (concatenate S16x2048x8x64 3 [⟨S16x2048x8x32, subf (mulf x co') (mulf y si')⟩,
    ⟨S16x2048x8x32, addf (mulf y co') (mulf x si')⟩] concatenates_S16x2048x8x32_S16x2048x8x32_S16x2048x8x64_d3)
    shapeCasts_S16x2048x8x64_S16x2048x512

theorem turned_at (v : FVec Ideal S16x2048x512 .f32) (co si : FVec Ideal S2048x32 .f32) (i : Fin 16) (p : Fin 2048)
    (l : Fin 512) :
    turned (shapeCast S16x2048x8x64 v shapeCasts_S16x2048x512_S16x2048x8x64) co si (ix3 i p l)
      = turn (fun k => v (ix3 i p k)) (fun d => co (ix2 p d)) (fun d => si (ix2 p d)) l := by
  unfold turn
  pointwise [turned]
  by_cases h : l.val % 64 < 32
  · simp only [h, dite_true]
    congr 2
    exact congrArg (fun k => v (ix3 i p k)) (Fin.ext (by show l.val / 64 * 64 + (32 + l.val % 64) = l.val + 32; omega))
  · simp only [h, dite_false]
    congr 2
    · exact congrArg (fun k => v (ix3 i p k)) (Fin.ext (by show l.val / 64 * 64 + (32 + (l.val % 64 - 32)) = l.val; omega))
    · exact congrArg (fun k => v (ix3 i p k)) (Fin.ext (by show l.val / 64 * 64 + (l.val % 64 - 32) = l.val - 32; omega))

/-- The keys. -/
theorem keys_at (i : Fin 16) (l : Fin 512) (p : Fin 2048) :
    (res_out0 m c : FVec Ideal S16x512x2048 .f32) (ix3 i l p)
      = turn (fun k => entry m c i p ⟨512 + k.val, by omega⟩) (cosAt p) (sinAt p) l := by
  have e : (res_out0 m c : FVec Ideal S16x512x2048 .f32) = transpose S16x512x2048 [0, 2, 1]
      (turned (shapeCast S16x2048x8x64 (extractStridedSlice S16x2048x512 ![0, 0, 512] (columns m c)
        slices_S16x2048x3072_S16x2048x512_0_0_512) shapeCasts_S16x2048x512_S16x2048x8x64) (Host.cos angles) (Host.sin angles))
      transposes_S16x2048x512_S16x512x2048_0_2_1 := rfl
  rw [e]
  refine Eq.trans (b := turned (shapeCast S16x2048x8x64 (extractStridedSlice S16x2048x512 ![0, 0, 512] (columns m c)
        slices_S16x2048x3072_S16x2048x512_0_0_512) shapeCasts_S16x2048x512_S16x2048x8x64) (Host.cos angles) (Host.sin angles)
      (ix3 i p l)) ?_ ((turned_at _ _ _ i p l).trans ?_)
  · pointwise
  · refine congrArg (fun f => turn f (cosAt p) (sinAt p) l) (funext fun k => ?_)
    rw [← columns_at]
    pointwise

/-- The values, positions last. -/
def values : FVec Ideal S16x512x2048 .f32 :=
  transpose S16x512x2048 [0, 2, 1] (extractStridedSlice S16x2048x512 ![0, 0, 1024] (columns m c)
    slices_S16x2048x3072_S16x2048x512_0_0_1024) transposes_S16x2048x512_S16x512x2048_0_2_1

theorem values_at (i : Fin 16) (l : Fin 512) (p : Fin 2048) :
    values m c (ix3 i l p) = entry m c i p ⟨1024 + l.val, by omega⟩ := by
  rw [← columns_at]
  pointwise [values]

/-- The last two gated rows. -/
def lastGated : FVec Ideal S16x2x512 .f32 :=
  extractStridedSlice S16x2x512 ![0, 2048, 0] (concatenate S16x2050x512 1
    [⟨S16x2x512, broadcastInDim S16x2x512 ![] bcast_S_S16x2x512 (constant S_ .f32 0x00000000#32)⟩,
      ⟨S16x2048x512, mulf (extractStridedSlice S16x2048x512 ![0, 0, 2048] (columns m c) slices_S16x2048x3072_S16x2048x512_0_0_2048)
        (extractStridedSlice S16x2048x512 ![0, 0, 2560] (columns m c) slices_S16x2048x3072_S16x2048x512_0_0_2560)⟩]
    concatenates_S16x2x512_S16x2048x512_S16x2050x512_d1) slices_S16x2050x512_S16x2x512_0_2048_0

theorem lastGated_at (i : Fin 16) (s : Fin 2) (l : Fin 512) :
    lastGated m c (ix3 i s l) = entry m c i ⟨2046 + s.val, by omega⟩ ⟨2048 + l.val, by omega⟩
      * entry m c i ⟨2046 + s.val, by omega⟩ ⟨2560 + l.val, by omega⟩ := by
  rw [← columns_at, ← columns_at]
  pointwise [lastGated]
  rw [dif_neg (by omega)]
  exact congrArg (fun p => columns m c (ix3 i p ⟨2048 + l.val, by omega⟩) * columns m c (ix3 i p ⟨2560 + l.val, by omega⟩))
    (Fin.ext (by show 2048 + s.val - 2 = 2046 + s.val; omega))

end Cert.Reference2Ideal.Proj

end
-- ==== Proof.PromptAlgebra.lean ====
/- The prompt's keys, values and last gated rows are the reference's, and the frames of the call and of the reference. -/
module

public import proofs.«01_k».proof.Defs
public import proofs.«01_k».proof.Proof.PromptArray
public import proofs.«01_k».proof.Proof.PromptRef
public import proofs.«01_k».proof.Proof.Gen.Kernel2

@[expose] public section

set_option maxRecDepth 65536

noncomputable section

namespace Cert.PromptProj

open Idealize.ShloMosaic Idealize.ShloMosaic.TcCoe Idealize.SL.Sem
open Cert.Kernel2Ideal Cert.Kernel2Ideal.Gen

/-- The two programs' angles are the same. -/
theorem angles_eq : Cert.Reference2Ideal.Proj.angles = Cert.Kernel2Ideal.PromptProj.angles := rfl

/-- The idealized kernel's results are the reference's. -/
theorem algebraic : Cert.algebraic_Kernel2Ideal_Reference2Ideal (hKernel2Ideal := Cert.Kernel2Ideal.Gen.facts)
    (hReference2Ideal := Cert.Reference2Ideal.Gen.facts) := by
  intro m g m' g' _ agree
  have same : ∀ c : Dev nD, Cert.Reference2Ideal.Proj.entry m' c = Cert.Kernel2Ideal.PromptProj.entry m c := fun c => by
    obtain ⟨h0, h1, h2, -⟩ := agree c
    unfold Cert.Reference2Ideal.Proj.entry Cert.Kernel2Ideal.PromptProj.entry
    rw [show Cert.Reference2Ideal.Proj.b0 m' c = Cert.Kernel2Ideal.PromptProj.a0 m c from h0,
      show Cert.Reference2Ideal.Proj.b1 m' c = Cert.Kernel2Ideal.PromptProj.a1 m c from h1,
      show Cert.Reference2Ideal.Proj.b2 m' c = Cert.Kernel2Ideal.PromptProj.a2 m c from h2]
  refine ⟨fun c => (Cert.Kernel2Ideal.PromptProj.dats m 0 c).arrAt 15 cfg0.N,
    fun c => (Cert.Kernel2Ideal.PromptProj.dats m 0 c).arrAt 16 cfg0.N,
    fun c => (Cert.Kernel2Ideal.PromptProj.dats m 0 c).arrAt 18 cfg0.N, ?_, ?_⟩
  · exact (θ_run _ _ _).mono (fun r h c => ⟨((h.1 c).1).1, ((h.1 c).1).2.1, ((h.1 c).1).2.2, (h.1 c).2⟩)
      (Cert.Kernel2Ideal.PromptProj.run_main (F := Ideal) m g)
  · refine (θ_run _ _ _).mono (fun r h c => ?_) (Cert.Reference2Ideal.Value.run (F := Ideal) m' g')
    refine ⟨(h c).1.trans (Cert.Kernel2Ideal.PromptProj.final15 m c _ fun i l p => ?_).symm,
      (h c).2.1.trans (Cert.Kernel2Ideal.PromptProj.final16 m c (Cert.Reference2Ideal.Proj.values m' c) fun i l p => ?_).symm,
      (h c).2.2.1.trans (Cert.Kernel2Ideal.PromptProj.final18 m c (Cert.Reference2Ideal.Proj.lastGated m' c) fun i s l => ?_).symm, (h c).2.2.2⟩
    · refine (Cert.Reference2Ideal.Proj.keys_at m' c i l p).trans ?_
      rw [same]
      unfold Cert.Reference2Ideal.Proj.cosAt Cert.Reference2Ideal.Proj.sinAt
      rw [angles_eq]
      rfl
    · rw [Cert.Reference2Ideal.Proj.values_at, same]
    · rw [Cert.Reference2Ideal.Proj.lastGated_at, same]

/-- The idealized reference runs, and leaves its arguments. -/
theorem reference_frame : Cert.quiescent_Reference2Ideal (hReference2Ideal := Cert.Reference2Ideal.Gen.facts) :=
  fun m ρ _ => (θ_run (Cert.Reference2Ideal.defs (F := Ideal)) _ _).mono
    (fun r h => ⟨fun c => (h c).2.2.2, Idealize.ShloMosaic.sem_eq_zero_of_no_sems (by decide) r.2⟩)
    (Cert.Reference2Ideal.Value.run (F := Ideal) m ρ)

/-- The idealized call runs, and leaves its arguments. -/
theorem ideal_frame : Cert.quiescent_Kernel2Ideal (hKernel2Ideal := Cert.Kernel2Ideal.Gen.facts) :=
  fun m ρ _ => (θ_run (Cert.Kernel2Ideal.defs (F := Ideal)) _ _).mono (fun r h => ⟨fun c => (h.1 c).2, h.2⟩)
    (Cert.Kernel2Ideal.PromptProj.run_main (F := Ideal) m ρ)

set_option maxHeartbeats 40000000 in
/-- The two programs are one text: their body tables, -/
theorem table_eq : Cert.Kernel2.defs₀ (F := Bits) = Cert.Kernel2Ideal.defs₀ (F := Bits) := by
  unfold Cert.Kernel2.defs₀ Cert.Kernel2Ideal.defs₀
  refine congrArg Defs.onTc (funext fun l => funext fun p => ?_)
  obtain ⟨_ | n, h⟩ := l
  · obtain ⟨t, s⟩ := p
    rfl
  · exact absurd h (Nat.not_lt.2 (Nat.le_add_left _ _))

set_option maxHeartbeats 40000000 in
/-- their definitions, -/
theorem defs_eq : Cert.Kernel2.defs (F := Bits) = Cert.Kernel2Ideal.defs (F := Bits) :=
  congrArg (Pipeline.defs (Cert.Kernel2Ideal.pcfgs (F := Bits))) table_eq

set_option maxHeartbeats 40000000 in
/-- and their host code. -/
theorem main_eq : Cert.Kernel2.main (F := Bits) = Cert.Kernel2Ideal.main (F := Bits) := rfl

set_option maxHeartbeats 40000000 in
/-- The call as printed runs, and leaves its arguments. -/
theorem frame : Cert.quiescent_Kernel2 (hKernel2 := Cert.Kernel2.Gen.facts) := by
  intro m ρ _
  rw [defs_eq, main_eq]
  exact (θ_run (Cert.Kernel2Ideal.defs (F := Bits)) _ _).mono (fun r h => ⟨fun c => (h.1 c).2, h.2⟩)
    (Cert.Kernel2Ideal.PromptProj.run_main (F := Bits) m ρ)

end Cert.PromptProj

end
-- ==== Proof.NewPost.lean ====
/- What the call for the new tokens computes after the two mixers, at its one grid point: each of its two groups of 256
   rows, read at a row and a column, is `Layer.layerRow` of that row of the staged blocks. -/
module

public import proofs.«01_k».proof.Proof.Gen.Kernel3Ideal.Frame
public import proofs.«01_k».proof.Proof.Spec
public import Idealize.ShloMosaic.Lib.Pipeline.ValueKit

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen Cert.Layer

/-- The output projection of row `r`. -/
theorem pay2_at (a : Vec Ideal S256x512 .f32) (w : Vec Ideal S512x1024 .bf16) (c : Vec Ideal S256x512 .bf16)
    (w' : Vec Ideal S512x1024 .bf16) (r : Fin 256) (l : Fin 1024) :
    k0_pay2 (F := Ideal) a w c w' (ix2 r l)
      = (∑ k : Fin 512, (show EReal from a (ix2 r k)) * (show EReal from w (ix2 k l)))
        + ∑ k : Fin 512, (show EReal from c (ix2 r k)) * (show EReal from w' (ix2 k l)) := by
  pointwise [k0_pay2]

/-- The same of the second group of rows. -/
theorem pay3_at (a : Vec Ideal S256x512 .f32) (w : Vec Ideal S512x1024 .bf16) (c : Vec Ideal S256x512 .bf16)
    (w' : Vec Ideal S512x1024 .bf16) (r : Fin 256) (l : Fin 1024) :
    k0_pay3 (F := Ideal) a w c w' (ix2 r l)
      = (∑ k : Fin 512, (show EReal from a (ix2 r k)) * (show EReal from w (ix2 k l)))
        + ∑ k : Fin 512, (show EReal from c (ix2 r k)) * (show EReal from w' (ix2 k l)) := by
  pointwise [k0_pay3]

/-- The factor of the first normalization. -/
theorem pay6_at (a : Vec Ideal S256x512 .f32) (w : Vec Ideal S512x1024 .bf16) (c : Vec Ideal S256x512 .bf16)
    (w' : Vec Ideal S512x1024 .bf16) (r : Fin 256) :
    k0_pay6 (F := Ideal) a w c w' (ix2 r 0)
      = Ideal.rsqrt (Ideal.div (∑ k, k0_pay2 (F := Ideal) a w c w' (ix2 r k) * k0_pay2 (F := Ideal) a w c w' (ix2 r k)) len1024
          + Ideal.ofBits .f32 0x358637BD#32) := by
  pointwise [k0_pay6]

/-- The first residual connection. -/
theorem pay7_at (v x : FVec Ideal S256x1024 .f32) (g : FVec Ideal S1x1024 .f32) (s : FVec Ideal S256x1 .f32)
    (r : Fin 256) (l : Fin 1024) :
    k0_pay7 (F := Ideal) v (k0_pay4 x) (k0_pay5 g) s (ix2 r l)
      = x (ix2 r l) + v (ix2 r l) * s (ix2 r 0) * g (ix2 0 l) := by
  pointwise [k0_pay7, k0_pay4, k0_pay5]

/-- The feed-forward's input. -/
theorem pay8_at (v x : FVec Ideal S256x1024 .f32) (g : FVec Ideal S1x1024 .f32) (s : FVec Ideal S256x1 .f32)
    (g' : Vec Ideal S1x1024 .f32) (r : Fin 256) (l : Fin 1024) :
    k0_pay8 (F := Ideal) v x g s g' (ix2 r l)
      = rms len1024 (fun k => k0_pay7 (F := Ideal) v x g s (ix2 r k)) (fun k => g' (ix2 0 k)) l := by
  pointwise [k0_pay8, rms]

/-- The second group's first residual connection. -/
theorem pay11_at (v : FVec Ideal S256x1024 .f32) (x : Vec Ideal S256x1024 .f32) (g : Vec Ideal S1x1024 .f32)
    (r : Fin 256) (l : Fin 1024) :
    k0_pay11 (F := Ideal) v x g (ix2 r l)
      = (show EReal from x (ix2 r l)) + rms len1024 (fun k => v (ix2 r k)) (fun k => g (ix2 0 k)) l := by
  pointwise [k0_pay11, rms]

/-- The second group's feed-forward input. -/
theorem pay12_at (v : FVec Ideal S256x1024 .f32) (x : Vec Ideal S256x1024 .f32) (g g' : Vec Ideal S1x1024 .f32)
    (r : Fin 256) (l : Fin 1024) :
    k0_pay12 (F := Ideal) v x g g' (ix2 r l)
      = rms len1024 (fun k => k0_pay11 (F := Ideal) v x g (ix2 r k)) (fun k => g' (ix2 0 k)) l := by
  pointwise [k0_pay12, rms]

/-- One chunk of hidden units and its share of the feed-forward's result. -/
def chunk (h : Fin 1024 → EReal) (u d : Vec Ideal S1024x1024 .bf16) (l : Fin 1024) : EReal :=
  ∑ k : Fin 1024, max (∑ i, h i * (show EReal from u (ix2 i k))) 0 * max (∑ i, h i * (show EReal from u (ix2 i k))) 0
    * (show EReal from d (ix2 k l))

/-- A chunk of hidden units, as a part of the whole feed-forward. -/
theorem chunk_eq (h : Fin 1024 → EReal) (u d : Vec Ideal S1024x1024 .bf16) (U : Fin 1024 → Fin 4096 → EReal)
    (D : Fin 4096 → Fin 1024 → EReal) (e : Fin 1024 → Fin 4096)
    (hu : ∀ i k, (show EReal from u (ix2 i k)) = U i (e k)) (hd : ∀ k l, (show EReal from d (ix2 k l)) = D (e k) l)
    (l : Fin 1024) : chunk h u d l = ∑ k : Fin 1024, act h U (e k) * D (e k) l := by
  unfold chunk act
  simp only [hu, hd]

/-- The first two chunks, first group of rows. -/
theorem pay9_at (v x : FVec Ideal S256x1024 .f32) (g : FVec Ideal S1x1024 .f32) (s : FVec Ideal S256x1 .f32)
    (g' : Vec Ideal S1x1024 .f32) (u₀ d₀ u₁ d₁ : Vec Ideal S1024x1024 .bf16) (r : Fin 256) (l : Fin 1024) :
    k0_pay9 (F := Ideal) v x g s g' u₀ d₀ u₁ d₁ (ix2 r l)
      = chunk (fun k => k0_pay8 (F := Ideal) v x g s g' (ix2 r k)) u₀ d₀ l
        + chunk (fun k => k0_pay8 (F := Ideal) v x g s g' (ix2 r k)) u₁ d₁ l := by
  pointwise [k0_pay9, chunk]

/-- The last two chunks and the second residual connection, first group of rows. -/
theorem pay10_at (v : FVec Ideal S256x1024 .f32) (h : FVec Ideal S256x1024 .bf16) (f : FVec Ideal S256x1024 .f32)
    (u₂ d₂ u₃ d₃ : Vec Ideal S1024x1024 .bf16) (g : Vec Ideal S1x1024 .f32) (r : Fin 256) (l : Fin 1024) :
    k0_pay10 (F := Ideal) v h f u₂ d₂ u₃ d₃ g (ix2 r l)
      = v (ix2 r l)
        + rms len1024 (fun k => f (ix2 r k) + chunk (fun i => h (ix2 r i)) u₂ d₂ k + chunk (fun i => h (ix2 r i)) u₃ d₃ k)
            (fun k => g (ix2 0 k)) l := by
  pointwise [k0_pay10, rms, chunk]

/-- The second group's four chunks. -/
theorem pay15_at (v : FVec Ideal S256x1024 .f32) (x : Vec Ideal S256x1024 .f32) (g g' : Vec Ideal S1x1024 .f32)
    (u₀ d₀ u₁ d₁ u₂ d₂ u₃ d₃ : Vec Ideal S1024x1024 .bf16) (r : Fin 256) (l : Fin 1024) :
    k0_pay15 (F := Ideal) (k0_pay12 v x g g') (k0_pay13 v x g g' u₀) (k0_pay14 d₀) (constant S256x1024 .f32 0x00000000#32)
        u₁ d₁ u₂ d₂ u₃ d₃ (ix2 r l)
      = chunk (fun k => k0_pay12 (F := Ideal) v x g g' (ix2 r k)) u₀ d₀ l
        + chunk (fun k => k0_pay12 (F := Ideal) v x g g' (ix2 r k)) u₁ d₁ l
        + chunk (fun k => k0_pay12 (F := Ideal) v x g g' (ix2 r k)) u₂ d₂ l
        + chunk (fun k => k0_pay12 (F := Ideal) v x g g' (ix2 r k)) u₃ d₃ l := by
  pointwise [k0_pay15, k0_pay13, k0_pay14, chunk]

/-- The second group's second residual connection. -/
theorem pay1_at (v f : FVec Ideal S256x1024 .f32) (g : Vec Ideal S1x1024 .f32) (r : Fin 256) (l : Fin 1024) :
    k0_pay1 (F := Ideal) v f (k0_pay16 g) (mulf f f) (ix2 r l)
      = v (ix2 r l) + rms len1024 (fun k => f (ix2 r k)) (fun k => g (ix2 0 k)) l := by
  pointwise [k0_pay1, k0_pay16, rms]

section Groups

variable (a : Vec Ideal S256x512 .f32) (w : Vec Ideal S512x1024 .bf16) (c : Vec Ideal S256x512 .bf16)
  (w' : Vec Ideal S512x1024 .bf16) (x : Vec Ideal S256x1024 .f32) (g g' g'' : Vec Ideal S1x1024 .f32)
  (u₀ d₀ u₁ d₁ u₂ d₂ u₃ d₃ : Vec Ideal S1024x1024 .bf16)
  (W : Fin 1024 → Fin 1024 → EReal) (U : Fin 1024 → Fin 4096 → EReal) (D : Fin 4096 → Fin 1024 → EReal)
  (hw : ∀ k l, (show EReal from w (ix2 k l)) = W ⟨k.val, by omega⟩ l)
  (hw' : ∀ k l, (show EReal from w' (ix2 k l)) = W ⟨512 + k.val, by omega⟩ l)
  (hu₀ : ∀ i k, (show EReal from u₀ (ix2 i k)) = U i ⟨k.val, by omega⟩)
  (hd₀ : ∀ k l, (show EReal from d₀ (ix2 k l)) = D ⟨k.val, by omega⟩ l)
  (hu₁ : ∀ i k, (show EReal from u₁ (ix2 i k)) = U i ⟨1024 + k.val, by omega⟩)
  (hd₁ : ∀ k l, (show EReal from d₁ (ix2 k l)) = D ⟨1024 + k.val, by omega⟩ l)
  (hu₂ : ∀ i k, (show EReal from u₂ (ix2 i k)) = U i ⟨2048 + k.val, by omega⟩)
  (hd₂ : ∀ k l, (show EReal from d₂ (ix2 k l)) = D ⟨2048 + k.val, by omega⟩ l)
  (hu₃ : ∀ i k, (show EReal from u₃ (ix2 i k)) = U i ⟨3072 + k.val, by omega⟩)
  (hd₃ : ∀ k l, (show EReal from d₃ (ix2 k l)) = D ⟨3072 + k.val, by omega⟩ l)

include hw hw' hu₀ hd₀ hu₁ hd₁ hu₂ hd₂ hu₃ hd₃

/-- The first group of rows. -/
theorem group0 (r : Fin 256) (l : Fin 1024) :
    k0_pay10 (F := Ideal) (k0_pay7 (k0_pay2 a w c w') (k0_pay4 x) (k0_pay5 g) (k0_pay6 a w c w'))
        (k0_pay8 (k0_pay2 a w c w') (k0_pay4 x) (k0_pay5 g) (k0_pay6 a w c w') g')
        (k0_pay9 (k0_pay2 a w c w') (k0_pay4 x) (k0_pay5 g) (k0_pay6 a w c w') g' u₀ d₀ u₁ d₁) u₂ d₂ u₃ d₃ g'' (ix2 r l)
      = layerRow (fun k => x (ix2 r k)) (fun k => a (ix2 r k)) (fun k => c (ix2 r k)) W (fun k => g (ix2 0 k))
          (fun k => g' (ix2 0 k)) U D (fun k => g'' (ix2 0 k)) l := by
  rw [pay10_at]
  simp only [pay9_at, pay8_at, pay7_at, pay6_at, pay2_at]
  simp only [chunk_eq _ u₀ d₀ U D _ hu₀ hd₀, chunk_eq _ u₁ d₁ U D _ hu₁ hd₁, chunk_eq _ u₂ d₂ U D _ hu₂ hd₂,
    chunk_eq _ u₃ d₃ U D _ hu₃ hd₃, hw, hw']
  unfold layerRow
  simp only [← feed_chunks]
  rfl

/-- The second group of rows. -/
theorem group1 (r : Fin 256) (l : Fin 1024) :
    k0_pay1 (F := Ideal) (k0_pay11 (k0_pay3 a w c w') x g)
        (k0_pay15 (k0_pay12 (k0_pay3 a w c w') x g g') (k0_pay13 (k0_pay3 a w c w') x g g' u₀) (k0_pay14 d₀)
          (constant S256x1024 .f32 0x00000000#32) u₁ d₁ u₂ d₂ u₃ d₃)
        (k0_pay16 g'')
        (k0_pay17 (k0_pay12 (k0_pay3 a w c w') x g g') (k0_pay13 (k0_pay3 a w c w') x g g' u₀) (k0_pay14 d₀)
          (constant S256x1024 .f32 0x00000000#32) u₁ d₁ u₂ d₂ u₃ d₃) (ix2 r l)
      = layerRow (fun k => x (ix2 r k)) (fun k => a (ix2 r k)) (fun k => c (ix2 r k)) W (fun k => g (ix2 0 k))
          (fun k => g' (ix2 0 k)) U D (fun k => g'' (ix2 0 k)) l := by
  refine (pay1_at _ _ _ r l).trans ?_
  simp only [pay15_at, pay12_at, pay11_at, pay3_at]
  simp only [chunk_eq _ u₀ d₀ U D _ hu₀ hd₀, chunk_eq _ u₁ d₁ U D _ hu₁ hd₁, chunk_eq _ u₂ d₂ U D _ hu₂ hd₂,
    chunk_eq _ u₃ d₃ U D _ hu₃ hd₃, hw, hw']
  unfold layerRow
  simp only [← feed_chunks]
  rfl

end Groups

variable (x0 : Vec Ideal S512x1024 .f32) (x1 : Vec Ideal S512x512 .f32) (x2 : Vec Ideal S512x512 .bf16)
  (x3 : Vec Ideal S1024x1024 .bf16) (x4 x5 : Vec Ideal S1x1024 .f32) (x6 : Vec Ideal S1024x4096 .bf16)
  (x7 : Vec Ideal S4096x1024 .bf16) (x8 : Vec Ideal S1x1024 .f32)

/-- The stored block at row `r`. -/
theorem block_at (y : S512x1024.Idx) :
    out0_9 x0 x1 x2 x3 x4 x5 x6 x7 x8 y
      = layerRow (fun k => x0 (ix2 (y 0) k)) (fun k => x1 (ix2 (y 0) k)) (fun k => x2 (ix2 (y 0) k))
          (fun k l => x3 (ix2 k l)) (fun k => x4 (ix2 0 k)) (fun k => x5 (ix2 0 k)) (fun k l => x6 (ix2 k l))
          (fun k l => x7 (ix2 k l)) (fun k => x8 (ix2 0 k)) (y 1) := by
  unfold_out out0_9
  canon_tiles x h
  case piece0 =>
    idx_vars x
    refine (group1 _ _ _ _ _ _ _ _ _ _ _ _ _ _ _ _ (fun k l => x3 (ix2 k l)) (fun k l => x6 (ix2 k l))
      (fun k l => x7 (ix2 k l)) ?_ ?_ ?_ ?_ ?_ ?_ ?_ ?_ ?_ ?_ _ _).trans ?_
    all_goals first | (intro i k; pointwise; done) | skip
    congr 1
    all_goals first
      | (funext k; pointwise; blk_ext; done)
      | (funext k; pointwise; done)
      | (apply Fin.ext; simpa using h1.symm)
  case piece1 =>
    idx_vars x
    refine (group0 _ _ _ _ _ _ _ _ _ _ _ _ _ _ _ _ (fun k l => x3 (ix2 k l)) (fun k l => x6 (ix2 k l))
      (fun k l => x7 (ix2 k l)) ?_ ?_ ?_ ?_ ?_ ?_ ?_ ?_ ?_ ?_ _ _).trans ?_
    all_goals first | (intro i k; pointwise; done) | skip
    congr 1
    all_goals first
      | (funext k; pointwise; blk_ext; done)
      | (funext k; pointwise; done)
      | (apply Fin.ext; simpa using h1.symm)

end Cert.Kernel3Ideal.Ffn

end
-- ==== Proof.NewPostArray.lean ====
/- The new tokens' result array after the run: row `i` is `Layer.layerRow` of row `i` of the arguments. -/
module

public import proofs.«01_k».proof.Proof.NewPost
public import Idealize.ShloMosaic.Lib.Claim

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen Cert.Layer

variable (m : (ℓ : Loc nD τ sig) → Buf (Elt Ideal) ℓ) (c : Dev nD)

abbrev a0 : FVec Ideal S128x4x1024 .f32 := m ((c : Thread nD τ).loc main_arg0)
abbrev a1 : FVec Ideal S512x512 .f32 := m ((c : Thread nD τ).loc main_arg1)
abbrev a2 : FVec Ideal S512x512 .bf16 := m ((c : Thread nD τ).loc main_arg2)
abbrev a3 : FVec Ideal S1x1024x1024 .f32 := m ((c : Thread nD τ).loc main_arg3)
abbrev a4 : FVec Ideal S1x1024 .f32 := m ((c : Thread nD τ).loc main_arg4)
abbrev a5 : FVec Ideal S1x1024 .f32 := m ((c : Thread nD τ).loc main_arg5)
abbrev a6 : FVec Ideal S1x1024x4096 .f32 := m ((c : Thread nD τ).loc main_arg6)
abbrev a7 : FVec Ideal S1x4096x1024 .f32 := m ((c : Thread nD τ).loc main_arg7)
abbrev a8 : FVec Ideal S1x1024 .f32 := m ((c : Thread nD τ).loc main_arg8)

/-- Where each window stands at the one point: every array is whole. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- Row `i` of the layer's input: step `i / 128` of sequence `i % 128`. -/
def input (i : Fin 512) (k : Fin 1024) : EReal := a0 m c (ix3 ⟨i.val % 128, by omega⟩ ⟨i.val / 128, by omega⟩ k)

theorem V_x : (V m c main_v1 : FVec Ideal S512x1024 .f32)
    = shapeCast S512x1024 (transpose S4x128x1024 [1, 0, 2] (a0 m c) transposes_S128x4x1024_S4x128x1024_1_0_2)
        shapeCasts_S4x128x1024_S512x1024 := by
  show StableHlo.after _ _ _ = _
  unfold hostOps0
  after_results
  rfl

theorem blk0 (t : Fin cfg0.N) (r : Fin 512) (l : Fin 1024) :
    (iblk m c 0 t : FVec Ideal S512x1024 .f32) (ix2 r l) = input m c r l := by
  refine Eq.trans (b := (V m c main_v1 : FVec Ideal S512x1024 .f32) (ix2 r l)) ?_ ?_
  · blk_ext [iblk, idx t]
  · rw [V_x]; pointwise [input]

theorem blk1 (t : Fin cfg0.N) (r : Fin 512) (l : Fin 512) :
    (iblk m c 1 t : FVec Ideal S512x512 .f32) (ix2 r l) = a1 m c (ix2 r l) := by
  blk_ext [iblk, V, idx t]

theorem blk2 (t : Fin cfg0.N) (r : Fin 512) (l : Fin 512) :
    (iblk m c 2 t : FVec Ideal S512x512 .bf16) (ix2 r l) = a2 m c (ix2 r l) := by
  blk_ext [iblk, V, idx t]

theorem V_w : (V m c main_v3 : FVec Ideal S1024x1024 .bf16)
    = truncf .bf16 (show FVec Ideal S1024x1024 .f32 from shapeCast S1024x1024 (a3 m c) shapeCasts_S1x1024x1024_S1024x1024) bitsLt_bf16_f32 := by
  show StableHlo.after _ _ _ = _
  unfold hostOps0
  after_results
  rfl

theorem blk3 (t : Fin cfg0.N) (k l : Fin 1024) :
    (iblk m c 3 t : FVec Ideal S1024x1024 .bf16) (ix2 k l) = a3 m c (ix3 0 k l) := by
  refine Eq.trans (b := (V m c main_v3 : FVec Ideal S1024x1024 .bf16) (ix2 k l)) ?_ ?_
  · blk_ext [iblk, idx t]
  · rw [V_w]; pointwise

theorem V_g : (V m c main_v5 : FVec Ideal S1x1024 .f32)
      = broadcastInDim S1x1024 ![1] bcast_S1024_S1x1024_1 (shapeCast S1024 (a4 m c) shapeCasts_S1x1024_S1024)
    ∧ (V m c main_v7 : FVec Ideal S1x1024 .f32)
      = broadcastInDim S1x1024 ![1] bcast_S1024_S1x1024_1 (shapeCast S1024 (a5 m c) shapeCasts_S1x1024_S1024)
    ∧ (V m c main_v13 : FVec Ideal S1x1024 .f32)
      = broadcastInDim S1x1024 ![1] bcast_S1024_S1x1024_1 (shapeCast S1024 (a8 m c) shapeCasts_S1x1024_S1024) := by
  refine ⟨?_, ?_, ?_⟩
  all_goals
    show StableHlo.after _ _ _ = _
    unfold hostOps0
    after_results
    rfl

theorem blk4 (t : Fin cfg0.N) (l : Fin 1024) : (iblk m c 4 t : FVec Ideal S1x1024 .f32) (ix2 0 l) = a4 m c (ix2 0 l) := by
  refine Eq.trans (b := (V m c main_v5 : FVec Ideal S1x1024 .f32) (ix2 0 l)) ?_ ?_
  · blk_ext [iblk, idx t]
  · rw [(V_g m c).1]; pointwise

theorem blk5 (t : Fin cfg0.N) (l : Fin 1024) : (iblk m c 5 t : FVec Ideal S1x1024 .f32) (ix2 0 l) = a5 m c (ix2 0 l) := by
  refine Eq.trans (b := (V m c main_v7 : FVec Ideal S1x1024 .f32) (ix2 0 l)) ?_ ?_
  · blk_ext [iblk, idx t]
  · rw [(V_g m c).2.1]; pointwise

theorem blk8 (t : Fin cfg0.N) (l : Fin 1024) : (iblk m c 8 t : FVec Ideal S1x1024 .f32) (ix2 0 l) = a8 m c (ix2 0 l) := by
  refine Eq.trans (b := (V m c main_v13 : FVec Ideal S1x1024 .f32) (ix2 0 l)) ?_ ?_
  · blk_ext [iblk, idx t]
  · rw [(V_g m c).2.2]; pointwise

theorem V_up : (V m c main_v9 : FVec Ideal S1024x4096 .bf16)
    = truncf .bf16 (show FVec Ideal S1024x4096 .f32 from shapeCast S1024x4096 (a6 m c) shapeCasts_S1x1024x4096_S1024x4096) bitsLt_bf16_f32 := by
  show StableHlo.after _ _ _ = _
  unfold hostOps0
  after_results
  rfl

theorem blk6 (t : Fin cfg0.N) (k : Fin 1024) (l : Fin 4096) :
    (iblk m c 6 t : FVec Ideal S1024x4096 .bf16) (ix2 k l) = a6 m c (ix3 0 k l) := by
  refine Eq.trans (b := (V m c main_v9 : FVec Ideal S1024x4096 .bf16) (ix2 k l)) ?_ ?_
  · blk_ext [iblk, idx t]
  · rw [V_up]; pointwise

theorem V_down : (V m c main_v11 : FVec Ideal S4096x1024 .bf16)
    = truncf .bf16 (show FVec Ideal S4096x1024 .f32 from shapeCast S4096x1024 (a7 m c) shapeCasts_S1x4096x1024_S4096x1024) bitsLt_bf16_f32 := by
  show StableHlo.after _ _ _ = _
  unfold hostOps0
  after_results
  rfl

theorem blk7 (t : Fin cfg0.N) (k : Fin 4096) (l : Fin 1024) :
    (iblk m c 7 t : FVec Ideal S4096x1024 .bf16) (ix2 k l) = a7 m c (ix3 0 k l) := by
  refine Eq.trans (b := (V m c main_v11 : FVec Ideal S4096x1024 .bf16) (ix2 k l)) ?_ ?_
  · blk_ext [iblk, idx t]
  · rw [V_down]; pointwise

/-- Row `i`, column `l` of the result, from the arguments. -/
def row (i : Fin 512) (l : Fin 1024) : EReal :=
  layerRow (input m c i) (fun k => a1 m c (ix2 i k)) (fun k => a2 m c (ix2 i k)) (fun k l => a3 m c (ix3 0 k l))
    (fun k => a4 m c (ix2 0 k)) (fun k => a5 m c (ix2 0 k)) (fun k l => a6 m c (ix3 0 k l))
    (fun k l => a7 m c (ix3 0 k l)) (fun k => a8 m c (ix2 0 k)) l

/-- The result array. -/
theorem final (G : FVec Ideal S512x1024 .f32) (hG : ∀ i l, G (ix2 i l) = row m c i l) :
    (dats m 0 c).arrAt 9 cfg0.N = G := by
  refine (dats m 0 c).arrAt_eq_of_covers 9 _ (by decide +kernel) fun t _ y => ?_
  blk_simp
  rw [after0_9, block_at]
  idx_vars y
  refine Eq.trans ?_ ((hG y0 y1).symm.trans ?_)
  · exact layerRow_congr (fun k => blk0 m c t y0 k) (fun k => blk1 m c t y0 k) (fun k => blk2 m c t y0 k)
      (fun k l => blk3 m c t k l) (fun k => blk4 m c t k) (fun k => blk5 m c t k) (fun k l => blk6 m c t k l)
      (fun k l => blk7 m c t k l) (fun k => blk8 m c t k) y1
  · blk_ext [idx t]

end Cert.Kernel3Ideal.Ffn

end
-- ==== Proof.NewPostRef.lean ====
/- What the reference computes for the new tokens after the two mixers: row `i` (step `i / 128` of sequence `i % 128`) is
   `Layer.layerRow` of that row of the arguments. -/
module

public import proofs.«01_k».proof.Proof.Gen.Reference3Ideal.Run
public import proofs.«01_k».proof.Proof.Spec
public import Idealize.ShloMosaic.Lib.Tactic.CleanTypes

@[expose] public section

set_option maxRecDepth 16384

noncomputable section

namespace Cert.Reference3Ideal.Ffn

open Idealize.ShloMosaic Idealize.ShloMosaic.TcCoe Idealize.SL.Sem
open Cert.Reference3Ideal Cert.Reference3Ideal.Gen Cert.Reference3Ideal.Value Cert.Layer

variable (m : (ℓ : Loc nD τ sig) → Buf (Elt Ideal) ℓ) (c : Dev nD)

abbrev b0 : FVec Ideal S128x4x1024 .f32 := m ((c : Thread nD τ).loc main_arg0)
abbrev b1 : FVec Ideal S512x512 .f32 := m ((c : Thread nD τ).loc main_arg1)
abbrev b2 : FVec Ideal S512x512 .bf16 := m ((c : Thread nD τ).loc main_arg2)
abbrev b3 : FVec Ideal S1x1024x1024 .f32 := m ((c : Thread nD τ).loc main_arg3)
abbrev b4 : FVec Ideal S1x1024 .f32 := m ((c : Thread nD τ).loc main_arg4)
abbrev b5 : FVec Ideal S1x1024 .f32 := m ((c : Thread nD τ).loc main_arg5)
abbrev b6 : FVec Ideal S1x1024x4096 .f32 := m ((c : Thread nD τ).loc main_arg6)
abbrev b7 : FVec Ideal S1x4096x1024 .f32 := m ((c : Thread nD τ).loc main_arg7)
abbrev b8 : FVec Ideal S1x1024 .f32 := m ((c : Thread nD τ).loc main_arg8)

/-- The rows of `v` normalized and scaled, as the reference's operations. -/
def normed (v : FVec Ideal S512x1024 .f32) (g : FVec Ideal S1x1024 .f32) : FVec Ideal S512x1024 .f32 :=
  mulf (mulf v (broadcastInDim S512x1024 ![0, 1] bcast_S512x1_S512x1024_0_1 (Host.rsqrt (addf (Host.divf
    (broadcastInDim S512x1 ![0] bcast_S512_S512x1_0 (Host.reduceAdd (mulf v v) (constant S_ .f32 0x00000000#32)
      reducesTo_S512x1024_S512_d1 h_S_)) (broadcastInDim S512x1 ![] bcast_S_S512x1 (constant S_ .f32 0x44800000#32)))
    (broadcastInDim S512x1 ![] bcast_S_S512x1 (constant S_ .f32 0x358637BD#32))))))
    (broadcastInDim S512x1024 ![0, 1] bcast_S1x1024_S512x1024_0_1 (broadcastInDim S1x1024 ![1] bcast_S1024_S1x1024_1
      (shapeCast S1024 g shapeCasts_S1x1024_S1024)))

theorem normed_at (v : FVec Ideal S512x1024 .f32) (g : FVec Ideal S1x1024 .f32) (i : Fin 512) (l : Fin 1024) :
    normed v g (ix2 i l) = rms len1024 (fun k => v (ix2 i k)) (fun k => g (ix2 0 k)) l := by
  pointwise [normed, rms]

/-- The two mixers' outputs against the output matrix. -/
def mix : FVec Ideal S512x1024 .f32 :=
  Host.dotGeneral dot_S512x1024_S1024x1024_S512x1024_1_0_0_1_n_n none
    (concatenate S512x1024 1 [⟨S512x512, b1 m c⟩, ⟨S512x512, extf .f32 (b2 m c) bitsLt_bf16_f32⟩]
      concatenates_S512x512_S512x512_S512x1024_d1) (shapeCast S1024x1024 (b3 m c) shapeCasts_S1x1024x1024_S1024x1024)

theorem mix_at (i : Fin 512) (l : Fin 1024) : mix m c (ix2 i l)
    = mixed (fun k => b1 m c (ix2 i k)) (fun k => b2 m c (ix2 i k)) (fun k l => b3 m c (ix3 0 k l)) l := by
  pointwise [mix, mixed]

/-- The rows after the first residual connection. -/
def half : FVec Ideal S512x1024 .f32 :=
  addf (shapeCast S512x1024 (transpose S4x128x1024 [1, 0, 2] (b0 m c) transposes_S128x4x1024_S4x128x1024_1_0_2)
    shapeCasts_S4x128x1024_S512x1024) (normed (mix m c) (b4 m c))

/-- Row `i` of the layer's input. -/
def input (i : Fin 512) (k : Fin 1024) : EReal := b0 m c (ix3 ⟨i.val % 128, by omega⟩ ⟨i.val / 128, by omega⟩ k)

theorem half_at (i : Fin 512) (l : Fin 1024) : half m c (ix2 i l)
    = mid (input m c i) (fun k => b1 m c (ix2 i k)) (fun k => b2 m c (ix2 i k)) (fun k l => b3 m c (ix3 0 k l))
        (fun k => b4 m c (ix2 0 k)) l := by
  unfold mid
  rw [show mixed _ _ _ = fun l => _ from funext fun l => (mix_at m c i l).symm]
  unfold half
  refine (congrArg (_ + ·) (normed_at _ _ i l)).trans ?_
  pointwise [input]

/-- The feed-forward. -/
def ffn : FVec Ideal S512x1024 .f32 :=
  Host.dotGeneral dot_S512x4096_S4096x1024_S512x1024_1_0_0_1_n_n none
    (mulf
      (maximumf (Host.dotGeneral dot_S512x1024_S1024x4096_S512x4096_1_0_0_1_n_n none (normed (half m c) (b5 m c))
        (shapeCast S1024x4096 (b6 m c) shapeCasts_S1x1024x4096_S1024x4096))
        (broadcastInDim S512x4096 ![] bcast_S_S512x4096 (constant S_ .f32 0x00000000#32)))
      (maximumf (Host.dotGeneral dot_S512x1024_S1024x4096_S512x4096_1_0_0_1_n_n none (normed (half m c) (b5 m c))
        (shapeCast S1024x4096 (b6 m c) shapeCasts_S1x1024x4096_S1024x4096))
        (broadcastInDim S512x4096 ![] bcast_S_S512x4096 (constant S_ .f32 0x00000000#32))))
    (shapeCast S4096x1024 (b7 m c) shapeCasts_S1x4096x1024_S4096x1024)

theorem ffn_at (i : Fin 512) (l : Fin 1024) : ffn m c (ix2 i l)
    = feed (rms len1024 (fun l => half m c (ix2 i l)) (fun k => b5 m c (ix2 0 k))) (fun k l => b6 m c (ix3 0 k l))
        (fun k l => b7 m c (ix3 0 k l)) l := by
  rw [show rms len1024 (fun l => half m c (ix2 i l)) (fun k => b5 m c (ix2 0 k)) = fun l => _
    from funext fun l => (normed_at _ _ i l).symm]
  pointwise [ffn, feed, act]

/-- Row `i`, column `l` of the result, from the arguments. -/
def row (i : Fin 512) (l : Fin 1024) : EReal :=
  layerRow (input m c i) (fun k => b1 m c (ix2 i k)) (fun k => b2 m c (ix2 i k)) (fun k l => b3 m c (ix3 0 k l))
    (fun k => b4 m c (ix2 0 k)) (fun k => b5 m c (ix2 0 k)) (fun k l => b6 m c (ix3 0 k l))
    (fun k l => b7 m c (ix3 0 k l)) (fun k => b8 m c (ix2 0 k)) l

theorem result_eq : res_out0 m c = addf (half m c) (normed (ffn m c) (b8 m c)) := rfl

/-- The new tokens' result. -/
theorem result_at (i : Fin 512) (l : Fin 1024) : (res_out0 m c : FVec Ideal S512x1024 .f32) (ix2 i l) = row m c i l := by
  rw [result_eq]
  unfold row layerRow
  rw [show mid _ _ _ _ _ = fun l => _ from funext fun l => (half_at m c i l).symm]
  rw [show feed _ _ _ = fun l => _ from funext fun l => (ffn_at m c i l).symm]
  rw [← normed_at]
  rfl

end Cert.Reference3Ideal.Ffn

end
-- ==== Proof.NewPostAlgebra.lean ====
/- The new tokens' result is the reference's, and the reference's frame. -/
module

public import proofs.«01_k».proof.Defs
public import proofs.«01_k».proof.Proof.NewPostArray
public import proofs.«01_k».proof.Proof.NewPostRef
public import proofs.«01_k».proof.Proof.Gen.Kernel3Ideal.Value

@[expose] public section

set_option maxRecDepth 16384

noncomputable section

namespace Cert.NewPost

open Idealize.ShloMosaic Idealize.ShloMosaic.TcCoe Idealize.SL.Sem
open Cert.Kernel3Ideal Cert.Kernel3Ideal.Gen

/-- The idealized kernel's result is the reference's. -/
theorem algebraic : Cert.algebraic_Kernel3Ideal_Reference3Ideal (hKernel3Ideal := Cert.Kernel3Ideal.Gen.facts)
    (hReference3Ideal := Cert.Reference3Ideal.Gen.facts) := by
  intro m g m' g' _ agree
  refine ⟨fun c => (dats m 0 c).arrAt 9 cfg0.N, Cert.Kernel3Ideal.Value.run_blocks (F := Ideal) m g, ?_⟩
  refine (θ_run _ _ _).mono (fun r h c => ?_) (Cert.Reference3Ideal.Value.run (F := Ideal) m' g')
  obtain ⟨h0, h1, h2, h3, h4, h5, h6, h7, h8⟩ := agree c
  obtain ⟨hy, kept⟩ := h c
  refine ⟨hy.trans (Cert.Kernel3Ideal.Ffn.final m c _ fun i l => ?_).symm, kept⟩
  refine (Cert.Reference3Ideal.Ffn.result_at m' c i l).trans ?_
  unfold Cert.Reference3Ideal.Ffn.row Cert.Kernel3Ideal.Ffn.row Cert.Reference3Ideal.Ffn.input Cert.Kernel3Ideal.Ffn.input
  rw [show Cert.Reference3Ideal.Ffn.b0 m' c = Cert.Kernel3Ideal.Ffn.a0 m c from h0,
    show Cert.Reference3Ideal.Ffn.b1 m' c = Cert.Kernel3Ideal.Ffn.a1 m c from h1,
    show Cert.Reference3Ideal.Ffn.b2 m' c = Cert.Kernel3Ideal.Ffn.a2 m c from h2,
    show Cert.Reference3Ideal.Ffn.b3 m' c = Cert.Kernel3Ideal.Ffn.a3 m c from h3,
    show Cert.Reference3Ideal.Ffn.b4 m' c = Cert.Kernel3Ideal.Ffn.a4 m c from h4,
    show Cert.Reference3Ideal.Ffn.b5 m' c = Cert.Kernel3Ideal.Ffn.a5 m c from h5,
    show Cert.Reference3Ideal.Ffn.b6 m' c = Cert.Kernel3Ideal.Ffn.a6 m c from h6,
    show Cert.Reference3Ideal.Ffn.b7 m' c = Cert.Kernel3Ideal.Ffn.a7 m c from h7,
    show Cert.Reference3Ideal.Ffn.b8 m' c = Cert.Kernel3Ideal.Ffn.a8 m c from h8]

/-- The idealized reference runs, and leaves its arguments. -/
theorem reference_frame : Cert.quiescent_Reference3Ideal (hReference3Ideal := Cert.Reference3Ideal.Gen.facts) :=
  fun m ρ _ => (θ_run (Cert.Reference3Ideal.defs (F := Ideal)) _ _).mono
    (fun r h => ⟨fun c => (h c).2, Idealize.ShloMosaic.sem_eq_zero_of_no_sems (by decide) r.2⟩)
    (Cert.Reference3Ideal.Value.run (F := Ideal) m ρ)

end Cert.NewPost

end
-- ==== Proof.lean ====
/- The certificate: for each of the three calls the frames of the kernel, of the idealized kernel and of the idealized
   reference, and the equality of the results; and the one named constant of the first call. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Algebra
public import proofs.«01_k».proof.Proof.Gen.Kernel2
public import proofs.«01_k».proof.Proof.Gen.Kernel2Ideal
public import proofs.«01_k».proof.Proof.Gen.Reference2Ideal
public import proofs.«01_k».proof.Proof.PromptAlgebra
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.NewPostAlgebra
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.facts,
    fun m ρ _ => Cert.Kernel.Gen.frame m ρ,
    fun m ρ _ => Cert.KernelIdeal.Gen.frame m ρ,
    fun m ρ _ => Cert.KernelIdeal.Gen.frame m ρ,
    Cert.Results.reference_frame,
    fun m ρ _ => Cert.Results.reference_frame m ρ trivial,
    Cert.PromptProj.frame,
    Cert.PromptProj.ideal_frame,
    Cert.PromptProj.reference_frame,
    fun m ρ _ => Cert.Kernel3.Gen.frame m ρ,
    fun m ρ _ => Cert.Kernel3Ideal.Gen.frame m ρ,
    Cert.NewPost.reference_frame,
    IdealRules.named_const.statement Cert.KernelIdeal.κ "mask" .f32 0xF149F2CA#32 ⊥ rfl,
    Cert.Results.algebraic,
    trivial,
    Cert.PromptProj.algebraic,
    trivial,
    Cert.NewPost.algebraic⟩

end Cert.Proof

end
